-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_unit_cube [hPre_in_unit_cube : Cert.Pre_in_unit_cube.Facts] (m : (ℓ : Loc Cert.KernelIdeal.nD Cert.KernelIdeal.τ Cert.KernelIdeal.sig) → Buf (Elt Ideal) ℓ) : Prop :=
  ∀ c : Dev Cert.KernelIdeal.nD,
    (Cert.Pre_in_unit_cube.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_unit_cube [hPre_in_unit_cube : Cert.Pre_in_unit_cube.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_unit_cube.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_unit_cube [hKernelIdeal : Cert.KernelIdeal.Facts] [hPre_in_unit_cube : Cert.Pre_in_unit_cube.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_unit_cube m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_unit_cube [hReferenceIdeal : Cert.ReferenceIdeal.Facts] [hPre_in_unit_cube : Cert.Pre_in_unit_cube.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_unit_cube m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_in_unit_cube [hKernelIdeal : Cert.KernelIdeal.Facts] [hReferenceIdeal : Cert.ReferenceIdeal.Facts] [hPre_in_unit_cube : Cert.Pre_in_unit_cube.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_unit_cube m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_unit_cube : Cert.Pre_in_unit_cube.Facts),
    quiescent_Kernel (hKernel := hKernel)
    ∧ quiescent_KernelIdeal (hKernelIdeal := hKernelIdeal)
    ∧ quiescent_KernelIdeal_pre_in_unit_cube (hKernelIdeal := hKernelIdeal) (hPre_in_unit_cube := hPre_in_unit_cube)
    ∧ quiescent_ReferenceIdeal (hReferenceIdeal := hReferenceIdeal)
    ∧ quiescent_ReferenceIdeal_pre_in_unit_cube (hReferenceIdeal := hReferenceIdeal) (hPre_in_unit_cube := hPre_in_unit_cube)
    ∧ preserves_Kernel_KernelIdeal
    ∧ algebraic_KernelIdeal_ReferenceIdeal_pre_in_unit_cube (hKernelIdeal := hKernelIdeal) (hReferenceIdeal := hReferenceIdeal) (hPre_in_unit_cube := hPre_in_unit_cube)
-- ==== Pre_in_unit_cube.lean ====
abbrev S131072x3 : Shape := ⟨2, ![131072, 3]⟩
abbrev S16x524288x2 : Shape := ⟨3, ![16, 524288, 2]⟩
abbrev S32x64 : Shape := ⟨2, ![32, 64]⟩
abbrev S64 : Shape := ⟨1, ![64]⟩
abbrev S64x16 : Shape := ⟨2, ![64, 16]⟩
abbrev S16 : Shape := ⟨1, ![16]⟩
abbrev S42x64 : Shape := ⟨2, ![42, 64]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S131072x3 : S_.BroadcastsInDim S131072x3 (![] : Fin 0 → Fin S131072x3.rank)

variable [Facts]

def fn {F : FTy → Type} [FloatOps F] (main_arg0 : FVec F S131072x3 .f32) (main_arg1 : FVec F S131072x3 .f32) (main_arg2 : FVec F S16x524288x2 .f32) (main_arg3 : FVec F S32x64 .f32) (main_arg4 : FVec F S64 .f32) (main_arg5 : FVec F S64x16 .f32) (main_arg6 : FVec F S16 .f32) (main_arg7 : FVec F S42x64 .f32) (main_arg8 : FVec F S64 .f32) (main_arg9 : FVec F S64x64 .f32) (main_arg10 : FVec F S64 .f32) (main_arg11 : FVec F S64x3 .f32) (main_arg12 : FVec F S3 .f32) : IVec S131072x3 1 :=
  let main_cst : FVec F S_ .f32 := constant S_ .f32 0x00000000#32
  let main_v0 : FVec F S131072x3 .f32 := broadcastInDim S131072x3 ![] bcast_S_S131072x3 main_cst
  let main_v1 : IVec S131072x3 1 := cmpf .oge main_arg0 main_v0
  let main_cst_0 : FVec F S_ .f32 := constant S_ .f32 0x3F800000#32
  let main_v2 : FVec F S131072x3 .f32 := broadcastInDim S131072x3 ![] bcast_S_S131072x3 main_cst_0
  let main_v3 : IVec S131072x3 1 := cmpf .ole main_arg0 main_v2
  let main_v4 : IVec S131072x3 1 := andi main_v1 main_v3
  main_v4
-- ==== Kernel.lean ====
abbrev S131072x3 : Shape := ⟨2, ![131072, 3]⟩
abbrev S16x524288x2 : Shape := ⟨3, ![16, 524288, 2]⟩
abbrev S32x64 : Shape := ⟨2, ![32, 64]⟩
abbrev S64 : Shape := ⟨1, ![64]⟩
abbrev S64x16 : Shape := ⟨2, ![64, 16]⟩
abbrev S16 : Shape := ⟨1, ![16]⟩
abbrev S42x64 : Shape := ⟨2, ![42, 64]⟩
abbrev S64x64 : Shape := ⟨2, ![64, 64]⟩
abbrev S64x3 : Shape := ⟨2, ![64, 3]⟩
abbrev S3 : Shape := ⟨1, ![3]⟩
abbrev S3x131072 : Shape := ⟨2, ![3, 131072]⟩
abbrev S16777216 : Shape := ⟨1, ![16777216]⟩
abbrev S32x131072 : Shape := ⟨2, ![32, 131072]⟩
abbrev S3x128 : Shape := ⟨2, ![3, 128]⟩
abbrev S2048 : Shape := ⟨1, ![2048]⟩
abbrev S32x128 : Shape := ⟨2, ![32, 128]⟩
abbrev S_ : Shape := ⟨0, ![]⟩
abbrev S1x16 : Shape := ⟨2, ![1, 16]⟩
abbrev S128 : Shape := ⟨1, ![128]⟩
abbrev S1x64 : Shape := ⟨2, ![1, 64]⟩
abbrev S15x64 : Shape := ⟨2, ![15, 64]⟩
abbrev S16x64 : Shape := ⟨2, ![16, 64]⟩
abbrev S27x64 : Shape := ⟨2, ![27, 64]⟩
abbrev S1x3 : Shape := ⟨2, ![1, 3]⟩
abbrev S131072x1 : Shape := ⟨2, ![131072, 1]⟩
abbrev S32x1024 : Shape := ⟨2, ![32, 1024]⟩
abbrev S1024x3 : Shape := ⟨2, ![1024, 3]⟩
abbrev S1024x1 : Shape := ⟨2, ![1024, 1]⟩
abbrev S1024x64 : Shape := ⟨2, ![1024, 64]⟩
abbrev S1024x16 : Shape := ⟨2, ![1024, 16]⟩
abbrev S3x64 : Shape := ⟨2, ![3, 64]⟩
abbrev S131072 : Shape := ⟨1, ![131072]⟩

abbrev nBuf : Table → Nat
  | .hbm => 29
  | .local .tc .vmem => 19
  | .local .scVector .vmem => 6
  | _ => 0

abbrev bufTy : (tb : Table) → Fin (nBuf tb) → BufTy
  | .hbm, ⟨0, _⟩ => ⟨S131072x3, .f32⟩
  | .hbm, ⟨1, _⟩ => ⟨S131072x3, .f32⟩
  | .hbm, ⟨2, _⟩ => ⟨S16x524288x2, .f32⟩
  | .hbm, ⟨3, _⟩ => ⟨S32x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S42x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x3, .f32⟩
  | .hbm, ⟨12, _⟩ => ⟨S3, .f32⟩
  | .hbm, ⟨13, _⟩ => ⟨S3x131072, .f32⟩
  | .hbm, ⟨14, _⟩ => ⟨S16777216, .f32⟩
  | .hbm, ⟨15, _⟩ => ⟨S32x131072, .f32⟩
  | .hbm, ⟨16, _⟩ => ⟨S_, .f32⟩
  | .hbm, ⟨17, _⟩ => ⟨S1x64, .f32⟩
  | .hbm, ⟨18, _⟩ => ⟨S15x64, .f32⟩
  | .hbm, ⟨19, _⟩ => ⟨S16x64, .f32⟩
  | .hbm, ⟨20, _⟩ => ⟨S1x64, .f32⟩
  | .hbm, ⟨21, _⟩ => ⟨S1x16, .f32⟩
  | .hbm, ⟨22, _⟩ => ⟨S27x64, .f32⟩
  | .hbm, ⟨23, _⟩ => ⟨S1x64, .f32⟩
  | .hbm, ⟨24, _⟩ => ⟨S1x64, .f32⟩
  | .hbm, ⟨25, _⟩ => ⟨S1x3, .f32⟩
  | .hbm, ⟨26, _⟩ => ⟨S131072x1, .f32⟩
  | .hbm, ⟨27, _⟩ => ⟨S131072x3, .f32⟩
  | .hbm, ⟨28, _⟩ => ⟨S131072, .f32⟩
  | .local .tc .vmem, ⟨0, _⟩ => ⟨S32x1024, .f32⟩
  | .local .tc .vmem, ⟨1, _⟩ => ⟨S32x1024, .f32⟩
  | .local .tc .vmem, ⟨2, _⟩ => ⟨S1024x3, .f32⟩
  | .local .tc .vmem, ⟨3, _⟩ => ⟨S1024x3, .f32⟩
  | .local .tc .vmem, ⟨4, _⟩ => ⟨S32x64, .f32⟩
  | .local .tc .vmem, ⟨5, _⟩ => ⟨S1x64, .f32⟩
  | .local .tc .vmem, ⟨6, _⟩ => ⟨S64x16, .f32⟩
  | .local .tc .vmem, ⟨7, _⟩ => ⟨S1x16, .f32⟩
  | .local .tc .vmem, ⟨8, _⟩ => ⟨S27x64, .f32⟩
  | .local .tc .vmem, ⟨9, _⟩ => ⟨S16x64, .f32⟩
  | .local .tc .vmem, ⟨10, _⟩ => ⟨S1x64, .f32⟩
  | .local .tc .vmem, ⟨11, _⟩ => ⟨S64x64, .f32⟩
  | .local .tc .vmem, ⟨12, _⟩ => ⟨S1x64, .f32⟩
  | .local .tc .vmem, ⟨13, _⟩ => ⟨S64x3, .f32⟩
  | .local .tc .vmem, ⟨14, _⟩ => ⟨S1x3, .f32⟩
  | .local .tc .vmem, ⟨15, _⟩ => ⟨S1024x1, .f32⟩
  | .local .tc .vmem, ⟨16, _⟩ => ⟨S1024x1, .f32⟩
  | .local .tc .vmem, ⟨17, _⟩ => ⟨S1024x3, .f32⟩
  | .local .tc .vmem, ⟨18, _⟩ => ⟨S1024x3, .f32⟩
  | .local .scVector .vmem, ⟨0, _⟩ => ⟨S3x128, .f32⟩
  | .local .scVector .vmem, ⟨1, _⟩ => ⟨S2048, .i32⟩
  | .local .scVector .vmem, ⟨2, _⟩ => ⟨S2048, .i32⟩
  | .local .scVector .vmem, ⟨3, _⟩ => ⟨S2048, .f32⟩
  | .local .scVector .vmem, ⟨4, _⟩ => ⟨S2048, .f32⟩
  | .local .scVector .vmem, ⟨5, _⟩ => ⟨S32x128, .f32⟩
  | _, _ => ⟨S131072x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v13 : Ref sig .tc := ⟨.hbm, 28, rfl⟩
abbrev main_v0_scv : Ref sig .scVector := ⟨.hbm, 13, rfl⟩
abbrev main_v1_scv : Ref sig .scVector := ⟨.hbm, 14, rfl⟩
abbrev main_v2_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg13_1 : Ref sig .tc := ⟨.vmem, 16, rfl⟩
abbrev cc1_stg14_0 : Ref sig .tc := ⟨.vmem, 17, rfl⟩
abbrev cc1_stg14_1 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem13_1 : DmaSem sig := 20
abbrev cc1_sem14_0 : DmaSem sig := 21
abbrev cc1_sem14_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_off1 (i : grid0.Coords) (k0_t1 : Fin k0_t1_loop.trips) : Fin 2 → Nat :=
  let c0_i32_1650_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v3 : BitVec 32 := Scalar.muli v1 c4096_i32
  let c0_i32 : BitVec 32 := 0#32
  let c1_i32 : BitVec 32 := 1#32
  let arg13 : BitVec 32 := Scf.iv c0_i32 c1_i32 k0_t1
  let c128_i32 : BitVec 32 := 128#32
  let v4 : BitVec 32 := Scalar.muli arg13 c128_i32
  let v5 : BitVec 32 := Scalar.addi v3 v4
  ![0, v5.toNat]
@[reducible] def k0_t2_loop : Scf.Loop 32 :=
  let c0_i32_1 : BitVec 32 := 0#32
  let c8_i32 : BitVec 32 := 8#32
  let v6 : BitVec 32 := Scalar.addi c0_i32_1 c8_i32
  let c1_i32_2 : BitVec 32 := 1#32
  ⟨c0_i32_1, v6, c1_i32_2⟩
def k0_off2 (k0_t2 : Fin k0_t2_loop.trips) : Fin 2 → Nat :=
  let c0_i32_1650 : BitVec 32 := 0#32
  let v1575 : Index := Scalar.indexCast c0_i32_1650
  let c0_i32_1 : BitVec 32 := 0#32
  let c1_i32_2 : BitVec 32 := 1#32
  let arg14 : BitVec 32 := Scf.iv c0_i32_1 c1_i32_2 k0_t2
  let c16_i32 : BitVec 32 := 16#32
  let v1574 : BitVec 32 := Scalar.muli arg14 c16_i32
  let v1576 : Index := Scalar.indexCast v1574
  ![0, v1576.toNat]
def k0_off3 (k0_t2 : Fin k0_t2_loop.trips) : Fin 2 → Nat :=
  let c1_i32_1651 : BitVec 32 := 1#32
  let v1579 : Index := Scalar.indexCast c1_i32_1651
  let c0_i32_1 : BitVec 32 := 0#32
  let c1_i32_2 : BitVec 32 := 1#32
  let arg14 : BitVec 32 := Scf.iv c0_i32_1 c1_i32_2 k0_t2
  let c16_i32 : BitVec 32 := 16#32
  let v1574 : BitVec 32 := Scalar.muli arg14 c16_i32
  let v1580 : Index := Scalar.indexCast v1574
  ![1, v1580.toNat]
def k0_off4 (k0_t2 : Fin k0_t2_loop.trips) : Fin 2 → Nat :=
  let c2_i32_1652 : BitVec 32 := 2#32
  let v1583 : Index := Scalar.indexCast c2_i32_1652
  let c0_i32_1 : BitVec 32 := 0#32
  let c1_i32_2 : BitVec 32 := 1#32
  let arg14 : BitVec 32 := Scf.iv c0_i32_1 c1_i32_2 k0_t2
  let c16_i32 : BitVec 32 := 16#32
  let v1574 : BitVec 32 := Scalar.muli arg14 c16_i32
  let v1584 : Index := Scalar.indexCast v1574
  ![2, v1584.toNat]
def k0_off5 (k0_t2 : Fin k0_t2_loop.trips) (c0_i32_1661 : BitVec 32) : Fin 1 → Nat :=
  let c0_i32_1 : BitVec 32 := 0#32
  let c1_i32_2 : BitVec 32 := 1#32
  let arg14 : BitVec 32 := Scf.iv c0_i32_1 c1_i32_2 k0_t2
  let c128_i32_1658 : BitVec 32 := 128#32
  let v1624 : BitVec 32 := Scalar.muli arg14 c128_i32_1658
  let v1631 : BitVec 32 := Scalar.addi v1624 c0_i32_1661
  let v1632 : Index := Scalar.indexCast v1631
  ![v1632.toNat]
def k0_off6 (k0_t2 : Fin k0_t2_loop.trips) (c0_i32_1664 : BitVec 32) : Fin 1 → Nat :=
  let c1024_i32_1663 : BitVec 32 := 1024#32
  let c0_i32_1 : BitVec 32 := 0#32
  let c1_i32_2 : BitVec 32 := 1#32
  let arg14 : BitVec 32 := Scf.iv c0_i32_1 c1_i32_2 k0_t2
  let c128_i32_1658 : BitVec 32 := 128#32
  let v1624 : BitVec 32 := Scalar.muli arg14 c128_i32_1658
  let v1638 : BitVec 32 := Scalar.addi c1024_i32_1663 v1624
  let v1639 : BitVec 32 := Scalar.addi v1638 c0_i32_1664
  let v1640 : Index := Scalar.indexCast v1639
  ![v1640.toNat]
@[reducible] def k0_t3_loop : Scf.Loop 32 :=
  let c0_i32_38 : BitVec 32 := 0#32
  let c8_i32_39 : BitVec 32 := 8#32
  let v55 : BitVec 32 := Scalar.addi c0_i32_38 c8_i32_39
  let c1_i32_40 : BitVec 32 := 1#32
  ⟨c0_i32_38, v55, c1_i32_40⟩
def k0_off7 (k0_t3 : Fin k0_t3_loop.trips) : Fin 2 → Nat :=
  let c0_i32_1650 : BitVec 32 := 0#32
  let v1575 : Index := Scalar.indexCast c0_i32_1650
  let c0_i32_38 : BitVec 32 := 0#32
  let c1_i32_40 : BitVec 32 := 1#32
  let arg14 : BitVec 32 := Scf.iv c0_i32_38 c1_i32_40 k0_t3
  let c16_i32 : BitVec 32 := 16#32
  let v1574 : BitVec 32 := Scalar.muli arg14 c16_i32
  let v1576 : Index := Scalar.indexCast v1574
  ![0, v1576.toNat]
def k0_off8 (k0_t3 : Fin k0_t3_loop.trips) : Fin 2 → Nat :=
  let c1_i32_1651 : BitVec 32 := 1#32
  let v1579 : Index := Scalar.indexCast c1_i32_1651
  let c0_i32_38 : BitVec 32 := 0#32
  let c1_i32_40 : BitVec 32 := 1#32
  let arg14 : BitVec 32 := Scf.iv c0_i32_38 c1_i32_40 k0_t3
  let c16_i32 : BitVec 32 := 16#32
  let v1574 : BitVec 32 := Scalar.muli arg14 c16_i32
  let v1580 : Index := Scalar.indexCast v1574
  ![1, v1580.toNat]
def k0_off9 (k0_t3 : Fin k0_t3_loop.trips) : Fin 2 → Nat :=
  let c2_i32_1652 : BitVec 32 := 2#32
  let v1583 : Index := Scalar.indexCast c2_i32_1652
  let c0_i32_38 : BitVec 32 := 0#32
  let c1_i32_40 : BitVec 32 := 1#32
  let arg14 : BitVec 32 := Scf.iv c0_i32_38 c1_i32_40 k0_t3
  let c16_i32 : BitVec 32 := 16#32
  let v1574 : BitVec 32 := Scalar.muli arg14 c16_i32
  let v1584 : Index := Scalar.indexCast v1574
  ![2, v1584.toNat]
def k0_off10 (k0_t3 : Fin k0_t3_loop.trips) (c0_i32_1660 : BitVec 32) : Fin 1 → Nat :=
  let c0_i32_38 : BitVec 32 := 0#32
  let c1_i32_40 : BitVec 32 := 1#32
  let arg14 : BitVec 32 := Scf.iv c0_i32_38 c1_i32_40 k0_t3
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off11 (k0_t3 : Fin k0_t3_loop.trips) (c0_i32_1663 : BitVec 32) : Fin 1 → Nat :=
  let c1024_i32_1662 : BitVec 32 := 1024#32
  let c0_i32_38 : BitVec 32 := 0#32
  let c1_i32_40 : BitVec 32 := 1#32
  let arg14 : BitVec 32 := Scf.iv c0_i32_38 c1_i32_40 k0_t3
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t4_loop : Scf.Loop 32 :=
  let c0_i32_138 : BitVec 32 := 0#32
  let c8_i32_139 : BitVec 32 := 8#32
  let v152 : BitVec 32 := Scalar.addi c0_i32_138 c8_i32_139
  let c1_i32_140 : BitVec 32 := 1#32
  ⟨c0_i32_138, v152, c1_i32_140⟩
def k0_off12 (k0_t4 : Fin k0_t4_loop.trips) : Fin 2 → Nat :=
  let c0_i32_1650 : BitVec 32 := 0#32
  let v1575 : Index := Scalar.indexCast c0_i32_1650
  let c0_i32_138 : BitVec 32 := 0#32
  let c1_i32_140 : BitVec 32 := 1#32
  let arg14 : BitVec 32 := Scf.iv c0_i32_138 c1_i32_140 k0_t4
  let c16_i32 : BitVec 32 := 16#32
  let v1574 : BitVec 32 := Scalar.muli arg14 c16_i32
  let v1576 : Index := Scalar.indexCast v1574
  ![0, v1576.toNat]
def k0_off13 (k0_t4 : Fin k0_t4_loop.trips) : Fin 2 → Nat :=
  let c1_i32_1651 : BitVec 32 := 1#32
  let v1579 : Index := Scalar.indexCast c1_i32_1651
  let c0_i32_138 : BitVec 32 := 0#32
  let c1_i32_140 : BitVec 32 := 1#32
  let arg14 : BitVec 32 := Scf.iv c0_i32_138 c1_i32_140 k0_t4
  let c16_i32 : BitVec 32 := 16#32
  let v1574 : BitVec 32 := Scalar.muli arg14 c16_i32
  let v1580 : Index := Scalar.indexCast v1574
  ![1, v1580.toNat]
def k0_off14 (k0_t4 : Fin k0_t4_loop.trips) : Fin 2 → Nat :=
  let c2_i32_1652 : BitVec 32 := 2#32
  let v1583 : Index := Scalar.indexCast c2_i32_1652
  let c0_i32_138 : BitVec 32 := 0#32
  let c1_i32_140 : BitVec 32 := 1#32
  let arg14 : BitVec 32 := Scf.iv c0_i32_138 c1_i32_140 k0_t4
  let c16_i32 : BitVec 32 := 16#32
  let v1574 : BitVec 32 := Scalar.muli arg14 c16_i32
  let v1584 : Index := Scalar.indexCast v1574
  ![2, v1584.toNat]
def k0_off15 (k0_t4 : Fin k0_t4_loop.trips) (c0_i32_1661 : BitVec 32) : Fin 1 → Nat :=
  let c0_i32_138 : BitVec 32 := 0#32
  let c1_i32_140 : BitVec 32 := 1#32
  let arg14 : BitVec 32 := Scf.iv c0_i32_138 c1_i32_140 k0_t4
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off16 (k0_t4 : Fin k0_t4_loop.trips) (c0_i32_1663 : BitVec 32) : Fin 1 → Nat :=
  let c1024_i32_1662 : BitVec 32 := 1024#32
  let c0_i32_138 : BitVec 32 := 0#32
  let c1_i32_140 : BitVec 32 := 1#32
  let arg14 : BitVec 32 := Scf.iv c0_i32_138 c1_i32_140 k0_t4
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off17 (k0_t4 : Fin k0_t4_loop.trips) : Fin 2 → Nat :=
  let c0_i32_1681 : BitVec 32 := 0#32
  let v1728 : Index := Scalar.indexCast c0_i32_1681
  let c0_i32_138 : BitVec 32 := 0#32
  let c1_i32_140 : BitVec 32 := 1#32
  let arg14 : BitVec 32 := Scf.iv c0_i32_138 c1_i32_140 k0_t4
  let c16_i32_1680 : BitVec 32 := 16#32
  let v1727 : BitVec 32 := Scalar.muli arg14 c16_i32_1680
  let v1729 : Index := Scalar.indexCast v1727
  ![0, v1729.toNat]
def k0_off18 (k0_t4 : Fin k0_t4_loop.trips) : Fin 2 → Nat :=
  let c1_i32_1683 : BitVec 32 := 1#32
  let v1734 : Index := Scalar.indexCast c1_i32_1683
  let c0_i32_138 : BitVec 32 := 0#32
  let c1_i32_140 : BitVec 32 := 1#32
  let arg14 : BitVec 32 := Scf.iv c0_i32_138 c1_i32_140 k0_t4
  let c16_i32_1682 : BitVec 32 := 16#32
  let v1733 : BitVec 32 := Scalar.muli arg14 c16_i32_1682
  let v1735 : Index := Scalar.indexCast v1733
  ![1, v1735.toNat]
@[reducible] def k0_t5_loop : Scf.Loop 32 :=
  let c0_i32_142 : BitVec 32 := 0#32
  let c8_i32_143 : BitVec 32 := 8#32
  let v153 : BitVec 32 := Scalar.addi c0_i32_142 c8_i32_143
  let c1_i32_144 : BitVec 32 := 1#32
  ⟨c0_i32_142, v153, c1_i32_144⟩
def k0_off19 (k0_t5 : Fin k0_t5_loop.trips) : Fin 2 → Nat :=
  let c0_i32_1650 : BitVec 32 := 0#32
  let v1575 : Index := Scalar.indexCast c0_i32_1650
  let c0_i32_142 : BitVec 32 := 0#32
  let c1_i32_144 : BitVec 32 := 1#32
  let arg14 : BitVec 32 := Scf.iv c0_i32_142 c1_i32_144 k0_t5
  let c16_i32 : BitVec 32 := 16#32
  let v1574 : BitVec 32 := Scalar.muli arg14 c16_i32
  let v1576 : Index := Scalar.indexCast v1574
  ![0, v1576.toNat]
def k0_off20 (k0_t5 : Fin k0_t5_loop.trips) : Fin 2 → Nat :=
  let c1_i32_1651 : BitVec 32 := 1#32
  let v1579 : Index := Scalar.indexCast c1_i32_1651
  let c0_i32_142 : BitVec 32 := 0#32
  let c1_i32_144 : BitVec 32 := 1#32
  let arg14 : BitVec 32 := Scf.iv c0_i32_142 c1_i32_144 k0_t5
  let c16_i32 : BitVec 32 := 16#32
  let v1574 : BitVec 32 := Scalar.muli arg14 c16_i32
  let v1580 : Index := Scalar.indexCast v1574
  ![1, v1580.toNat]
def k0_off21 (k0_t5 : Fin k0_t5_loop.trips) : Fin 2 → Nat :=
  let c2_i32_1652 : BitVec 32 := 2#32
  let v1583 : Index := Scalar.indexCast c2_i32_1652
  let c0_i32_142 : BitVec 32 := 0#32
  let c1_i32_144 : BitVec 32 := 1#32
  let arg14 : BitVec 32 := Scf.iv c0_i32_142 c1_i32_144 k0_t5
  let c16_i32 : BitVec 32 := 16#32
  let v1574 : BitVec 32 := Scalar.muli arg14 c16_i32
  let v1584 : Index := Scalar.indexCast v1574
  ![2, v1584.toNat]
def k0_off22 (k0_t5 : Fin k0_t5_loop.trips) (c0_i32_1660 : BitVec 32) : Fin 1 → Nat :=
  let c0_i32_142 : BitVec 32 := 0#32
  let c1_i32_144 : BitVec 32 := 1#32
  let arg14 : BitVec 32 := Scf.iv c0_i32_142 c1_i32_144 k0_t5
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off23 (k0_t5 : Fin k0_t5_loop.trips) (c0_i32_1663 : BitVec 32) : Fin 1 → Nat :=
  let c1024_i32_1662 : BitVec 32 := 1024#32
  let c0_i32_142 : BitVec 32 := 0#32
  let c1_i32_144 : BitVec 32 := 1#32
  let arg14 : BitVec 32 := Scf.iv c0_i32_142 c1_i32_144 k0_t5
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t6_loop : Scf.Loop 32 :=
  let c0_i32_242 : BitVec 32 := 0#32
  let c8_i32_243 : BitVec 32 := 8#32
  let v250 : BitVec 32 := Scalar.addi c0_i32_242 c8_i32_243
  let c1_i32_244 : BitVec 32 := 1#32
  ⟨c0_i32_242, v250, c1_i32_244⟩
def k0_off24 (k0_t6 : Fin k0_t6_loop.trips) : Fin 2 → Nat :=
  let c0_i32_1650 : BitVec 32 := 0#32
  let v1575 : Index := Scalar.indexCast c0_i32_1650
  let c0_i32_242 : BitVec 32 := 0#32
  let c1_i32_244 : BitVec 32 := 1#32
  let arg14 : BitVec 32 := Scf.iv c0_i32_242 c1_i32_244 k0_t6
  let c16_i32 : BitVec 32 := 16#32
  let v1574 : BitVec 32 := Scalar.muli arg14 c16_i32
  let v1576 : Index := Scalar.indexCast v1574
  ![0, v1576.toNat]
def k0_off25 (k0_t6 : Fin k0_t6_loop.trips) : Fin 2 → Nat :=
  let c1_i32_1651 : BitVec 32 := 1#32
  let v1579 : Index := Scalar.indexCast c1_i32_1651
  let c0_i32_242 : BitVec 32 := 0#32
  let c1_i32_244 : BitVec 32 := 1#32
  let arg14 : BitVec 32 := Scf.iv c0_i32_242 c1_i32_244 k0_t6
  let c16_i32 : BitVec 32 := 16#32
  let v1574 : BitVec 32 := Scalar.muli arg14 c16_i32
  let v1580 : Index := Scalar.indexCast v1574
  ![1, v1580.toNat]
def k0_off26 (k0_t6 : Fin k0_t6_loop.trips) : Fin 2 → Nat :=
  let c2_i32_1652 : BitVec 32 := 2#32
  let v1583 : Index := Scalar.indexCast c2_i32_1652
  let c0_i32_242 : BitVec 32 := 0#32
  let c1_i32_244 : BitVec 32 := 1#32
  let arg14 : BitVec 32 := Scf.iv c0_i32_242 c1_i32_244 k0_t6
  let c16_i32 : BitVec 32 := 16#32
  let v1574 : BitVec 32 := Scalar.muli arg14 c16_i32
  let v1584 : Index := Scalar.indexCast v1574
  ![2, v1584.toNat]
def k0_off27 (k0_t6 : Fin k0_t6_loop.trips) (c0_i32_1661 : BitVec 32) : Fin 1 → Nat :=
  let c0_i32_242 : BitVec 32 := 0#32
  let c1_i32_244 : BitVec 32 := 1#32
  let arg14 : BitVec 32 := Scf.iv c0_i32_242 c1_i32_244 k0_t6
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off28 (k0_t6 : Fin k0_t6_loop.trips) (c0_i32_1663 : BitVec 32) : Fin 1 → Nat :=
  let c1024_i32_1662 : BitVec 32 := 1024#32
  let c0_i32_242 : BitVec 32 := 0#32
  let c1_i32_244 : BitVec 32 := 1#32
  let arg14 : BitVec 32 := Scf.iv c0_i32_242 c1_i32_244 k0_t6
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off29 (k0_t6 : Fin k0_t6_loop.trips) : Fin 2 → Nat :=
  let c2_i32_1681 : BitVec 32 := 2#32
  let v1728 : Index := Scalar.indexCast c2_i32_1681
  let c0_i32_242 : BitVec 32 := 0#32
  let c1_i32_244 : BitVec 32 := 1#32
  let arg14 : BitVec 32 := Scf.iv c0_i32_242 c1_i32_244 k0_t6
  let c16_i32_1680 : BitVec 32 := 16#32
  let v1727 : BitVec 32 := Scalar.muli arg14 c16_i32_1680
  let v1729 : Index := Scalar.indexCast v1727
  ![2, v1729.toNat]
def k0_off30 (k0_t6 : Fin k0_t6_loop.trips) : Fin 2 → Nat :=
  let c3_i32 : BitVec 32 := 3#32
  let v1734 : Index := Scalar.indexCast c3_i32
  let c0_i32_242 : BitVec 32 := 0#32
  let c1_i32_244 : BitVec 32 := 1#32
  let arg14 : BitVec 32 := Scf.iv c0_i32_242 c1_i32_244 k0_t6
  let c16_i32_1682 : BitVec 32 := 16#32
  let v1733 : BitVec 32 := Scalar.muli arg14 c16_i32_1682
  let v1735 : Index := Scalar.indexCast v1733
  ![3, v1735.toNat]
@[reducible] def k0_t7_loop : Scf.Loop 32 :=
  let c0_i32_246 : BitVec 32 := 0#32
  let c8_i32_247 : BitVec 32 := 8#32
  let v251 : BitVec 32 := Scalar.addi c0_i32_246 c8_i32_247
  let c1_i32_248 : BitVec 32 := 1#32
  ⟨c0_i32_246, v251, c1_i32_248⟩
def k0_off31 (k0_t7 : Fin k0_t7_loop.trips) : Fin 2 → Nat :=
  let c0_i32_1650 : BitVec 32 := 0#32
  let v1575 : Index := Scalar.indexCast c0_i32_1650
  let c0_i32_246 : BitVec 32 := 0#32
  let c1_i32_248 : BitVec 32 := 1#32
  let arg14 : BitVec 32 := Scf.iv c0_i32_246 c1_i32_248 k0_t7
  let c16_i32 : BitVec 32 := 16#32
  let v1574 : BitVec 32 := Scalar.muli arg14 c16_i32
  let v1576 : Index := Scalar.indexCast v1574
  ![0, v1576.toNat]
def k0_off32 (k0_t7 : Fin k0_t7_loop.trips) : Fin 2 → Nat :=
  let c1_i32_1651 : BitVec 32 := 1#32
  let v1579 : Index := Scalar.indexCast c1_i32_1651
  let c0_i32_246 : BitVec 32 := 0#32
  let c1_i32_248 : BitVec 32 := 1#32
  let arg14 : BitVec 32 := Scf.iv c0_i32_246 c1_i32_248 k0_t7
  let c16_i32 : BitVec 32 := 16#32
  let v1574 : BitVec 32 := Scalar.muli arg14 c16_i32
  let v1580 : Index := Scalar.indexCast v1574
  ![1, v1580.toNat]
def k0_off33 (k0_t7 : Fin k0_t7_loop.trips) : Fin 2 → Nat :=
  let c2_i32_1652 : BitVec 32 := 2#32
  let v1583 : Index := Scalar.indexCast c2_i32_1652
  let c0_i32_246 : BitVec 32 := 0#32
  let c1_i32_248 : BitVec 32 := 1#32
  let arg14 : BitVec 32 := Scf.iv c0_i32_246 c1_i32_248 k0_t7
  let c16_i32 : BitVec 32 := 16#32
  let v1574 : BitVec 32 := Scalar.muli arg14 c16_i32
  let v1584 : Index := Scalar.indexCast v1574
  ![2, v1584.toNat]
def k0_off34 (k0_t7 : Fin k0_t7_loop.trips) (c0_i32_1660 : BitVec 32) : Fin 1 → Nat :=
  let c0_i32_246 : BitVec 32 := 0#32
  let c1_i32_248 : BitVec 32 := 1#32
  let arg14 : BitVec 32 := Scf.iv c0_i32_246 c1_i32_248 k0_t7
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off35 (k0_t7 : Fin k0_t7_loop.trips) (c0_i32_1663 : BitVec 32) : Fin 1 → Nat :=
  let c1024_i32_1662 : BitVec 32 := 1024#32
  let c0_i32_246 : BitVec 32 := 0#32
  let c1_i32_248 : BitVec 32 := 1#32
  let arg14 : BitVec 32 := Scf.iv c0_i32_246 c1_i32_248 k0_t7
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t8_loop : Scf.Loop 32 :=
  let c0_i32_346 : BitVec 32 := 0#32
  let c8_i32_347 : BitVec 32 := 8#32
  let v348 : BitVec 32 := Scalar.addi c0_i32_346 c8_i32_347
  let c1_i32_348 : BitVec 32 := 1#32
  ⟨c0_i32_346, v348, c1_i32_348⟩
def k0_off36 (k0_t8 : Fin k0_t8_loop.trips) : Fin 2 → Nat :=
  let c0_i32_1650 : BitVec 32 := 0#32
  let v1575 : Index := Scalar.indexCast c0_i32_1650
  let c0_i32_346 : BitVec 32 := 0#32
  let c1_i32_348 : BitVec 32 := 1#32
  let arg14 : BitVec 32 := Scf.iv c0_i32_346 c1_i32_348 k0_t8
  let c16_i32 : BitVec 32 := 16#32
  let v1574 : BitVec 32 := Scalar.muli arg14 c16_i32
  let v1576 : Index := Scalar.indexCast v1574
  ![0, v1576.toNat]
def k0_off37 (k0_t8 : Fin k0_t8_loop.trips) : Fin 2 → Nat :=
  let c1_i32_1651 : BitVec 32 := 1#32
  let v1579 : Index := Scalar.indexCast c1_i32_1651
  let c0_i32_346 : BitVec 32 := 0#32
  let c1_i32_348 : BitVec 32 := 1#32
  let arg14 : BitVec 32 := Scf.iv c0_i32_346 c1_i32_348 k0_t8
  let c16_i32 : BitVec 32 := 16#32
  let v1574 : BitVec 32 := Scalar.muli arg14 c16_i32
  let v1580 : Index := Scalar.indexCast v1574
  ![1, v1580.toNat]
def k0_off38 (k0_t8 : Fin k0_t8_loop.trips) : Fin 2 → Nat :=
  let c2_i32_1652 : BitVec 32 := 2#32
  let v1583 : Index := Scalar.indexCast c2_i32_1652
  let c0_i32_346 : BitVec 32 := 0#32
  let c1_i32_348 : BitVec 32 := 1#32
  let arg14 : BitVec 32 := Scf.iv c0_i32_346 c1_i32_348 k0_t8
  let c16_i32 : BitVec 32 := 16#32
  let v1574 : BitVec 32 := Scalar.muli arg14 c16_i32
  let v1584 : Index := Scalar.indexCast v1574
  ![2, v1584.toNat]
def k0_off39 (k0_t8 : Fin k0_t8_loop.trips) (c0_i32_1661 : BitVec 32) : Fin 1 → Nat :=
  let c0_i32_346 : BitVec 32 := 0#32
  let c1_i32_348 : BitVec 32 := 1#32
  let arg14 : BitVec 32 := Scf.iv c0_i32_346 c1_i32_348 k0_t8
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off40 (k0_t8 : Fin k0_t8_loop.trips) (c0_i32_1663 : BitVec 32) : Fin 1 → Nat :=
  let c1024_i32_1662 : BitVec 32 := 1024#32
  let c0_i32_346 : BitVec 32 := 0#32
  let c1_i32_348 : BitVec 32 := 1#32
  let arg14 : BitVec 32 := Scf.iv c0_i32_346 c1_i32_348 k0_t8
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off41 (k0_t8 : Fin k0_t8_loop.trips) : Fin 2 → Nat :=
  let c4_i32 : BitVec 32 := 4#32
  let v1728 : Index := Scalar.indexCast c4_i32
  let c0_i32_346 : BitVec 32 := 0#32
  let c1_i32_348 : BitVec 32 := 1#32
  let arg14 : BitVec 32 := Scf.iv c0_i32_346 c1_i32_348 k0_t8
  let c16_i32_1680 : BitVec 32 := 16#32
  let v1727 : BitVec 32 := Scalar.muli arg14 c16_i32_1680
  let v1729 : Index := Scalar.indexCast v1727
  ![4, v1729.toNat]
def k0_off42 (k0_t8 : Fin k0_t8_loop.trips) : Fin 2 → Nat :=
  let c5_i32 : BitVec 32 := 5#32
  let v1734 : Index := Scalar.indexCast c5_i32
  let c0_i32_346 : BitVec 32 := 0#32
  let c1_i32_348 : BitVec 32 := 1#32
  let arg14 : BitVec 32 := Scf.iv c0_i32_346 c1_i32_348 k0_t8
  let c16_i32_1681 : BitVec 32 := 16#32
  let v1733 : BitVec 32 := Scalar.muli arg14 c16_i32_1681
  let v1735 : Index := Scalar.indexCast v1733
  ![5, v1735.toNat]
@[reducible] def k0_t9_loop : Scf.Loop 32 :=
  let c0_i32_350 : BitVec 32 := 0#32
  let c8_i32_351 : BitVec 32 := 8#32
  let v349 : BitVec 32 := Scalar.addi c0_i32_350 c8_i32_351
  let c1_i32_352 : BitVec 32 := 1#32
  ⟨c0_i32_350, v349, c1_i32_352⟩
def k0_off43 (k0_t9 : Fin k0_t9_loop.trips) : Fin 2 → Nat :=
  let c0_i32_1650 : BitVec 32 := 0#32
  let v1575 : Index := Scalar.indexCast c0_i32_1650
  let c0_i32_350 : BitVec 32 := 0#32
  let c1_i32_352 : BitVec 32 := 1#32
  let arg14 : BitVec 32 := Scf.iv c0_i32_350 c1_i32_352 k0_t9
  let c16_i32 : BitVec 32 := 16#32
  let v1574 : BitVec 32 := Scalar.muli arg14 c16_i32
  let v1576 : Index := Scalar.indexCast v1574
  ![0, v1576.toNat]
def k0_off44 (k0_t9 : Fin k0_t9_loop.trips) : Fin 2 → Nat :=
  let c1_i32_1651 : BitVec 32 := 1#32
  let v1579 : Index := Scalar.indexCast c1_i32_1651
  let c0_i32_350 : BitVec 32 := 0#32
  let c1_i32_352 : BitVec 32 := 1#32
  let arg14 : BitVec 32 := Scf.iv c0_i32_350 c1_i32_352 k0_t9
  let c16_i32 : BitVec 32 := 16#32
  let v1574 : BitVec 32 := Scalar.muli arg14 c16_i32
  let v1580 : Index := Scalar.indexCast v1574
  ![1, v1580.toNat]
def k0_off45 (k0_t9 : Fin k0_t9_loop.trips) : Fin 2 → Nat :=
  let c2_i32_1652 : BitVec 32 := 2#32
  let v1583 : Index := Scalar.indexCast c2_i32_1652
  let c0_i32_350 : BitVec 32 := 0#32
  let c1_i32_352 : BitVec 32 := 1#32
  let arg14 : BitVec 32 := Scf.iv c0_i32_350 c1_i32_352 k0_t9
  let c16_i32 : BitVec 32 := 16#32
  let v1574 : BitVec 32 := Scalar.muli arg14 c16_i32
  let v1584 : Index := Scalar.indexCast v1574
  ![2, v1584.toNat]
def k0_off46 (k0_t9 : Fin k0_t9_loop.trips) (c0_i32_1660 : BitVec 32) : Fin 1 → Nat :=
  let c0_i32_350 : BitVec 32 := 0#32
  let c1_i32_352 : BitVec 32 := 1#32
  let arg14 : BitVec 32 := Scf.iv c0_i32_350 c1_i32_352 k0_t9
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off47 (k0_t9 : Fin k0_t9_loop.trips) (c0_i32_1663 : BitVec 32) : Fin 1 → Nat :=
  let c1024_i32_1662 : BitVec 32 := 1024#32
  let c0_i32_350 : BitVec 32 := 0#32
  let c1_i32_352 : BitVec 32 := 1#32
  let arg14 : BitVec 32 := Scf.iv c0_i32_350 c1_i32_352 k0_t9
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t10_loop : Scf.Loop 32 :=
  let c0_i32_450 : BitVec 32 := 0#32
  let c8_i32_451 : BitVec 32 := 8#32
  let v446 : BitVec 32 := Scalar.addi c0_i32_450 c8_i32_451
  let c1_i32_452 : BitVec 32 := 1#32
  ⟨c0_i32_450, v446, c1_i32_452⟩
def k0_off48 (k0_t10 : Fin k0_t10_loop.trips) : Fin 2 → Nat :=
  let c0_i32_1650 : BitVec 32 := 0#32
  let v1575 : Index := Scalar.indexCast c0_i32_1650
  let c0_i32_450 : BitVec 32 := 0#32
  let c1_i32_452 : BitVec 32 := 1#32
  let arg14 : BitVec 32 := Scf.iv c0_i32_450 c1_i32_452 k0_t10
  let c16_i32 : BitVec 32 := 16#32
  let v1574 : BitVec 32 := Scalar.muli arg14 c16_i32
  let v1576 : Index := Scalar.indexCast v1574
  ![0, v1576.toNat]
def k0_off49 (k0_t10 : Fin k0_t10_loop.trips) : Fin 2 → Nat :=
  let c1_i32_1651 : BitVec 32 := 1#32
  let v1579 : Index := Scalar.indexCast c1_i32_1651
  let c0_i32_450 : BitVec 32 := 0#32
  let c1_i32_452 : BitVec 32 := 1#32
  let arg14 : BitVec 32 := Scf.iv c0_i32_450 c1_i32_452 k0_t10
  let c16_i32 : BitVec 32 := 16#32
  let v1574 : BitVec 32 := Scalar.muli arg14 c16_i32
  let v1580 : Index := Scalar.indexCast v1574
  ![1, v1580.toNat]
def k0_off50 (k0_t10 : Fin k0_t10_loop.trips) : Fin 2 → Nat :=
  let c2_i32_1652 : BitVec 32 := 2#32
  let v1583 : Index := Scalar.indexCast c2_i32_1652
  let c0_i32_450 : BitVec 32 := 0#32
  let c1_i32_452 : BitVec 32 := 1#32
  let arg14 : BitVec 32 := Scf.iv c0_i32_450 c1_i32_452 k0_t10
  let c16_i32 : BitVec 32 := 16#32
  let v1574 : BitVec 32 := Scalar.muli arg14 c16_i32
  let v1584 : Index := Scalar.indexCast v1574
  ![2, v1584.toNat]
def k0_off51 (k0_t10 : Fin k0_t10_loop.trips) (c0_i32_1661 : BitVec 32) : Fin 1 → Nat :=
  let c0_i32_450 : BitVec 32 := 0#32
  let c1_i32_452 : BitVec 32 := 1#32
  let arg14 : BitVec 32 := Scf.iv c0_i32_450 c1_i32_452 k0_t10
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off52 (k0_t10 : Fin k0_t10_loop.trips) (c0_i32_1663 : BitVec 32) : Fin 1 → Nat :=
  let c1024_i32_1662 : BitVec 32 := 1024#32
  let c0_i32_450 : BitVec 32 := 0#32
  let c1_i32_452 : BitVec 32 := 1#32
  let arg14 : BitVec 32 := Scf.iv c0_i32_450 c1_i32_452 k0_t10
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off53 (k0_t10 : Fin k0_t10_loop.trips) : Fin 2 → Nat :=
  let c6_i32 : BitVec 32 := 6#32
  let v1728 : Index := Scalar.indexCast c6_i32
  let c0_i32_450 : BitVec 32 := 0#32
  let c1_i32_452 : BitVec 32 := 1#32
  let arg14 : BitVec 32 := Scf.iv c0_i32_450 c1_i32_452 k0_t10
  let c16_i32_1680 : BitVec 32 := 16#32
  let v1727 : BitVec 32 := Scalar.muli arg14 c16_i32_1680
  let v1729 : Index := Scalar.indexCast v1727
  ![6, v1729.toNat]
def k0_off54 (k0_t10 : Fin k0_t10_loop.trips) : Fin 2 → Nat :=
  let c7_i32 : BitVec 32 := 7#32
  let v1734 : Index := Scalar.indexCast c7_i32
  let c0_i32_450 : BitVec 32 := 0#32
  let c1_i32_452 : BitVec 32 := 1#32
  let arg14 : BitVec 32 := Scf.iv c0_i32_450 c1_i32_452 k0_t10
  let c16_i32_1681 : BitVec 32 := 16#32
  let v1733 : BitVec 32 := Scalar.muli arg14 c16_i32_1681
  let v1735 : Index := Scalar.indexCast v1733
  ![7, v1735.toNat]
@[reducible] def k0_t11_loop : Scf.Loop 32 :=
  let c0_i32_454 : BitVec 32 := 0#32
  let c8_i32_455 : BitVec 32 := 8#32
  let v447 : BitVec 32 := Scalar.addi c0_i32_454 c8_i32_455
  let c1_i32_456 : BitVec 32 := 1#32
  ⟨c0_i32_454, v447, c1_i32_456⟩
def k0_off55 (k0_t11 : Fin k0_t11_loop.trips) : Fin 2 → Nat :=
  let c0_i32_1650 : BitVec 32 := 0#32
  let v1575 : Index := Scalar.indexCast c0_i32_1650
  let c0_i32_454 : BitVec 32 := 0#32
  let c1_i32_456 : BitVec 32 := 1#32
  let arg14 : BitVec 32 := Scf.iv c0_i32_454 c1_i32_456 k0_t11
  let c16_i32 : BitVec 32 := 16#32
  let v1574 : BitVec 32 := Scalar.muli arg14 c16_i32
  let v1576 : Index := Scalar.indexCast v1574
  ![0, v1576.toNat]
def k0_off56 (k0_t11 : Fin k0_t11_loop.trips) : Fin 2 → Nat :=
  let c1_i32_1651 : BitVec 32 := 1#32
  let v1579 : Index := Scalar.indexCast c1_i32_1651
  let c0_i32_454 : BitVec 32 := 0#32
  let c1_i32_456 : BitVec 32 := 1#32
  let arg14 : BitVec 32 := Scf.iv c0_i32_454 c1_i32_456 k0_t11
  let c16_i32 : BitVec 32 := 16#32
  let v1574 : BitVec 32 := Scalar.muli arg14 c16_i32
  let v1580 : Index := Scalar.indexCast v1574
  ![1, v1580.toNat]
def k0_off57 (k0_t11 : Fin k0_t11_loop.trips) : Fin 2 → Nat :=
  let c2_i32_1652 : BitVec 32 := 2#32
  let v1583 : Index := Scalar.indexCast c2_i32_1652
  let c0_i32_454 : BitVec 32 := 0#32
  let c1_i32_456 : BitVec 32 := 1#32
  let arg14 : BitVec 32 := Scf.iv c0_i32_454 c1_i32_456 k0_t11
  let c16_i32 : BitVec 32 := 16#32
  let v1574 : BitVec 32 := Scalar.muli arg14 c16_i32
  let v1584 : Index := Scalar.indexCast v1574
  ![2, v1584.toNat]
def k0_off58 (k0_t11 : Fin k0_t11_loop.trips) (c0_i32_1660 : BitVec 32) : Fin 1 → Nat :=
  let c0_i32_454 : BitVec 32 := 0#32
  let c1_i32_456 : BitVec 32 := 1#32
  let arg14 : BitVec 32 := Scf.iv c0_i32_454 c1_i32_456 k0_t11
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off59 (k0_t11 : Fin k0_t11_loop.trips) (c0_i32_1663 : BitVec 32) : Fin 1 → Nat :=
  let c1024_i32_1662 : BitVec 32 := 1024#32
  let c0_i32_454 : BitVec 32 := 0#32
  let c1_i32_456 : BitVec 32 := 1#32
  let arg14 : BitVec 32 := Scf.iv c0_i32_454 c1_i32_456 k0_t11
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t12_loop : Scf.Loop 32 :=
  let c0_i32_554 : BitVec 32 := 0#32
  let c8_i32_555 : BitVec 32 := 8#32
  let v544 : BitVec 32 := Scalar.addi c0_i32_554 c8_i32_555
  let c1_i32_556 : BitVec 32 := 1#32
  ⟨c0_i32_554, v544, c1_i32_556⟩
def k0_off60 (k0_t12 : Fin k0_t12_loop.trips) : Fin 2 → Nat :=
  let c0_i32_1650 : BitVec 32 := 0#32
  let v1575 : Index := Scalar.indexCast c0_i32_1650
  let c0_i32_554 : BitVec 32 := 0#32
  let c1_i32_556 : BitVec 32 := 1#32
  let arg14 : BitVec 32 := Scf.iv c0_i32_554 c1_i32_556 k0_t12
  let c16_i32 : BitVec 32 := 16#32
  let v1574 : BitVec 32 := Scalar.muli arg14 c16_i32
  let v1576 : Index := Scalar.indexCast v1574
  ![0, v1576.toNat]
def k0_off61 (k0_t12 : Fin k0_t12_loop.trips) : Fin 2 → Nat :=
  let c1_i32_1651 : BitVec 32 := 1#32
  let v1579 : Index := Scalar.indexCast c1_i32_1651
  let c0_i32_554 : BitVec 32 := 0#32
  let c1_i32_556 : BitVec 32 := 1#32
  let arg14 : BitVec 32 := Scf.iv c0_i32_554 c1_i32_556 k0_t12
  let c16_i32 : BitVec 32 := 16#32
  let v1574 : BitVec 32 := Scalar.muli arg14 c16_i32
  let v1580 : Index := Scalar.indexCast v1574
  ![1, v1580.toNat]
def k0_off62 (k0_t12 : Fin k0_t12_loop.trips) : Fin 2 → Nat :=
  let c2_i32_1652 : BitVec 32 := 2#32
  let v1583 : Index := Scalar.indexCast c2_i32_1652
  let c0_i32_554 : BitVec 32 := 0#32
  let c1_i32_556 : BitVec 32 := 1#32
  let arg14 : BitVec 32 := Scf.iv c0_i32_554 c1_i32_556 k0_t12
  let c16_i32 : BitVec 32 := 16#32
  let v1574 : BitVec 32 := Scalar.muli arg14 c16_i32
  let v1584 : Index := Scalar.indexCast v1574
  ![2, v1584.toNat]
def k0_off63 (k0_t12 : Fin k0_t12_loop.trips) (c0_i32_1661 : BitVec 32) : Fin 1 → Nat :=
  let c0_i32_554 : BitVec 32 := 0#32
  let c1_i32_556 : BitVec 32 := 1#32
  let arg14 : BitVec 32 := Scf.iv c0_i32_554 c1_i32_556 k0_t12
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off64 (k0_t12 : Fin k0_t12_loop.trips) (c0_i32_1663 : BitVec 32) : Fin 1 → Nat :=
  let c1024_i32_1662 : BitVec 32 := 1024#32
  let c0_i32_554 : BitVec 32 := 0#32
  let c1_i32_556 : BitVec 32 := 1#32
  let arg14 : BitVec 32 := Scf.iv c0_i32_554 c1_i32_556 k0_t12
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off65 (k0_t12 : Fin k0_t12_loop.trips) : Fin 2 → Nat :=
  let c8_i32_1681 : BitVec 32 := 8#32
  let v1728 : Index := Scalar.indexCast c8_i32_1681
  let c0_i32_554 : BitVec 32 := 0#32
  let c1_i32_556 : BitVec 32 := 1#32
  let arg14 : BitVec 32 := Scf.iv c0_i32_554 c1_i32_556 k0_t12
  let c16_i32_1680 : BitVec 32 := 16#32
  let v1727 : BitVec 32 := Scalar.muli arg14 c16_i32_1680
  let v1729 : Index := Scalar.indexCast v1727
  ![8, v1729.toNat]
def k0_off66 (k0_t12 : Fin k0_t12_loop.trips) : Fin 2 → Nat :=
  let c9_i32 : BitVec 32 := 9#32
  let v1734 : Index := Scalar.indexCast c9_i32
  let c0_i32_554 : BitVec 32 := 0#32
  let c1_i32_556 : BitVec 32 := 1#32
  let arg14 : BitVec 32 := Scf.iv c0_i32_554 c1_i32_556 k0_t12
  let c16_i32_1682 : BitVec 32 := 16#32
  let v1733 : BitVec 32 := Scalar.muli arg14 c16_i32_1682
  let v1735 : Index := Scalar.indexCast v1733
  ![9, v1735.toNat]
@[reducible] def k0_t13_loop : Scf.Loop 32 :=
  let c0_i32_558 : BitVec 32 := 0#32
  let c8_i32_559 : BitVec 32 := 8#32
  let v545 : BitVec 32 := Scalar.addi c0_i32_558 c8_i32_559
  let c1_i32_560 : BitVec 32 := 1#32
  ⟨c0_i32_558, v545, c1_i32_560⟩
def k0_off67 (k0_t13 : Fin k0_t13_loop.trips) : Fin 2 → Nat :=
  let c0_i32_1650 : BitVec 32 := 0#32
  let v1575 : Index := Scalar.indexCast c0_i32_1650
  let c0_i32_558 : BitVec 32 := 0#32
  let c1_i32_560 : BitVec 32 := 1#32
  let arg14 : BitVec 32 := Scf.iv c0_i32_558 c1_i32_560 k0_t13
  let c16_i32 : BitVec 32 := 16#32
  let v1574 : BitVec 32 := Scalar.muli arg14 c16_i32
  let v1576 : Index := Scalar.indexCast v1574
  ![0, v1576.toNat]
def k0_off68 (k0_t13 : Fin k0_t13_loop.trips) : Fin 2 → Nat :=
  let c1_i32_1651 : BitVec 32 := 1#32
  let v1579 : Index := Scalar.indexCast c1_i32_1651
  let c0_i32_558 : BitVec 32 := 0#32
  let c1_i32_560 : BitVec 32 := 1#32
  let arg14 : BitVec 32 := Scf.iv c0_i32_558 c1_i32_560 k0_t13
  let c16_i32 : BitVec 32 := 16#32
  let v1574 : BitVec 32 := Scalar.muli arg14 c16_i32
  let v1580 : Index := Scalar.indexCast v1574
  ![1, v1580.toNat]
def k0_off69 (k0_t13 : Fin k0_t13_loop.trips) : Fin 2 → Nat :=
  let c2_i32_1652 : BitVec 32 := 2#32
  let v1583 : Index := Scalar.indexCast c2_i32_1652
  let c0_i32_558 : BitVec 32 := 0#32
  let c1_i32_560 : BitVec 32 := 1#32
  let arg14 : BitVec 32 := Scf.iv c0_i32_558 c1_i32_560 k0_t13
  let c16_i32 : BitVec 32 := 16#32
  let v1574 : BitVec 32 := Scalar.muli arg14 c16_i32
  let v1584 : Index := Scalar.indexCast v1574
  ![2, v1584.toNat]
def k0_off70 (k0_t13 : Fin k0_t13_loop.trips) (c0_i32_1660 : BitVec 32) : Fin 1 → Nat :=
  let c0_i32_558 : BitVec 32 := 0#32
  let c1_i32_560 : BitVec 32 := 1#32
  let arg14 : BitVec 32 := Scf.iv c0_i32_558 c1_i32_560 k0_t13
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off71 (k0_t13 : Fin k0_t13_loop.trips) (c0_i32_1663 : BitVec 32) : Fin 1 → Nat :=
  let c1024_i32_1662 : BitVec 32 := 1024#32
  let c0_i32_558 : BitVec 32 := 0#32
  let c1_i32_560 : BitVec 32 := 1#32
  let arg14 : BitVec 32 := Scf.iv c0_i32_558 c1_i32_560 k0_t13
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t14_loop : Scf.Loop 32 :=
  let c0_i32_658 : BitVec 32 := 0#32
  let c8_i32_659 : BitVec 32 := 8#32
  let v642 : BitVec 32 := Scalar.addi c0_i32_658 c8_i32_659
  let c1_i32_660 : BitVec 32 := 1#32
  ⟨c0_i32_658, v642, c1_i32_660⟩
def k0_off72 (k0_t14 : Fin k0_t14_loop.trips) : Fin 2 → Nat :=
  let c0_i32_1650 : BitVec 32 := 0#32
  let v1575 : Index := Scalar.indexCast c0_i32_1650
  let c0_i32_658 : BitVec 32 := 0#32
  let c1_i32_660 : BitVec 32 := 1#32
  let arg14 : BitVec 32 := Scf.iv c0_i32_658 c1_i32_660 k0_t14
  let c16_i32 : BitVec 32 := 16#32
  let v1574 : BitVec 32 := Scalar.muli arg14 c16_i32
  let v1576 : Index := Scalar.indexCast v1574
  ![0, v1576.toNat]
def k0_off73 (k0_t14 : Fin k0_t14_loop.trips) : Fin 2 → Nat :=
  let c1_i32_1651 : BitVec 32 := 1#32
  let v1579 : Index := Scalar.indexCast c1_i32_1651
  let c0_i32_658 : BitVec 32 := 0#32
  let c1_i32_660 : BitVec 32 := 1#32
  let arg14 : BitVec 32 := Scf.iv c0_i32_658 c1_i32_660 k0_t14
  let c16_i32 : BitVec 32 := 16#32
  let v1574 : BitVec 32 := Scalar.muli arg14 c16_i32
  let v1580 : Index := Scalar.indexCast v1574
  ![1, v1580.toNat]
def k0_off74 (k0_t14 : Fin k0_t14_loop.trips) : Fin 2 → Nat :=
  let c2_i32_1652 : BitVec 32 := 2#32
  let v1583 : Index := Scalar.indexCast c2_i32_1652
  let c0_i32_658 : BitVec 32 := 0#32
  let c1_i32_660 : BitVec 32 := 1#32
  let arg14 : BitVec 32 := Scf.iv c0_i32_658 c1_i32_660 k0_t14
  let c16_i32 : BitVec 32 := 16#32
  let v1574 : BitVec 32 := Scalar.muli arg14 c16_i32
  let v1584 : Index := Scalar.indexCast v1574
  ![2, v1584.toNat]
def k0_off75 (k0_t14 : Fin k0_t14_loop.trips) (c0_i32_1661 : BitVec 32) : Fin 1 → Nat :=
  let c0_i32_658 : BitVec 32 := 0#32
  let c1_i32_660 : BitVec 32 := 1#32
  let arg14 : BitVec 32 := Scf.iv c0_i32_658 c1_i32_660 k0_t14
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off76 (k0_t14 : Fin k0_t14_loop.trips) (c0_i32_1663 : BitVec 32) : Fin 1 → Nat :=
  let c1024_i32_1662 : BitVec 32 := 1024#32
  let c0_i32_658 : BitVec 32 := 0#32
  let c1_i32_660 : BitVec 32 := 1#32
  let arg14 : BitVec 32 := Scf.iv c0_i32_658 c1_i32_660 k0_t14
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off77 (k0_t14 : Fin k0_t14_loop.trips) : Fin 2 → Nat :=
  let c10_i32 : BitVec 32 := 10#32
  let v1728 : Index := Scalar.indexCast c10_i32
  let c0_i32_658 : BitVec 32 := 0#32
  let c1_i32_660 : BitVec 32 := 1#32
  let arg14 : BitVec 32 := Scf.iv c0_i32_658 c1_i32_660 k0_t14
  let c16_i32_1680 : BitVec 32 := 16#32
  let v1727 : BitVec 32 := Scalar.muli arg14 c16_i32_1680
  let v1729 : Index := Scalar.indexCast v1727
  ![10, v1729.toNat]
def k0_off78 (k0_t14 : Fin k0_t14_loop.trips) : Fin 2 → Nat :=
  let c11_i32 : BitVec 32 := 11#32
  let v1734 : Index := Scalar.indexCast c11_i32
  let c0_i32_658 : BitVec 32 := 0#32
  let c1_i32_660 : BitVec 32 := 1#32
  let arg14 : BitVec 32 := Scf.iv c0_i32_658 c1_i32_660 k0_t14
  let c16_i32_1681 : BitVec 32 := 16#32
  let v1733 : BitVec 32 := Scalar.muli arg14 c16_i32_1681
  let v1735 : Index := Scalar.indexCast v1733
  ![11, v1735.toNat]
@[reducible] def k0_t15_loop : Scf.Loop 32 :=
  let c0_i32_662 : BitVec 32 := 0#32
  let c8_i32_663 : BitVec 32 := 8#32
  let v643 : BitVec 32 := Scalar.addi c0_i32_662 c8_i32_663
  let c1_i32_664 : BitVec 32 := 1#32
  ⟨c0_i32_662, v643, c1_i32_664⟩
def k0_off79 (k0_t15 : Fin k0_t15_loop.trips) : Fin 2 → Nat :=
  let c0_i32_1650 : BitVec 32 := 0#32
  let v1575 : Index := Scalar.indexCast c0_i32_1650
  let c0_i32_662 : BitVec 32 := 0#32
  let c1_i32_664 : BitVec 32 := 1#32
  let arg14 : BitVec 32 := Scf.iv c0_i32_662 c1_i32_664 k0_t15
  let c16_i32 : BitVec 32 := 16#32
  let v1574 : BitVec 32 := Scalar.muli arg14 c16_i32
  let v1576 : Index := Scalar.indexCast v1574
  ![0, v1576.toNat]
def k0_off80 (k0_t15 : Fin k0_t15_loop.trips) : Fin 2 → Nat :=
  let c1_i32_1651 : BitVec 32 := 1#32
  let v1579 : Index := Scalar.indexCast c1_i32_1651
  let c0_i32_662 : BitVec 32 := 0#32
  let c1_i32_664 : BitVec 32 := 1#32
  let arg14 : BitVec 32 := Scf.iv c0_i32_662 c1_i32_664 k0_t15
  let c16_i32 : BitVec 32 := 16#32
  let v1574 : BitVec 32 := Scalar.muli arg14 c16_i32
  let v1580 : Index := Scalar.indexCast v1574
  ![1, v1580.toNat]
def k0_off81 (k0_t15 : Fin k0_t15_loop.trips) : Fin 2 → Nat :=
  let c2_i32_1652 : BitVec 32 := 2#32
  let v1583 : Index := Scalar.indexCast c2_i32_1652
  let c0_i32_662 : BitVec 32 := 0#32
  let c1_i32_664 : BitVec 32 := 1#32
  let arg14 : BitVec 32 := Scf.iv c0_i32_662 c1_i32_664 k0_t15
  let c16_i32 : BitVec 32 := 16#32
  let v1574 : BitVec 32 := Scalar.muli arg14 c16_i32
  let v1584 : Index := Scalar.indexCast v1574
  ![2, v1584.toNat]
def k0_off82 (k0_t15 : Fin k0_t15_loop.trips) (c0_i32_1660 : BitVec 32) : Fin 1 → Nat :=
  let c0_i32_662 : BitVec 32 := 0#32
  let c1_i32_664 : BitVec 32 := 1#32
  let arg14 : BitVec 32 := Scf.iv c0_i32_662 c1_i32_664 k0_t15
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off83 (k0_t15 : Fin k0_t15_loop.trips) (c0_i32_1663 : BitVec 32) : Fin 1 → Nat :=
  let c1024_i32_1662 : BitVec 32 := 1024#32
  let c0_i32_662 : BitVec 32 := 0#32
  let c1_i32_664 : BitVec 32 := 1#32
  let arg14 : BitVec 32 := Scf.iv c0_i32_662 c1_i32_664 k0_t15
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t16_loop : Scf.Loop 32 :=
  let c0_i32_762 : BitVec 32 := 0#32
  let c8_i32_763 : BitVec 32 := 8#32
  let v740 : BitVec 32 := Scalar.addi c0_i32_762 c8_i32_763
  let c1_i32_764 : BitVec 32 := 1#32
  ⟨c0_i32_762, v740, c1_i32_764⟩
def k0_off84 (k0_t16 : Fin k0_t16_loop.trips) : Fin 2 → Nat :=
  let c0_i32_1650 : BitVec 32 := 0#32
  let v1575 : Index := Scalar.indexCast c0_i32_1650
  let c0_i32_762 : BitVec 32 := 0#32
  let c1_i32_764 : BitVec 32 := 1#32
  let arg14 : BitVec 32 := Scf.iv c0_i32_762 c1_i32_764 k0_t16
  let c16_i32 : BitVec 32 := 16#32
  let v1574 : BitVec 32 := Scalar.muli arg14 c16_i32
  let v1576 : Index := Scalar.indexCast v1574
  ![0, v1576.toNat]
def k0_off85 (k0_t16 : Fin k0_t16_loop.trips) : Fin 2 → Nat :=
  let c1_i32_1651 : BitVec 32 := 1#32
  let v1579 : Index := Scalar.indexCast c1_i32_1651
  let c0_i32_762 : BitVec 32 := 0#32
  let c1_i32_764 : BitVec 32 := 1#32
  let arg14 : BitVec 32 := Scf.iv c0_i32_762 c1_i32_764 k0_t16
  let c16_i32 : BitVec 32 := 16#32
  let v1574 : BitVec 32 := Scalar.muli arg14 c16_i32
  let v1580 : Index := Scalar.indexCast v1574
  ![1, v1580.toNat]
def k0_off86 (k0_t16 : Fin k0_t16_loop.trips) : Fin 2 → Nat :=
  let c2_i32_1652 : BitVec 32 := 2#32
  let v1583 : Index := Scalar.indexCast c2_i32_1652
  let c0_i32_762 : BitVec 32 := 0#32
  let c1_i32_764 : BitVec 32 := 1#32
  let arg14 : BitVec 32 := Scf.iv c0_i32_762 c1_i32_764 k0_t16
  let c16_i32 : BitVec 32 := 16#32
  let v1574 : BitVec 32 := Scalar.muli arg14 c16_i32
  let v1584 : Index := Scalar.indexCast v1574
  ![2, v1584.toNat]
def k0_off87 (k0_t16 : Fin k0_t16_loop.trips) (c0_i32_1661 : BitVec 32) : Fin 1 → Nat :=
  let c0_i32_762 : BitVec 32 := 0#32
  let c1_i32_764 : BitVec 32 := 1#32
  let arg14 : BitVec 32 := Scf.iv c0_i32_762 c1_i32_764 k0_t16
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off88 (k0_t16 : Fin k0_t16_loop.trips) (c0_i32_1663 : BitVec 32) : Fin 1 → Nat :=
  let c1024_i32_1662 : BitVec 32 := 1024#32
  let c0_i32_762 : BitVec 32 := 0#32
  let c1_i32_764 : BitVec 32 := 1#32
  let arg14 : BitVec 32 := Scf.iv c0_i32_762 c1_i32_764 k0_t16
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off89 (k0_t16 : Fin k0_t16_loop.trips) : Fin 2 → Nat :=
  let c12_i32 : BitVec 32 := 12#32
  let v1728 : Index := Scalar.indexCast c12_i32
  let c0_i32_762 : BitVec 32 := 0#32
  let c1_i32_764 : BitVec 32 := 1#32
  let arg14 : BitVec 32 := Scf.iv c0_i32_762 c1_i32_764 k0_t16
  let c16_i32_1680 : BitVec 32 := 16#32
  let v1727 : BitVec 32 := Scalar.muli arg14 c16_i32_1680
  let v1729 : Index := Scalar.indexCast v1727
  ![12, v1729.toNat]
def k0_off90 (k0_t16 : Fin k0_t16_loop.trips) : Fin 2 → Nat :=
  let c13_i32 : BitVec 32 := 13#32
  let v1734 : Index := Scalar.indexCast c13_i32
  let c0_i32_762 : BitVec 32 := 0#32
  let c1_i32_764 : BitVec 32 := 1#32
  let arg14 : BitVec 32 := Scf.iv c0_i32_762 c1_i32_764 k0_t16
  let c16_i32_1681 : BitVec 32 := 16#32
  let v1733 : BitVec 32 := Scalar.muli arg14 c16_i32_1681
  let v1735 : Index := Scalar.indexCast v1733
  ![13, v1735.toNat]
@[reducible] def k0_t17_loop : Scf.Loop 32 :=
  let c0_i32_766 : BitVec 32 := 0#32
  let c8_i32_767 : BitVec 32 := 8#32
  let v741 : BitVec 32 := Scalar.addi c0_i32_766 c8_i32_767
  let c1_i32_768 : BitVec 32 := 1#32
  ⟨c0_i32_766, v741, c1_i32_768⟩
def k0_off91 (k0_t17 : Fin k0_t17_loop.trips) : Fin 2 → Nat :=
  let c0_i32_1650 : BitVec 32 := 0#32
  let v1575 : Index := Scalar.indexCast c0_i32_1650
  let c0_i32_766 : BitVec 32 := 0#32
  let c1_i32_768 : BitVec 32 := 1#32
  let arg14 : BitVec 32 := Scf.iv c0_i32_766 c1_i32_768 k0_t17
  let c16_i32 : BitVec 32 := 16#32
  let v1574 : BitVec 32 := Scalar.muli arg14 c16_i32
  let v1576 : Index := Scalar.indexCast v1574
  ![0, v1576.toNat]
def k0_off92 (k0_t17 : Fin k0_t17_loop.trips) : Fin 2 → Nat :=
  let c1_i32_1651 : BitVec 32 := 1#32
  let v1579 : Index := Scalar.indexCast c1_i32_1651
  let c0_i32_766 : BitVec 32 := 0#32
  let c1_i32_768 : BitVec 32 := 1#32
  let arg14 : BitVec 32 := Scf.iv c0_i32_766 c1_i32_768 k0_t17
  let c16_i32 : BitVec 32 := 16#32
  let v1574 : BitVec 32 := Scalar.muli arg14 c16_i32
  let v1580 : Index := Scalar.indexCast v1574
  ![1, v1580.toNat]
def k0_off93 (k0_t17 : Fin k0_t17_loop.trips) : Fin 2 → Nat :=
  let c2_i32_1652 : BitVec 32 := 2#32
  let v1583 : Index := Scalar.indexCast c2_i32_1652
  let c0_i32_766 : BitVec 32 := 0#32
  let c1_i32_768 : BitVec 32 := 1#32
  let arg14 : BitVec 32 := Scf.iv c0_i32_766 c1_i32_768 k0_t17
  let c16_i32 : BitVec 32 := 16#32
  let v1574 : BitVec 32 := Scalar.muli arg14 c16_i32
  let v1584 : Index := Scalar.indexCast v1574
  ![2, v1584.toNat]
def k0_off94 (k0_t17 : Fin k0_t17_loop.trips) (c0_i32_1660 : BitVec 32) : Fin 1 → Nat :=
  let c0_i32_766 : BitVec 32 := 0#32
  let c1_i32_768 : BitVec 32 := 1#32
  let arg14 : BitVec 32 := Scf.iv c0_i32_766 c1_i32_768 k0_t17
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off95 (k0_t17 : Fin k0_t17_loop.trips) (c0_i32_1663 : BitVec 32) : Fin 1 → Nat :=
  let c1024_i32_1662 : BitVec 32 := 1024#32
  let c0_i32_766 : BitVec 32 := 0#32
  let c1_i32_768 : BitVec 32 := 1#32
  let arg14 : BitVec 32 := Scf.iv c0_i32_766 c1_i32_768 k0_t17
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t18_loop : Scf.Loop 32 :=
  let c0_i32_866 : BitVec 32 := 0#32
  let c8_i32_867 : BitVec 32 := 8#32
  let v838 : BitVec 32 := Scalar.addi c0_i32_866 c8_i32_867
  let c1_i32_868 : BitVec 32 := 1#32
  ⟨c0_i32_866, v838, c1_i32_868⟩
def k0_off96 (k0_t18 : Fin k0_t18_loop.trips) : Fin 2 → Nat :=
  let c0_i32_1650 : BitVec 32 := 0#32
  let v1575 : Index := Scalar.indexCast c0_i32_1650
  let c0_i32_866 : BitVec 32 := 0#32
  let c1_i32_868 : BitVec 32 := 1#32
  let arg14 : BitVec 32 := Scf.iv c0_i32_866 c1_i32_868 k0_t18
  let c16_i32 : BitVec 32 := 16#32
  let v1574 : BitVec 32 := Scalar.muli arg14 c16_i32
  let v1576 : Index := Scalar.indexCast v1574
  ![0, v1576.toNat]
def k0_off97 (k0_t18 : Fin k0_t18_loop.trips) : Fin 2 → Nat :=
  let c1_i32_1651 : BitVec 32 := 1#32
  let v1579 : Index := Scalar.indexCast c1_i32_1651
  let c0_i32_866 : BitVec 32 := 0#32
  let c1_i32_868 : BitVec 32 := 1#32
  let arg14 : BitVec 32 := Scf.iv c0_i32_866 c1_i32_868 k0_t18
  let c16_i32 : BitVec 32 := 16#32
  let v1574 : BitVec 32 := Scalar.muli arg14 c16_i32
  let v1580 : Index := Scalar.indexCast v1574
  ![1, v1580.toNat]
def k0_off98 (k0_t18 : Fin k0_t18_loop.trips) : Fin 2 → Nat :=
  let c2_i32_1652 : BitVec 32 := 2#32
  let v1583 : Index := Scalar.indexCast c2_i32_1652
  let c0_i32_866 : BitVec 32 := 0#32
  let c1_i32_868 : BitVec 32 := 1#32
  let arg14 : BitVec 32 := Scf.iv c0_i32_866 c1_i32_868 k0_t18
  let c16_i32 : BitVec 32 := 16#32
  let v1574 : BitVec 32 := Scalar.muli arg14 c16_i32
  let v1584 : Index := Scalar.indexCast v1574
  ![2, v1584.toNat]
def k0_off99 (k0_t18 : Fin k0_t18_loop.trips) (c0_i32_1661 : BitVec 32) : Fin 1 → Nat :=
  let c0_i32_866 : BitVec 32 := 0#32
  let c1_i32_868 : BitVec 32 := 1#32
  let arg14 : BitVec 32 := Scf.iv c0_i32_866 c1_i32_868 k0_t18
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off100 (k0_t18 : Fin k0_t18_loop.trips) (c0_i32_1663 : BitVec 32) : Fin 1 → Nat :=
  let c1024_i32_1662 : BitVec 32 := 1024#32
  let c0_i32_866 : BitVec 32 := 0#32
  let c1_i32_868 : BitVec 32 := 1#32
  let arg14 : BitVec 32 := Scf.iv c0_i32_866 c1_i32_868 k0_t18
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off101 (k0_t18 : Fin k0_t18_loop.trips) : Fin 2 → Nat :=
  let c14_i32 : BitVec 32 := 14#32
  let v1728 : Index := Scalar.indexCast c14_i32
  let c0_i32_866 : BitVec 32 := 0#32
  let c1_i32_868 : BitVec 32 := 1#32
  let arg14 : BitVec 32 := Scf.iv c0_i32_866 c1_i32_868 k0_t18
  let c16_i32_1680 : BitVec 32 := 16#32
  let v1727 : BitVec 32 := Scalar.muli arg14 c16_i32_1680
  let v1729 : Index := Scalar.indexCast v1727
  ![14, v1729.toNat]
def k0_off102 (k0_t18 : Fin k0_t18_loop.trips) : Fin 2 → Nat :=
  let c15_i32 : BitVec 32 := 15#32
  let v1734 : Index := Scalar.indexCast c15_i32
  let c0_i32_866 : BitVec 32 := 0#32
  let c1_i32_868 : BitVec 32 := 1#32
  let arg14 : BitVec 32 := Scf.iv c0_i32_866 c1_i32_868 k0_t18
  let c16_i32_1681 : BitVec 32 := 16#32
  let v1733 : BitVec 32 := Scalar.muli arg14 c16_i32_1681
  let v1735 : Index := Scalar.indexCast v1733
  ![15, v1735.toNat]
@[reducible] def k0_t19_loop : Scf.Loop 32 :=
  let c0_i32_870 : BitVec 32 := 0#32
  let c8_i32_871 : BitVec 32 := 8#32
  let v839 : BitVec 32 := Scalar.addi c0_i32_870 c8_i32_871
  let c1_i32_872 : BitVec 32 := 1#32
  ⟨c0_i32_870, v839, c1_i32_872⟩
def k0_off103 (k0_t19 : Fin k0_t19_loop.trips) : Fin 2 → Nat :=
  let c0_i32_1650 : BitVec 32 := 0#32
  let v1575 : Index := Scalar.indexCast c0_i32_1650
  let c0_i32_870 : BitVec 32 := 0#32
  let c1_i32_872 : BitVec 32 := 1#32
  let arg14 : BitVec 32 := Scf.iv c0_i32_870 c1_i32_872 k0_t19
  let c16_i32 : BitVec 32 := 16#32
  let v1574 : BitVec 32 := Scalar.muli arg14 c16_i32
  let v1576 : Index := Scalar.indexCast v1574
  ![0, v1576.toNat]
def k0_off104 (k0_t19 : Fin k0_t19_loop.trips) : Fin 2 → Nat :=
  let c1_i32_1651 : BitVec 32 := 1#32
  let v1579 : Index := Scalar.indexCast c1_i32_1651
  let c0_i32_870 : BitVec 32 := 0#32
  let c1_i32_872 : BitVec 32 := 1#32
  let arg14 : BitVec 32 := Scf.iv c0_i32_870 c1_i32_872 k0_t19
  let c16_i32 : BitVec 32 := 16#32
  let v1574 : BitVec 32 := Scalar.muli arg14 c16_i32
  let v1580 : Index := Scalar.indexCast v1574
  ![1, v1580.toNat]
def k0_off105 (k0_t19 : Fin k0_t19_loop.trips) : Fin 2 → Nat :=
  let c2_i32_1652 : BitVec 32 := 2#32
  let v1583 : Index := Scalar.indexCast c2_i32_1652
  let c0_i32_870 : BitVec 32 := 0#32
  let c1_i32_872 : BitVec 32 := 1#32
  let arg14 : BitVec 32 := Scf.iv c0_i32_870 c1_i32_872 k0_t19
  let c16_i32 : BitVec 32 := 16#32
  let v1574 : BitVec 32 := Scalar.muli arg14 c16_i32
  let v1584 : Index := Scalar.indexCast v1574
  ![2, v1584.toNat]
def k0_off106 (k0_t19 : Fin k0_t19_loop.trips) (c0_i32_1660 : BitVec 32) : Fin 1 → Nat :=
  let c0_i32_870 : BitVec 32 := 0#32
  let c1_i32_872 : BitVec 32 := 1#32
  let arg14 : BitVec 32 := Scf.iv c0_i32_870 c1_i32_872 k0_t19
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off107 (k0_t19 : Fin k0_t19_loop.trips) (c0_i32_1663 : BitVec 32) : Fin 1 → Nat :=
  let c1024_i32_1662 : BitVec 32 := 1024#32
  let c0_i32_870 : BitVec 32 := 0#32
  let c1_i32_872 : BitVec 32 := 1#32
  let arg14 : BitVec 32 := Scf.iv c0_i32_870 c1_i32_872 k0_t19
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t20_loop : Scf.Loop 32 :=
  let c0_i32_970 : BitVec 32 := 0#32
  let c8_i32_971 : BitVec 32 := 8#32
  let v936 : BitVec 32 := Scalar.addi c0_i32_970 c8_i32_971
  let c1_i32_972 : BitVec 32 := 1#32
  ⟨c0_i32_970, v936, c1_i32_972⟩
def k0_off108 (k0_t20 : Fin k0_t20_loop.trips) : Fin 2 → Nat :=
  let c0_i32_1650 : BitVec 32 := 0#32
  let v1575 : Index := Scalar.indexCast c0_i32_1650
  let c0_i32_970 : BitVec 32 := 0#32
  let c1_i32_972 : BitVec 32 := 1#32
  let arg14 : BitVec 32 := Scf.iv c0_i32_970 c1_i32_972 k0_t20
  let c16_i32 : BitVec 32 := 16#32
  let v1574 : BitVec 32 := Scalar.muli arg14 c16_i32
  let v1576 : Index := Scalar.indexCast v1574
  ![0, v1576.toNat]
def k0_off109 (k0_t20 : Fin k0_t20_loop.trips) : Fin 2 → Nat :=
  let c1_i32_1651 : BitVec 32 := 1#32
  let v1579 : Index := Scalar.indexCast c1_i32_1651
  let c0_i32_970 : BitVec 32 := 0#32
  let c1_i32_972 : BitVec 32 := 1#32
  let arg14 : BitVec 32 := Scf.iv c0_i32_970 c1_i32_972 k0_t20
  let c16_i32 : BitVec 32 := 16#32
  let v1574 : BitVec 32 := Scalar.muli arg14 c16_i32
  let v1580 : Index := Scalar.indexCast v1574
  ![1, v1580.toNat]
def k0_off110 (k0_t20 : Fin k0_t20_loop.trips) : Fin 2 → Nat :=
  let c2_i32_1652 : BitVec 32 := 2#32
  let v1583 : Index := Scalar.indexCast c2_i32_1652
  let c0_i32_970 : BitVec 32 := 0#32
  let c1_i32_972 : BitVec 32 := 1#32
  let arg14 : BitVec 32 := Scf.iv c0_i32_970 c1_i32_972 k0_t20
  let c16_i32 : BitVec 32 := 16#32
  let v1574 : BitVec 32 := Scalar.muli arg14 c16_i32
  let v1584 : Index := Scalar.indexCast v1574
  ![2, v1584.toNat]
def k0_off111 (k0_t20 : Fin k0_t20_loop.trips) (c0_i32_1661 : BitVec 32) : Fin 1 → Nat :=
  let c0_i32_970 : BitVec 32 := 0#32
  let c1_i32_972 : BitVec 32 := 1#32
  let arg14 : BitVec 32 := Scf.iv c0_i32_970 c1_i32_972 k0_t20
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off112 (k0_t20 : Fin k0_t20_loop.trips) (c0_i32_1663 : BitVec 32) : Fin 1 → Nat :=
  let c1024_i32_1662 : BitVec 32 := 1024#32
  let c0_i32_970 : BitVec 32 := 0#32
  let c1_i32_972 : BitVec 32 := 1#32
  let arg14 : BitVec 32 := Scf.iv c0_i32_970 c1_i32_972 k0_t20
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off113 (k0_t20 : Fin k0_t20_loop.trips) : Fin 2 → Nat :=
  let c16_i32_1681 : BitVec 32 := 16#32
  let v1728 : Index := Scalar.indexCast c16_i32_1681
  let c0_i32_970 : BitVec 32 := 0#32
  let c1_i32_972 : BitVec 32 := 1#32
  let arg14 : BitVec 32 := Scf.iv c0_i32_970 c1_i32_972 k0_t20
  let c16_i32_1680 : BitVec 32 := 16#32
  let v1727 : BitVec 32 := Scalar.muli arg14 c16_i32_1680
  let v1729 : Index := Scalar.indexCast v1727
  ![16, v1729.toNat]
def k0_off114 (k0_t20 : Fin k0_t20_loop.trips) : Fin 2 → Nat :=
  let c17_i32 : BitVec 32 := 17#32
  let v1734 : Index := Scalar.indexCast c17_i32
  let c0_i32_970 : BitVec 32 := 0#32
  let c1_i32_972 : BitVec 32 := 1#32
  let arg14 : BitVec 32 := Scf.iv c0_i32_970 c1_i32_972 k0_t20
  let c16_i32_1682 : BitVec 32 := 16#32
  let v1733 : BitVec 32 := Scalar.muli arg14 c16_i32_1682
  let v1735 : Index := Scalar.indexCast v1733
  ![17, v1735.toNat]
@[reducible] def k0_t21_loop : Scf.Loop 32 :=
  let c0_i32_974 : BitVec 32 := 0#32
  let c8_i32_975 : BitVec 32 := 8#32
  let v937 : BitVec 32 := Scalar.addi c0_i32_974 c8_i32_975
  let c1_i32_976 : BitVec 32 := 1#32
  ⟨c0_i32_974, v937, c1_i32_976⟩
def k0_off115 (k0_t21 : Fin k0_t21_loop.trips) : Fin 2 → Nat :=
  let c0_i32_1650 : BitVec 32 := 0#32
  let v1575 : Index := Scalar.indexCast c0_i32_1650
  let c0_i32_974 : BitVec 32 := 0#32
  let c1_i32_976 : BitVec 32 := 1#32
  let arg14 : BitVec 32 := Scf.iv c0_i32_974 c1_i32_976 k0_t21
  let c16_i32 : BitVec 32 := 16#32
  let v1574 : BitVec 32 := Scalar.muli arg14 c16_i32
  let v1576 : Index := Scalar.indexCast v1574
  ![0, v1576.toNat]
def k0_off116 (k0_t21 : Fin k0_t21_loop.trips) : Fin 2 → Nat :=
  let c1_i32_1651 : BitVec 32 := 1#32
  let v1579 : Index := Scalar.indexCast c1_i32_1651
  let c0_i32_974 : BitVec 32 := 0#32
  let c1_i32_976 : BitVec 32 := 1#32
  let arg14 : BitVec 32 := Scf.iv c0_i32_974 c1_i32_976 k0_t21
  let c16_i32 : BitVec 32 := 16#32
  let v1574 : BitVec 32 := Scalar.muli arg14 c16_i32
  let v1580 : Index := Scalar.indexCast v1574
  ![1, v1580.toNat]
def k0_off117 (k0_t21 : Fin k0_t21_loop.trips) : Fin 2 → Nat :=
  let c2_i32_1652 : BitVec 32 := 2#32
  let v1583 : Index := Scalar.indexCast c2_i32_1652
  let c0_i32_974 : BitVec 32 := 0#32
  let c1_i32_976 : BitVec 32 := 1#32
  let arg14 : BitVec 32 := Scf.iv c0_i32_974 c1_i32_976 k0_t21
  let c16_i32 : BitVec 32 := 16#32
  let v1574 : BitVec 32 := Scalar.muli arg14 c16_i32
  let v1584 : Index := Scalar.indexCast v1574
  ![2, v1584.toNat]
def k0_off118 (k0_t21 : Fin k0_t21_loop.trips) (c0_i32_1660 : BitVec 32) : Fin 1 → Nat :=
  let c0_i32_974 : BitVec 32 := 0#32
  let c1_i32_976 : BitVec 32 := 1#32
  let arg14 : BitVec 32 := Scf.iv c0_i32_974 c1_i32_976 k0_t21
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off119 (k0_t21 : Fin k0_t21_loop.trips) (c0_i32_1663 : BitVec 32) : Fin 1 → Nat :=
  let c1024_i32_1662 : BitVec 32 := 1024#32
  let c0_i32_974 : BitVec 32 := 0#32
  let c1_i32_976 : BitVec 32 := 1#32
  let arg14 : BitVec 32 := Scf.iv c0_i32_974 c1_i32_976 k0_t21
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t22_loop : Scf.Loop 32 :=
  let c0_i32_1074 : BitVec 32 := 0#32
  let c8_i32_1075 : BitVec 32 := 8#32
  let v1034 : BitVec 32 := Scalar.addi c0_i32_1074 c8_i32_1075
  let c1_i32_1076 : BitVec 32 := 1#32
  ⟨c0_i32_1074, v1034, c1_i32_1076⟩
def k0_off120 (k0_t22 : Fin k0_t22_loop.trips) : Fin 2 → Nat :=
  let c0_i32_1650 : BitVec 32 := 0#32
  let v1575 : Index := Scalar.indexCast c0_i32_1650
  let c0_i32_1074 : BitVec 32 := 0#32
  let c1_i32_1076 : BitVec 32 := 1#32
  let arg14 : BitVec 32 := Scf.iv c0_i32_1074 c1_i32_1076 k0_t22
  let c16_i32 : BitVec 32 := 16#32
  let v1574 : BitVec 32 := Scalar.muli arg14 c16_i32
  let v1576 : Index := Scalar.indexCast v1574
  ![0, v1576.toNat]
def k0_off121 (k0_t22 : Fin k0_t22_loop.trips) : Fin 2 → Nat :=
  let c1_i32_1651 : BitVec 32 := 1#32
  let v1579 : Index := Scalar.indexCast c1_i32_1651
  let c0_i32_1074 : BitVec 32 := 0#32
  let c1_i32_1076 : BitVec 32 := 1#32
  let arg14 : BitVec 32 := Scf.iv c0_i32_1074 c1_i32_1076 k0_t22
  let c16_i32 : BitVec 32 := 16#32
  let v1574 : BitVec 32 := Scalar.muli arg14 c16_i32
  let v1580 : Index := Scalar.indexCast v1574
  ![1, v1580.toNat]
def k0_off122 (k0_t22 : Fin k0_t22_loop.trips) : Fin 2 → Nat :=
  let c2_i32_1652 : BitVec 32 := 2#32
  let v1583 : Index := Scalar.indexCast c2_i32_1652
  let c0_i32_1074 : BitVec 32 := 0#32
  let c1_i32_1076 : BitVec 32 := 1#32
  let arg14 : BitVec 32 := Scf.iv c0_i32_1074 c1_i32_1076 k0_t22
  let c16_i32 : BitVec 32 := 16#32
  let v1574 : BitVec 32 := Scalar.muli arg14 c16_i32
  let v1584 : Index := Scalar.indexCast v1574
  ![2, v1584.toNat]
def k0_off123 (k0_t22 : Fin k0_t22_loop.trips) (c0_i32_1661 : BitVec 32) : Fin 1 → Nat :=
  let c0_i32_1074 : BitVec 32 := 0#32
  let c1_i32_1076 : BitVec 32 := 1#32
  let arg14 : BitVec 32 := Scf.iv c0_i32_1074 c1_i32_1076 k0_t22
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off124 (k0_t22 : Fin k0_t22_loop.trips) (c0_i32_1663 : BitVec 32) : Fin 1 → Nat :=
  let c1024_i32_1662 : BitVec 32 := 1024#32
  let c0_i32_1074 : BitVec 32 := 0#32
  let c1_i32_1076 : BitVec 32 := 1#32
  let arg14 : BitVec 32 := Scf.iv c0_i32_1074 c1_i32_1076 k0_t22
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off125 (k0_t22 : Fin k0_t22_loop.trips) : Fin 2 → Nat :=
  let c18_i32 : BitVec 32 := 18#32
  let v1728 : Index := Scalar.indexCast c18_i32
  let c0_i32_1074 : BitVec 32 := 0#32
  let c1_i32_1076 : BitVec 32 := 1#32
  let arg14 : BitVec 32 := Scf.iv c0_i32_1074 c1_i32_1076 k0_t22
  let c16_i32_1680 : BitVec 32 := 16#32
  let v1727 : BitVec 32 := Scalar.muli arg14 c16_i32_1680
  let v1729 : Index := Scalar.indexCast v1727
  ![18, v1729.toNat]
def k0_off126 (k0_t22 : Fin k0_t22_loop.trips) : Fin 2 → Nat :=
  let c19_i32 : BitVec 32 := 19#32
  let v1734 : Index := Scalar.indexCast c19_i32
  let c0_i32_1074 : BitVec 32 := 0#32
  let c1_i32_1076 : BitVec 32 := 1#32
  let arg14 : BitVec 32 := Scf.iv c0_i32_1074 c1_i32_1076 k0_t22
  let c16_i32_1681 : BitVec 32 := 16#32
  let v1733 : BitVec 32 := Scalar.muli arg14 c16_i32_1681
  let v1735 : Index := Scalar.indexCast v1733
  ![19, v1735.toNat]
@[reducible] def k0_t23_loop : Scf.Loop 32 :=
  let c0_i32_1078 : BitVec 32 := 0#32
  let c8_i32_1079 : BitVec 32 := 8#32
  let v1035 : BitVec 32 := Scalar.addi c0_i32_1078 c8_i32_1079
  let c1_i32_1080 : BitVec 32 := 1#32
  ⟨c0_i32_1078, v1035, c1_i32_1080⟩
def k0_off127 (k0_t23 : Fin k0_t23_loop.trips) : Fin 2 → Nat :=
  let c0_i32_1650 : BitVec 32 := 0#32
  let v1575 : Index := Scalar.indexCast c0_i32_1650
  let c0_i32_1078 : BitVec 32 := 0#32
  let c1_i32_1080 : BitVec 32 := 1#32
  let arg14 : BitVec 32 := Scf.iv c0_i32_1078 c1_i32_1080 k0_t23
  let c16_i32 : BitVec 32 := 16#32
  let v1574 : BitVec 32 := Scalar.muli arg14 c16_i32
  let v1576 : Index := Scalar.indexCast v1574
  ![0, v1576.toNat]
def k0_off128 (k0_t23 : Fin k0_t23_loop.trips) : Fin 2 → Nat :=
  let c1_i32_1651 : BitVec 32 := 1#32
  let v1579 : Index := Scalar.indexCast c1_i32_1651
  let c0_i32_1078 : BitVec 32 := 0#32
  let c1_i32_1080 : BitVec 32 := 1#32
  let arg14 : BitVec 32 := Scf.iv c0_i32_1078 c1_i32_1080 k0_t23
  let c16_i32 : BitVec 32 := 16#32
  let v1574 : BitVec 32 := Scalar.muli arg14 c16_i32
  let v1580 : Index := Scalar.indexCast v1574
  ![1, v1580.toNat]
def k0_off129 (k0_t23 : Fin k0_t23_loop.trips) : Fin 2 → Nat :=
  let c2_i32_1652 : BitVec 32 := 2#32
  let v1583 : Index := Scalar.indexCast c2_i32_1652
  let c0_i32_1078 : BitVec 32 := 0#32
  let c1_i32_1080 : BitVec 32 := 1#32
  let arg14 : BitVec 32 := Scf.iv c0_i32_1078 c1_i32_1080 k0_t23
  let c16_i32 : BitVec 32 := 16#32
  let v1574 : BitVec 32 := Scalar.muli arg14 c16_i32
  let v1584 : Index := Scalar.indexCast v1574
  ![2, v1584.toNat]
def k0_off130 (k0_t23 : Fin k0_t23_loop.trips) (c0_i32_1660 : BitVec 32) : Fin 1 → Nat :=
  let c0_i32_1078 : BitVec 32 := 0#32
  let c1_i32_1080 : BitVec 32 := 1#32
  let arg14 : BitVec 32 := Scf.iv c0_i32_1078 c1_i32_1080 k0_t23
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off131 (k0_t23 : Fin k0_t23_loop.trips) (c0_i32_1663 : BitVec 32) : Fin 1 → Nat :=
  let c1024_i32_1662 : BitVec 32 := 1024#32
  let c0_i32_1078 : BitVec 32 := 0#32
  let c1_i32_1080 : BitVec 32 := 1#32
  let arg14 : BitVec 32 := Scf.iv c0_i32_1078 c1_i32_1080 k0_t23
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t24_loop : Scf.Loop 32 :=
  let c0_i32_1178 : BitVec 32 := 0#32
  let c8_i32_1179 : BitVec 32 := 8#32
  let v1132 : BitVec 32 := Scalar.addi c0_i32_1178 c8_i32_1179
  let c1_i32_1180 : BitVec 32 := 1#32
  ⟨c0_i32_1178, v1132, c1_i32_1180⟩
def k0_off132 (k0_t24 : Fin k0_t24_loop.trips) : Fin 2 → Nat :=
  let c0_i32_1650 : BitVec 32 := 0#32
  let v1575 : Index := Scalar.indexCast c0_i32_1650
  let c0_i32_1178 : BitVec 32 := 0#32
  let c1_i32_1180 : BitVec 32 := 1#32
  let arg14 : BitVec 32 := Scf.iv c0_i32_1178 c1_i32_1180 k0_t24
  let c16_i32 : BitVec 32 := 16#32
  let v1574 : BitVec 32 := Scalar.muli arg14 c16_i32
  let v1576 : Index := Scalar.indexCast v1574
  ![0, v1576.toNat]
def k0_off133 (k0_t24 : Fin k0_t24_loop.trips) : Fin 2 → Nat :=
  let c1_i32_1651 : BitVec 32 := 1#32
  let v1579 : Index := Scalar.indexCast c1_i32_1651
  let c0_i32_1178 : BitVec 32 := 0#32
  let c1_i32_1180 : BitVec 32 := 1#32
  let arg14 : BitVec 32 := Scf.iv c0_i32_1178 c1_i32_1180 k0_t24
  let c16_i32 : BitVec 32 := 16#32
  let v1574 : BitVec 32 := Scalar.muli arg14 c16_i32
  let v1580 : Index := Scalar.indexCast v1574
  ![1, v1580.toNat]
def k0_off134 (k0_t24 : Fin k0_t24_loop.trips) : Fin 2 → Nat :=
  let c2_i32_1652 : BitVec 32 := 2#32
  let v1583 : Index := Scalar.indexCast c2_i32_1652
  let c0_i32_1178 : BitVec 32 := 0#32
  let c1_i32_1180 : BitVec 32 := 1#32
  let arg14 : BitVec 32 := Scf.iv c0_i32_1178 c1_i32_1180 k0_t24
  let c16_i32 : BitVec 32 := 16#32
  let v1574 : BitVec 32 := Scalar.muli arg14 c16_i32
  let v1584 : Index := Scalar.indexCast v1574
  ![2, v1584.toNat]
def k0_off135 (k0_t24 : Fin k0_t24_loop.trips) (c0_i32_1661 : BitVec 32) : Fin 1 → Nat :=
  let c0_i32_1178 : BitVec 32 := 0#32
  let c1_i32_1180 : BitVec 32 := 1#32
  let arg14 : BitVec 32 := Scf.iv c0_i32_1178 c1_i32_1180 k0_t24
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off136 (k0_t24 : Fin k0_t24_loop.trips) (c0_i32_1663 : BitVec 32) : Fin 1 → Nat :=
  let c1024_i32_1662 : BitVec 32 := 1024#32
  let c0_i32_1178 : BitVec 32 := 0#32
  let c1_i32_1180 : BitVec 32 := 1#32
  let arg14 : BitVec 32 := Scf.iv c0_i32_1178 c1_i32_1180 k0_t24
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off137 (k0_t24 : Fin k0_t24_loop.trips) : Fin 2 → Nat :=
  let c20_i32 : BitVec 32 := 20#32
  let v1728 : Index := Scalar.indexCast c20_i32
  let c0_i32_1178 : BitVec 32 := 0#32
  let c1_i32_1180 : BitVec 32 := 1#32
  let arg14 : BitVec 32 := Scf.iv c0_i32_1178 c1_i32_1180 k0_t24
  let c16_i32_1680 : BitVec 32 := 16#32
  let v1727 : BitVec 32 := Scalar.muli arg14 c16_i32_1680
  let v1729 : Index := Scalar.indexCast v1727
  ![20, v1729.toNat]
def k0_off138 (k0_t24 : Fin k0_t24_loop.trips) : Fin 2 → Nat :=
  let c21_i32 : BitVec 32 := 21#32
  let v1734 : Index := Scalar.indexCast c21_i32
  let c0_i32_1178 : BitVec 32 := 0#32
  let c1_i32_1180 : BitVec 32 := 1#32
  let arg14 : BitVec 32 := Scf.iv c0_i32_1178 c1_i32_1180 k0_t24
  let c16_i32_1681 : BitVec 32 := 16#32
  let v1733 : BitVec 32 := Scalar.muli arg14 c16_i32_1681
  let v1735 : Index := Scalar.indexCast v1733
  ![21, v1735.toNat]
@[reducible] def k0_t25_loop : Scf.Loop 32 :=
  let c0_i32_1182 : BitVec 32 := 0#32
  let c8_i32_1183 : BitVec 32 := 8#32
  let v1133 : BitVec 32 := Scalar.addi c0_i32_1182 c8_i32_1183
  let c1_i32_1184 : BitVec 32 := 1#32
  ⟨c0_i32_1182, v1133, c1_i32_1184⟩
def k0_off139 (k0_t25 : Fin k0_t25_loop.trips) : Fin 2 → Nat :=
  let c0_i32_1650 : BitVec 32 := 0#32
  let v1575 : Index := Scalar.indexCast c0_i32_1650
  let c0_i32_1182 : BitVec 32 := 0#32
  let c1_i32_1184 : BitVec 32 := 1#32
  let arg14 : BitVec 32 := Scf.iv c0_i32_1182 c1_i32_1184 k0_t25
  let c16_i32 : BitVec 32 := 16#32
  let v1574 : BitVec 32 := Scalar.muli arg14 c16_i32
  let v1576 : Index := Scalar.indexCast v1574
  ![0, v1576.toNat]
def k0_off140 (k0_t25 : Fin k0_t25_loop.trips) : Fin 2 → Nat :=
  let c1_i32_1651 : BitVec 32 := 1#32
  let v1579 : Index := Scalar.indexCast c1_i32_1651
  let c0_i32_1182 : BitVec 32 := 0#32
  let c1_i32_1184 : BitVec 32 := 1#32
  let arg14 : BitVec 32 := Scf.iv c0_i32_1182 c1_i32_1184 k0_t25
  let c16_i32 : BitVec 32 := 16#32
  let v1574 : BitVec 32 := Scalar.muli arg14 c16_i32
  let v1580 : Index := Scalar.indexCast v1574
  ![1, v1580.toNat]
def k0_off141 (k0_t25 : Fin k0_t25_loop.trips) : Fin 2 → Nat :=
  let c2_i32_1652 : BitVec 32 := 2#32
  let v1583 : Index := Scalar.indexCast c2_i32_1652
  let c0_i32_1182 : BitVec 32 := 0#32
  let c1_i32_1184 : BitVec 32 := 1#32
  let arg14 : BitVec 32 := Scf.iv c0_i32_1182 c1_i32_1184 k0_t25
  let c16_i32 : BitVec 32 := 16#32
  let v1574 : BitVec 32 := Scalar.muli arg14 c16_i32
  let v1584 : Index := Scalar.indexCast v1574
  ![2, v1584.toNat]
def k0_off142 (k0_t25 : Fin k0_t25_loop.trips) (c0_i32_1660 : BitVec 32) : Fin 1 → Nat :=
  let c0_i32_1182 : BitVec 32 := 0#32
  let c1_i32_1184 : BitVec 32 := 1#32
  let arg14 : BitVec 32 := Scf.iv c0_i32_1182 c1_i32_1184 k0_t25
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off143 (k0_t25 : Fin k0_t25_loop.trips) (c0_i32_1663 : BitVec 32) : Fin 1 → Nat :=
  let c1024_i32_1662 : BitVec 32 := 1024#32
  let c0_i32_1182 : BitVec 32 := 0#32
  let c1_i32_1184 : BitVec 32 := 1#32
  let arg14 : BitVec 32 := Scf.iv c0_i32_1182 c1_i32_1184 k0_t25
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t26_loop : Scf.Loop 32 :=
  let c0_i32_1282 : BitVec 32 := 0#32
  let c8_i32_1283 : BitVec 32 := 8#32
  let v1230 : BitVec 32 := Scalar.addi c0_i32_1282 c8_i32_1283
  let c1_i32_1284 : BitVec 32 := 1#32
  ⟨c0_i32_1282, v1230, c1_i32_1284⟩
def k0_off144 (k0_t26 : Fin k0_t26_loop.trips) : Fin 2 → Nat :=
  let c0_i32_1650 : BitVec 32 := 0#32
  let v1575 : Index := Scalar.indexCast c0_i32_1650
  let c0_i32_1282 : BitVec 32 := 0#32
  let c1_i32_1284 : BitVec 32 := 1#32
  let arg14 : BitVec 32 := Scf.iv c0_i32_1282 c1_i32_1284 k0_t26
  let c16_i32 : BitVec 32 := 16#32
  let v1574 : BitVec 32 := Scalar.muli arg14 c16_i32
  let v1576 : Index := Scalar.indexCast v1574
  ![0, v1576.toNat]
def k0_off145 (k0_t26 : Fin k0_t26_loop.trips) : Fin 2 → Nat :=
  let c1_i32_1651 : BitVec 32 := 1#32
  let v1579 : Index := Scalar.indexCast c1_i32_1651
  let c0_i32_1282 : BitVec 32 := 0#32
  let c1_i32_1284 : BitVec 32 := 1#32
  let arg14 : BitVec 32 := Scf.iv c0_i32_1282 c1_i32_1284 k0_t26
  let c16_i32 : BitVec 32 := 16#32
  let v1574 : BitVec 32 := Scalar.muli arg14 c16_i32
  let v1580 : Index := Scalar.indexCast v1574
  ![1, v1580.toNat]
def k0_off146 (k0_t26 : Fin k0_t26_loop.trips) : Fin 2 → Nat :=
  let c2_i32_1652 : BitVec 32 := 2#32
  let v1583 : Index := Scalar.indexCast c2_i32_1652
  let c0_i32_1282 : BitVec 32 := 0#32
  let c1_i32_1284 : BitVec 32 := 1#32
  let arg14 : BitVec 32 := Scf.iv c0_i32_1282 c1_i32_1284 k0_t26
  let c16_i32 : BitVec 32 := 16#32
  let v1574 : BitVec 32 := Scalar.muli arg14 c16_i32
  let v1584 : Index := Scalar.indexCast v1574
  ![2, v1584.toNat]
def k0_off147 (k0_t26 : Fin k0_t26_loop.trips) (c0_i32_1661 : BitVec 32) : Fin 1 → Nat :=
  let c0_i32_1282 : BitVec 32 := 0#32
  let c1_i32_1284 : BitVec 32 := 1#32
  let arg14 : BitVec 32 := Scf.iv c0_i32_1282 c1_i32_1284 k0_t26
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off148 (k0_t26 : Fin k0_t26_loop.trips) (c0_i32_1663 : BitVec 32) : Fin 1 → Nat :=
  let c1024_i32_1662 : BitVec 32 := 1024#32
  let c0_i32_1282 : BitVec 32 := 0#32
  let c1_i32_1284 : BitVec 32 := 1#32
  let arg14 : BitVec 32 := Scf.iv c0_i32_1282 c1_i32_1284 k0_t26
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off149 (k0_t26 : Fin k0_t26_loop.trips) : Fin 2 → Nat :=
  let c22_i32 : BitVec 32 := 22#32
  let v1728 : Index := Scalar.indexCast c22_i32
  let c0_i32_1282 : BitVec 32 := 0#32
  let c1_i32_1284 : BitVec 32 := 1#32
  let arg14 : BitVec 32 := Scf.iv c0_i32_1282 c1_i32_1284 k0_t26
  let c16_i32_1680 : BitVec 32 := 16#32
  let v1727 : BitVec 32 := Scalar.muli arg14 c16_i32_1680
  let v1729 : Index := Scalar.indexCast v1727
  ![22, v1729.toNat]
def k0_off150 (k0_t26 : Fin k0_t26_loop.trips) : Fin 2 → Nat :=
  let c23_i32 : BitVec 32 := 23#32
  let v1734 : Index := Scalar.indexCast c23_i32
  let c0_i32_1282 : BitVec 32 := 0#32
  let c1_i32_1284 : BitVec 32 := 1#32
  let arg14 : BitVec 32 := Scf.iv c0_i32_1282 c1_i32_1284 k0_t26
  let c16_i32_1681 : BitVec 32 := 16#32
  let v1733 : BitVec 32 := Scalar.muli arg14 c16_i32_1681
  let v1735 : Index := Scalar.indexCast v1733
  ![23, v1735.toNat]
@[reducible] def k0_t27_loop : Scf.Loop 32 :=
  let c0_i32_1286 : BitVec 32 := 0#32
  let c8_i32_1287 : BitVec 32 := 8#32
  let v1231 : BitVec 32 := Scalar.addi c0_i32_1286 c8_i32_1287
  let c1_i32_1288 : BitVec 32 := 1#32
  ⟨c0_i32_1286, v1231, c1_i32_1288⟩
def k0_off151 (k0_t27 : Fin k0_t27_loop.trips) : Fin 2 → Nat :=
  let c0_i32_1650 : BitVec 32 := 0#32
  let v1575 : Index := Scalar.indexCast c0_i32_1650
  let c0_i32_1286 : BitVec 32 := 0#32
  let c1_i32_1288 : BitVec 32 := 1#32
  let arg14 : BitVec 32 := Scf.iv c0_i32_1286 c1_i32_1288 k0_t27
  let c16_i32 : BitVec 32 := 16#32
  let v1574 : BitVec 32 := Scalar.muli arg14 c16_i32
  let v1576 : Index := Scalar.indexCast v1574
  ![0, v1576.toNat]
def k0_off152 (k0_t27 : Fin k0_t27_loop.trips) : Fin 2 → Nat :=
  let c1_i32_1651 : BitVec 32 := 1#32
  let v1579 : Index := Scalar.indexCast c1_i32_1651
  let c0_i32_1286 : BitVec 32 := 0#32
  let c1_i32_1288 : BitVec 32 := 1#32
  let arg14 : BitVec 32 := Scf.iv c0_i32_1286 c1_i32_1288 k0_t27
  let c16_i32 : BitVec 32 := 16#32
  let v1574 : BitVec 32 := Scalar.muli arg14 c16_i32
  let v1580 : Index := Scalar.indexCast v1574
  ![1, v1580.toNat]
def k0_off153 (k0_t27 : Fin k0_t27_loop.trips) : Fin 2 → Nat :=
  let c2_i32_1652 : BitVec 32 := 2#32
  let v1583 : Index := Scalar.indexCast c2_i32_1652
  let c0_i32_1286 : BitVec 32 := 0#32
  let c1_i32_1288 : BitVec 32 := 1#32
  let arg14 : BitVec 32 := Scf.iv c0_i32_1286 c1_i32_1288 k0_t27
  let c16_i32 : BitVec 32 := 16#32
  let v1574 : BitVec 32 := Scalar.muli arg14 c16_i32
  let v1584 : Index := Scalar.indexCast v1574
  ![2, v1584.toNat]
def k0_off154 (k0_t27 : Fin k0_t27_loop.trips) (c0_i32_1660 : BitVec 32) : Fin 1 → Nat :=
  let c0_i32_1286 : BitVec 32 := 0#32
  let c1_i32_1288 : BitVec 32 := 1#32
  let arg14 : BitVec 32 := Scf.iv c0_i32_1286 c1_i32_1288 k0_t27
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off155 (k0_t27 : Fin k0_t27_loop.trips) (c0_i32_1663 : BitVec 32) : Fin 1 → Nat :=
  let c1024_i32_1662 : BitVec 32 := 1024#32
  let c0_i32_1286 : BitVec 32 := 0#32
  let c1_i32_1288 : BitVec 32 := 1#32
  let arg14 : BitVec 32 := Scf.iv c0_i32_1286 c1_i32_1288 k0_t27
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t28_loop : Scf.Loop 32 :=
  let c0_i32_1386 : BitVec 32 := 0#32
  let c8_i32_1387 : BitVec 32 := 8#32
  let v1328 : BitVec 32 := Scalar.addi c0_i32_1386 c8_i32_1387
  let c1_i32_1388 : BitVec 32 := 1#32
  ⟨c0_i32_1386, v1328, c1_i32_1388⟩
def k0_off156 (k0_t28 : Fin k0_t28_loop.trips) : Fin 2 → Nat :=
  let c0_i32_1650 : BitVec 32 := 0#32
  let v1575 : Index := Scalar.indexCast c0_i32_1650
  let c0_i32_1386 : BitVec 32 := 0#32
  let c1_i32_1388 : BitVec 32 := 1#32
  let arg14 : BitVec 32 := Scf.iv c0_i32_1386 c1_i32_1388 k0_t28
  let c16_i32 : BitVec 32 := 16#32
  let v1574 : BitVec 32 := Scalar.muli arg14 c16_i32
  let v1576 : Index := Scalar.indexCast v1574
  ![0, v1576.toNat]
def k0_off157 (k0_t28 : Fin k0_t28_loop.trips) : Fin 2 → Nat :=
  let c1_i32_1651 : BitVec 32 := 1#32
  let v1579 : Index := Scalar.indexCast c1_i32_1651
  let c0_i32_1386 : BitVec 32 := 0#32
  let c1_i32_1388 : BitVec 32 := 1#32
  let arg14 : BitVec 32 := Scf.iv c0_i32_1386 c1_i32_1388 k0_t28
  let c16_i32 : BitVec 32 := 16#32
  let v1574 : BitVec 32 := Scalar.muli arg14 c16_i32
  let v1580 : Index := Scalar.indexCast v1574
  ![1, v1580.toNat]
def k0_off158 (k0_t28 : Fin k0_t28_loop.trips) : Fin 2 → Nat :=
  let c2_i32_1652 : BitVec 32 := 2#32
  let v1583 : Index := Scalar.indexCast c2_i32_1652
  let c0_i32_1386 : BitVec 32 := 0#32
  let c1_i32_1388 : BitVec 32 := 1#32
  let arg14 : BitVec 32 := Scf.iv c0_i32_1386 c1_i32_1388 k0_t28
  let c16_i32 : BitVec 32 := 16#32
  let v1574 : BitVec 32 := Scalar.muli arg14 c16_i32
  let v1584 : Index := Scalar.indexCast v1574
  ![2, v1584.toNat]
def k0_off159 (k0_t28 : Fin k0_t28_loop.trips) (c0_i32_1661 : BitVec 32) : Fin 1 → Nat :=
  let c0_i32_1386 : BitVec 32 := 0#32
  let c1_i32_1388 : BitVec 32 := 1#32
  let arg14 : BitVec 32 := Scf.iv c0_i32_1386 c1_i32_1388 k0_t28
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off160 (k0_t28 : Fin k0_t28_loop.trips) (c0_i32_1663 : BitVec 32) : Fin 1 → Nat :=
  let c1024_i32_1662 : BitVec 32 := 1024#32
  let c0_i32_1386 : BitVec 32 := 0#32
  let c1_i32_1388 : BitVec 32 := 1#32
  let arg14 : BitVec 32 := Scf.iv c0_i32_1386 c1_i32_1388 k0_t28
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off161 (k0_t28 : Fin k0_t28_loop.trips) : Fin 2 → Nat :=
  let c24_i32 : BitVec 32 := 24#32
  let v1728 : Index := Scalar.indexCast c24_i32
  let c0_i32_1386 : BitVec 32 := 0#32
  let c1_i32_1388 : BitVec 32 := 1#32
  let arg14 : BitVec 32 := Scf.iv c0_i32_1386 c1_i32_1388 k0_t28
  let c16_i32_1680 : BitVec 32 := 16#32
  let v1727 : BitVec 32 := Scalar.muli arg14 c16_i32_1680
  let v1729 : Index := Scalar.indexCast v1727
  ![24, v1729.toNat]
def k0_off162 (k0_t28 : Fin k0_t28_loop.trips) : Fin 2 → Nat :=
  let c25_i32 : BitVec 32 := 25#32
  let v1734 : Index := Scalar.indexCast c25_i32
  let c0_i32_1386 : BitVec 32 := 0#32
  let c1_i32_1388 : BitVec 32 := 1#32
  let arg14 : BitVec 32 := Scf.iv c0_i32_1386 c1_i32_1388 k0_t28
  let c16_i32_1681 : BitVec 32 := 16#32
  let v1733 : BitVec 32 := Scalar.muli arg14 c16_i32_1681
  let v1735 : Index := Scalar.indexCast v1733
  ![25, v1735.toNat]
@[reducible] def k0_t29_loop : Scf.Loop 32 :=
  let c0_i32_1390 : BitVec 32 := 0#32
  let c8_i32_1391 : BitVec 32 := 8#32
  let v1329 : BitVec 32 := Scalar.addi c0_i32_1390 c8_i32_1391
  let c1_i32_1392 : BitVec 32 := 1#32
  ⟨c0_i32_1390, v1329, c1_i32_1392⟩
def k0_off163 (k0_t29 : Fin k0_t29_loop.trips) : Fin 2 → Nat :=
  let c0_i32_1650 : BitVec 32 := 0#32
  let v1575 : Index := Scalar.indexCast c0_i32_1650
  let c0_i32_1390 : BitVec 32 := 0#32
  let c1_i32_1392 : BitVec 32 := 1#32
  let arg14 : BitVec 32 := Scf.iv c0_i32_1390 c1_i32_1392 k0_t29
  let c16_i32 : BitVec 32 := 16#32
  let v1574 : BitVec 32 := Scalar.muli arg14 c16_i32
  let v1576 : Index := Scalar.indexCast v1574
  ![0, v1576.toNat]
def k0_off164 (k0_t29 : Fin k0_t29_loop.trips) : Fin 2 → Nat :=
  let c1_i32_1651 : BitVec 32 := 1#32
  let v1579 : Index := Scalar.indexCast c1_i32_1651
  let c0_i32_1390 : BitVec 32 := 0#32
  let c1_i32_1392 : BitVec 32 := 1#32
  let arg14 : BitVec 32 := Scf.iv c0_i32_1390 c1_i32_1392 k0_t29
  let c16_i32 : BitVec 32 := 16#32
  let v1574 : BitVec 32 := Scalar.muli arg14 c16_i32
  let v1580 : Index := Scalar.indexCast v1574
  ![1, v1580.toNat]
def k0_off165 (k0_t29 : Fin k0_t29_loop.trips) : Fin 2 → Nat :=
  let c2_i32_1652 : BitVec 32 := 2#32
  let v1583 : Index := Scalar.indexCast c2_i32_1652
  let c0_i32_1390 : BitVec 32 := 0#32
  let c1_i32_1392 : BitVec 32 := 1#32
  let arg14 : BitVec 32 := Scf.iv c0_i32_1390 c1_i32_1392 k0_t29
  let c16_i32 : BitVec 32 := 16#32
  let v1574 : BitVec 32 := Scalar.muli arg14 c16_i32
  let v1584 : Index := Scalar.indexCast v1574
  ![2, v1584.toNat]
def k0_off166 (k0_t29 : Fin k0_t29_loop.trips) (c0_i32_1660 : BitVec 32) : Fin 1 → Nat :=
  let c0_i32_1390 : BitVec 32 := 0#32
  let c1_i32_1392 : BitVec 32 := 1#32
  let arg14 : BitVec 32 := Scf.iv c0_i32_1390 c1_i32_1392 k0_t29
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off167 (k0_t29 : Fin k0_t29_loop.trips) (c0_i32_1663 : BitVec 32) : Fin 1 → Nat :=
  let c1024_i32_1662 : BitVec 32 := 1024#32
  let c0_i32_1390 : BitVec 32 := 0#32
  let c1_i32_1392 : BitVec 32 := 1#32
  let arg14 : BitVec 32 := Scf.iv c0_i32_1390 c1_i32_1392 k0_t29
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t30_loop : Scf.Loop 32 :=
  let c0_i32_1490 : BitVec 32 := 0#32
  let c8_i32_1491 : BitVec 32 := 8#32
  let v1426 : BitVec 32 := Scalar.addi c0_i32_1490 c8_i32_1491
  let c1_i32_1492 : BitVec 32 := 1#32
  ⟨c0_i32_1490, v1426, c1_i32_1492⟩
def k0_off168 (k0_t30 : Fin k0_t30_loop.trips) : Fin 2 → Nat :=
  let c0_i32_1650 : BitVec 32 := 0#32
  let v1575 : Index := Scalar.indexCast c0_i32_1650
  let c0_i32_1490 : BitVec 32 := 0#32
  let c1_i32_1492 : BitVec 32 := 1#32
  let arg14 : BitVec 32 := Scf.iv c0_i32_1490 c1_i32_1492 k0_t30
  let c16_i32 : BitVec 32 := 16#32
  let v1574 : BitVec 32 := Scalar.muli arg14 c16_i32
  let v1576 : Index := Scalar.indexCast v1574
  ![0, v1576.toNat]
def k0_off169 (k0_t30 : Fin k0_t30_loop.trips) : Fin 2 → Nat :=
  let c1_i32_1651 : BitVec 32 := 1#32
  let v1579 : Index := Scalar.indexCast c1_i32_1651
  let c0_i32_1490 : BitVec 32 := 0#32
  let c1_i32_1492 : BitVec 32 := 1#32
  let arg14 : BitVec 32 := Scf.iv c0_i32_1490 c1_i32_1492 k0_t30
  let c16_i32 : BitVec 32 := 16#32
  let v1574 : BitVec 32 := Scalar.muli arg14 c16_i32
  let v1580 : Index := Scalar.indexCast v1574
  ![1, v1580.toNat]
def k0_off170 (k0_t30 : Fin k0_t30_loop.trips) : Fin 2 → Nat :=
  let c2_i32_1652 : BitVec 32 := 2#32
  let v1583 : Index := Scalar.indexCast c2_i32_1652
  let c0_i32_1490 : BitVec 32 := 0#32
  let c1_i32_1492 : BitVec 32 := 1#32
  let arg14 : BitVec 32 := Scf.iv c0_i32_1490 c1_i32_1492 k0_t30
  let c16_i32 : BitVec 32 := 16#32
  let v1574 : BitVec 32 := Scalar.muli arg14 c16_i32
  let v1584 : Index := Scalar.indexCast v1574
  ![2, v1584.toNat]
def k0_off171 (k0_t30 : Fin k0_t30_loop.trips) (c0_i32_1661 : BitVec 32) : Fin 1 → Nat :=
  let c0_i32_1490 : BitVec 32 := 0#32
  let c1_i32_1492 : BitVec 32 := 1#32
  let arg14 : BitVec 32 := Scf.iv c0_i32_1490 c1_i32_1492 k0_t30
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off172 (k0_t30 : Fin k0_t30_loop.trips) (c0_i32_1663 : BitVec 32) : Fin 1 → Nat :=
  let c1024_i32_1662 : BitVec 32 := 1024#32
  let c0_i32_1490 : BitVec 32 := 0#32
  let c1_i32_1492 : BitVec 32 := 1#32
  let arg14 : BitVec 32 := Scf.iv c0_i32_1490 c1_i32_1492 k0_t30
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off173 (k0_t30 : Fin k0_t30_loop.trips) : Fin 2 → Nat :=
  let c26_i32 : BitVec 32 := 26#32
  let v1728 : Index := Scalar.indexCast c26_i32
  let c0_i32_1490 : BitVec 32 := 0#32
  let c1_i32_1492 : BitVec 32 := 1#32
  let arg14 : BitVec 32 := Scf.iv c0_i32_1490 c1_i32_1492 k0_t30
  let c16_i32_1680 : BitVec 32 := 16#32
  let v1727 : BitVec 32 := Scalar.muli arg14 c16_i32_1680
  let v1729 : Index := Scalar.indexCast v1727
  ![26, v1729.toNat]
def k0_off174 (k0_t30 : Fin k0_t30_loop.trips) : Fin 2 → Nat :=
  let c27_i32 : BitVec 32 := 27#32
  let v1734 : Index := Scalar.indexCast c27_i32
  let c0_i32_1490 : BitVec 32 := 0#32
  let c1_i32_1492 : BitVec 32 := 1#32
  let arg14 : BitVec 32 := Scf.iv c0_i32_1490 c1_i32_1492 k0_t30
  let c16_i32_1681 : BitVec 32 := 16#32
  let v1733 : BitVec 32 := Scalar.muli arg14 c16_i32_1681
  let v1735 : Index := Scalar.indexCast v1733
  ![27, v1735.toNat]
@[reducible] def k0_t31_loop : Scf.Loop 32 :=
  let c0_i32_1494 : BitVec 32 := 0#32
  let c8_i32_1495 : BitVec 32 := 8#32
  let v1427 : BitVec 32 := Scalar.addi c0_i32_1494 c8_i32_1495
  let c1_i32_1496 : BitVec 32 := 1#32
  ⟨c0_i32_1494, v1427, c1_i32_1496⟩
def k0_off175 (k0_t31 : Fin k0_t31_loop.trips) : Fin 2 → Nat :=
  let c0_i32_1650 : BitVec 32 := 0#32
  let v1575 : Index := Scalar.indexCast c0_i32_1650
  let c0_i32_1494 : BitVec 32 := 0#32
  let c1_i32_1496 : BitVec 32 := 1#32
  let arg14 : BitVec 32 := Scf.iv c0_i32_1494 c1_i32_1496 k0_t31
  let c16_i32 : BitVec 32 := 16#32
  let v1574 : BitVec 32 := Scalar.muli arg14 c16_i32
  let v1576 : Index := Scalar.indexCast v1574
  ![0, v1576.toNat]
def k0_off176 (k0_t31 : Fin k0_t31_loop.trips) : Fin 2 → Nat :=
  let c1_i32_1651 : BitVec 32 := 1#32
  let v1579 : Index := Scalar.indexCast c1_i32_1651
  let c0_i32_1494 : BitVec 32 := 0#32
  let c1_i32_1496 : BitVec 32 := 1#32
  let arg14 : BitVec 32 := Scf.iv c0_i32_1494 c1_i32_1496 k0_t31
  let c16_i32 : BitVec 32 := 16#32
  let v1574 : BitVec 32 := Scalar.muli arg14 c16_i32
  let v1580 : Index := Scalar.indexCast v1574
  ![1, v1580.toNat]
def k0_off177 (k0_t31 : Fin k0_t31_loop.trips) : Fin 2 → Nat :=
  let c2_i32_1652 : BitVec 32 := 2#32
  let v1583 : Index := Scalar.indexCast c2_i32_1652
  let c0_i32_1494 : BitVec 32 := 0#32
  let c1_i32_1496 : BitVec 32 := 1#32
  let arg14 : BitVec 32 := Scf.iv c0_i32_1494 c1_i32_1496 k0_t31
  let c16_i32 : BitVec 32 := 16#32
  let v1574 : BitVec 32 := Scalar.muli arg14 c16_i32
  let v1584 : Index := Scalar.indexCast v1574
  ![2, v1584.toNat]
def k0_off178 (k0_t31 : Fin k0_t31_loop.trips) (c0_i32_1660 : BitVec 32) : Fin 1 → Nat :=
  let c0_i32_1494 : BitVec 32 := 0#32
  let c1_i32_1496 : BitVec 32 := 1#32
  let arg14 : BitVec 32 := Scf.iv c0_i32_1494 c1_i32_1496 k0_t31
  let c128_i32_1658 : BitVec 32 := 128#32
  let v1624 : BitVec 32 := Scalar.muli arg14 c128_i32_1658
  let v1631 : BitVec 32 := Scalar.addi v1624 c0_i32_1660
  let v1632 : Index := Scalar.indexCast v1631
  ![v1632.toNat]
def k0_off179 (k0_t31 : Fin k0_t31_loop.trips) (c0_i32_1663 : BitVec 32) : Fin 1 → Nat :=
  let c1024_i32_1662 : BitVec 32 := 1024#32
  let c0_i32_1494 : BitVec 32 := 0#32
  let c1_i32_1496 : BitVec 32 := 1#32
  let arg14 : BitVec 32 := Scf.iv c0_i32_1494 c1_i32_1496 k0_t31
  let c128_i32_1658 : BitVec 32 := 128#32
  let v1624 : BitVec 32 := Scalar.muli arg14 c128_i32_1658
  let v1638 : BitVec 32 := Scalar.addi c1024_i32_1662 v1624
  let v1639 : BitVec 32 := Scalar.addi v1638 c0_i32_1663
  let v1640 : Index := Scalar.indexCast v1639
  ![v1640.toNat]
@[reducible] def k0_t32_loop : Scf.Loop 32 :=
  let c0_i32_1594 : BitVec 32 := 0#32
  let c8_i32_1595 : BitVec 32 := 8#32
  let v1524 : BitVec 32 := Scalar.addi c0_i32_1594 c8_i32_1595
  let c1_i32_1596 : BitVec 32 := 1#32
  ⟨c0_i32_1594, v1524, c1_i32_1596⟩
def k0_off180 (k0_t32 : Fin k0_t32_loop.trips) : Fin 2 → Nat :=
  let c0_i32_1650 : BitVec 32 := 0#32
  let v1575 : Index := Scalar.indexCast c0_i32_1650
  let c0_i32_1594 : BitVec 32 := 0#32
  let c1_i32_1596 : BitVec 32 := 1#32
  let arg14 : BitVec 32 := Scf.iv c0_i32_1594 c1_i32_1596 k0_t32
  let c16_i32 : BitVec 32 := 16#32
  let v1574 : BitVec 32 := Scalar.muli arg14 c16_i32
  let v1576 : Index := Scalar.indexCast v1574
  ![0, v1576.toNat]
def k0_off181 (k0_t32 : Fin k0_t32_loop.trips) : Fin 2 → Nat :=
  let c1_i32_1651 : BitVec 32 := 1#32
  let v1579 : Index := Scalar.indexCast c1_i32_1651
  let c0_i32_1594 : BitVec 32 := 0#32
  let c1_i32_1596 : BitVec 32 := 1#32
  let arg14 : BitVec 32 := Scf.iv c0_i32_1594 c1_i32_1596 k0_t32
  let c16_i32 : BitVec 32 := 16#32
  let v1574 : BitVec 32 := Scalar.muli arg14 c16_i32
  let v1580 : Index := Scalar.indexCast v1574
  ![1, v1580.toNat]
def k0_off182 (k0_t32 : Fin k0_t32_loop.trips) : Fin 2 → Nat :=
  let c2_i32_1652 : BitVec 32 := 2#32
  let v1583 : Index := Scalar.indexCast c2_i32_1652
  let c0_i32_1594 : BitVec 32 := 0#32
  let c1_i32_1596 : BitVec 32 := 1#32
  let arg14 : BitVec 32 := Scf.iv c0_i32_1594 c1_i32_1596 k0_t32
  let c16_i32 : BitVec 32 := 16#32
  let v1574 : BitVec 32 := Scalar.muli arg14 c16_i32
  let v1584 : Index := Scalar.indexCast v1574
  ![2, v1584.toNat]
def k0_off183 (k0_t32 : Fin k0_t32_loop.trips) (c0_i32_1661 : BitVec 32) : Fin 1 → Nat :=
  let c0_i32_1594 : BitVec 32 := 0#32
  let c1_i32_1596 : BitVec 32 := 1#32
  let arg14 : BitVec 32 := Scf.iv c0_i32_1594 c1_i32_1596 k0_t32
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off184 (k0_t32 : Fin k0_t32_loop.trips) (c0_i32_1663 : BitVec 32) : Fin 1 → Nat :=
  let c1024_i32_1662 : BitVec 32 := 1024#32
  let c0_i32_1594 : BitVec 32 := 0#32
  let c1_i32_1596 : BitVec 32 := 1#32
  let arg14 : BitVec 32 := Scf.iv c0_i32_1594 c1_i32_1596 k0_t32
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off185 (k0_t32 : Fin k0_t32_loop.trips) : Fin 2 → Nat :=
  let c28_i32 : BitVec 32 := 28#32
  let v1728 : Index := Scalar.indexCast c28_i32
  let c0_i32_1594 : BitVec 32 := 0#32
  let c1_i32_1596 : BitVec 32 := 1#32
  let arg14 : BitVec 32 := Scf.iv c0_i32_1594 c1_i32_1596 k0_t32
  let c16_i32_1680 : BitVec 32 := 16#32
  let v1727 : BitVec 32 := Scalar.muli arg14 c16_i32_1680
  let v1729 : Index := Scalar.indexCast v1727
  ![28, v1729.toNat]
def k0_off186 (k0_t32 : Fin k0_t32_loop.trips) : Fin 2 → Nat :=
  let c29_i32 : BitVec 32 := 29#32
  let v1734 : Index := Scalar.indexCast c29_i32
  let c0_i32_1594 : BitVec 32 := 0#32
  let c1_i32_1596 : BitVec 32 := 1#32
  let arg14 : BitVec 32 := Scf.iv c0_i32_1594 c1_i32_1596 k0_t32
  let c16_i32_1681 : BitVec 32 := 16#32
  let v1733 : BitVec 32 := Scalar.muli arg14 c16_i32_1681
  let v1735 : Index := Scalar.indexCast v1733
  ![29, v1735.toNat]
@[reducible] def k0_t33_loop : Scf.Loop 32 :=
  let c0_i32_1646 : BitVec 32 := 0#32
  let c8_i32_1647 : BitVec 32 := 8#32
  let v1573 : BitVec 32 := Scalar.addi c0_i32_1646 c8_i32_1647
  let c1_i32_1648 : BitVec 32 := 1#32
  ⟨c0_i32_1646, v1573, c1_i32_1648⟩
def k0_off187 (k0_t33 : Fin k0_t33_loop.trips) : Fin 2 → Nat :=
  let c0_i32_1650 : BitVec 32 := 0#32
  let v1575 : Index := Scalar.indexCast c0_i32_1650
  let c0_i32_1646 : BitVec 32 := 0#32
  let c1_i32_1648 : BitVec 32 := 1#32
  let arg14 : BitVec 32 := Scf.iv c0_i32_1646 c1_i32_1648 k0_t33
  let c16_i32 : BitVec 32 := 16#32
  let v1574 : BitVec 32 := Scalar.muli arg14 c16_i32
  let v1576 : Index := Scalar.indexCast v1574
  ![0, v1576.toNat]
def k0_off188 (k0_t33 : Fin k0_t33_loop.trips) : Fin 2 → Nat :=
  let c1_i32_1651 : BitVec 32 := 1#32
  let v1579 : Index := Scalar.indexCast c1_i32_1651
  let c0_i32_1646 : BitVec 32 := 0#32
  let c1_i32_1648 : BitVec 32 := 1#32
  let arg14 : BitVec 32 := Scf.iv c0_i32_1646 c1_i32_1648 k0_t33
  let c16_i32 : BitVec 32 := 16#32
  let v1574 : BitVec 32 := Scalar.muli arg14 c16_i32
  let v1580 : Index := Scalar.indexCast v1574
  ![1, v1580.toNat]
def k0_off189 (k0_t33 : Fin k0_t33_loop.trips) : Fin 2 → Nat :=
  let c2_i32_1652 : BitVec 32 := 2#32
  let v1583 : Index := Scalar.indexCast c2_i32_1652
  let c0_i32_1646 : BitVec 32 := 0#32
  let c1_i32_1648 : BitVec 32 := 1#32
  let arg14 : BitVec 32 := Scf.iv c0_i32_1646 c1_i32_1648 k0_t33
  let c16_i32 : BitVec 32 := 16#32
  let v1574 : BitVec 32 := Scalar.muli arg14 c16_i32
  let v1584 : Index := Scalar.indexCast v1574
  ![2, v1584.toNat]
def k0_off190 (k0_t33 : Fin k0_t33_loop.trips) (c0_i32_1661 : BitVec 32) : Fin 1 → Nat :=
  let c0_i32_1646 : BitVec 32 := 0#32
  let c1_i32_1648 : BitVec 32 := 1#32
  let arg14 : BitVec 32 := Scf.iv c0_i32_1646 c1_i32_1648 k0_t33
  let c128_i32_1660 : BitVec 32 := 128#32
  let v1614 : BitVec 32 := Scalar.muli arg14 c128_i32_1660
  let v1616 : BitVec 32 := Scalar.addi v1614 c0_i32_1661
  let v1617 : Index := Scalar.indexCast v1616
  ![v1617.toNat]
def k0_off191 (k0_t33 : Fin k0_t33_loop.trips) (c0_i32_1663 : BitVec 32) : Fin 1 → Nat :=
  let c1024_i32_1662 : BitVec 32 := 1024#32
  let c0_i32_1646 : BitVec 32 := 0#32
  let c1_i32_1648 : BitVec 32 := 1#32
  let arg14 : BitVec 32 := Scf.iv c0_i32_1646 c1_i32_1648 k0_t33
  let c128_i32_1660 : BitVec 32 := 128#32
  let v1614 : BitVec 32 := Scalar.muli arg14 c128_i32_1660
  let v1620 : BitVec 32 := Scalar.addi c1024_i32_1662 v1614
  let v1621 : BitVec 32 := Scalar.addi v1620 c0_i32_1663
  let v1622 : Index := Scalar.indexCast v1621
  ![v1622.toNat]
def k0_off192 (k0_t33 : Fin k0_t33_loop.trips) : Fin 2 → Nat :=
  let c30_i32 : BitVec 32 := 30#32
  let v1728 : Index := Scalar.indexCast c30_i32
  let c0_i32_1646 : BitVec 32 := 0#32
  let c1_i32_1648 : BitVec 32 := 1#32
  let arg14 : BitVec 32 := Scf.iv c0_i32_1646 c1_i32_1648 k0_t33
  let c16_i32_1680 : BitVec 32 := 16#32
  let v1727 : BitVec 32 := Scalar.muli arg14 c16_i32_1680
  let v1729 : Index := Scalar.indexCast v1727
  ![30, v1729.toNat]
def k0_off193 (k0_t33 : Fin k0_t33_loop.trips) : Fin 2 → Nat :=
  let c31_i32 : BitVec 32 := 31#32
  let v1734 : Index := Scalar.indexCast c31_i32
  let c0_i32_1646 : BitVec 32 := 0#32
  let c1_i32_1648 : BitVec 32 := 1#32
  let arg14 : BitVec 32 := Scf.iv c0_i32_1646 c1_i32_1648 k0_t33
  let c16_i32_1681 : BitVec 32 := 16#32
  let v1733 : BitVec 32 := Scalar.muli arg14 c16_i32_1681
  let v1735 : Index := Scalar.indexCast v1733
  ![31, v1735.toNat]
def k0_off194 (i : grid0.Coords) (k0_t1 : Fin k0_t1_loop.trips) : Fin 2 → Nat :=
  let c0_i32_1650_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v3 : BitVec 32 := Scalar.muli v1 c4096_i32
  let c0_i32 : BitVec 32 := 0#32
  let c1_i32 : BitVec 32 := 1#32
  let arg13 : BitVec 32 := Scf.iv c0_i32 c1_i32 k0_t1
  let c128_i32 : BitVec 32 := 128#32
  let v4 : BitVec 32 := Scalar.muli arg13 c128_i32
  let v5 : BitVec 32 := Scalar.addi v3 v4
  ![0, v5.toNat]
abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S27x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x3 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1024x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S1024x3 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x3 : Shape := ⟨2, ![131072, 3]⟩
abbrev S16x524288x2 : Shape := ⟨3, ![16, 524288, 2]⟩
abbrev S32x64 : Shape := ⟨2, ![32, 64]⟩
abbrev S64 : Shape := ⟨1, ![64]⟩
abbrev S64x16 : Shape := ⟨2, ![64, 16]⟩
abbrev S16 : Shape := ⟨1, ![16]⟩
abbrev S42x64 : Shape := ⟨2, ![42, 64]⟩
abbrev S64x64 : Shape := ⟨2, ![64, 64]⟩
abbrev S64x3 : Shape := ⟨2, ![64, 3]⟩
abbrev S3 : Shape := ⟨1, ![3]⟩
abbrev S8x3 : Shape := ⟨2, ![8, 3]⟩
abbrev S131072x1x3 : Shape := ⟨3, ![131072, 1, 3]⟩
abbrev S1x16x1 : Shape := ⟨3, ![1, 16, 1]⟩
abbrev S131072x16x3 : Shape := ⟨3, ![131072, 16, 3]⟩
abbrev S131072x16x1x3 : Shape := ⟨4, ![131072, 16, 1, 3]⟩
abbrev S1x1x8x3 : Shape := ⟨4, ![1, 1, 8, 3]⟩
abbrev S131072x16x8x3 : Shape := ⟨4, ![131072, 16, 8, 3]⟩
abbrev S131072x16x8x1 : Shape := ⟨4, ![131072, 16, 8, 1]⟩
abbrev S131072x16x8 : Shape := ⟨3, ![131072, 16, 8]⟩
abbrev S_ : Shape := ⟨0, ![]⟩
abbrev S131072x16x8x2 : Shape := ⟨4, ![131072, 16, 8, 2]⟩
abbrev S131072x16x2 : Shape := ⟨3, ![131072, 16, 2]⟩
abbrev S131072x32 : Shape := ⟨2, ![131072, 32]⟩
abbrev S131072x64 : Shape := ⟨2, ![131072, 64]⟩
abbrev S1x64 : Shape := ⟨2, ![1, 64]⟩
abbrev S131072x16 : Shape := ⟨2, ![131072, 16]⟩
abbrev S1x16 : Shape := ⟨2, ![1, 16]⟩
abbrev S131072x1 : Shape := ⟨2, ![131072, 1]⟩
abbrev S131072 : Shape := ⟨1, ![131072]⟩
abbrev S131072x15 : Shape := ⟨2, ![131072, 15]⟩
abbrev S131072x27 : Shape := ⟨2, ![131072, 27]⟩
abbrev S131072x42 : Shape := ⟨2, ![131072, 42]⟩
abbrev S1x3 : Shape := ⟨2, ![1, 3]⟩

abbrev nBuf : Space → Nat
  | .hbm => 169
  | .vmem => 0
  | .smem => 0
  | _ => 0

abbrev hbmTy0_0 (i : Nat) : BufTy := match i % 128 with
  | 0 => ⟨S131072x3, .f32⟩
  | 1 => ⟨S131072x3, .f32⟩
  | 2 => ⟨S16x524288x2, .f32⟩
  | 3 => ⟨S32x64, .f32⟩
  | 4 => ⟨S64, .f32⟩
  | 5 => ⟨S64x16, .f32⟩
  | 6 => ⟨S16, .f32⟩
  | 7 => ⟨S42x64, .f32⟩
  | 8 => ⟨S64, .f32⟩
  | 9 => ⟨S64x64, .f32⟩
  | 10 => ⟨S64, .f32⟩
  | 11 => ⟨S64x3, .f32⟩
  | 12 => ⟨S3, .f32⟩
  | 13 => ⟨S16, .f32⟩
  | 14 => ⟨S8x3, .i32⟩
  | 15 => ⟨S8x3, .i1⟩
  | 16 => ⟨S131072x1x3, .f32⟩
  | 17 => ⟨S1x16x1, .f32⟩
  | 18 => ⟨S131072x16x3, .f32⟩
  | 19 => ⟨S131072x16x3, .f32⟩
  | 20 => ⟨S131072x16x3, .f32⟩
  | 21 => ⟨S131072x16x3, .f32⟩
  | 22 => ⟨S131072x16x3, .f32⟩
  | 23 => ⟨S131072x16x3, .i32⟩
  | 24 => ⟨S131072x16x1x3, .i32⟩
  | 25 => ⟨S1x1x8x3, .i32⟩
  | 26 => ⟨S131072x16x8x3, .i32⟩
  | 27 => ⟨S131072x16x8x3, .i32⟩
  | 28 => ⟨S131072x16x8x3, .i32⟩
  | 29 => ⟨S131072x16x8x3, .i32⟩
  | 30 => ⟨S131072x16x8x1, .i32⟩
  | 31 => ⟨S131072x16x8, .i32⟩
  | 32 => ⟨S_, .i32⟩
  | 33 => ⟨S131072x16x8, .i32⟩
  | 34 => ⟨S131072x16x8, .i32⟩
  | 35 => ⟨S131072x16x8x1, .i32⟩
  | 36 => ⟨S131072x16x8, .i32⟩
  | 37 => ⟨S_, .i32⟩
  | 38 => ⟨S131072x16x8, .i32⟩
  | 39 => ⟨S131072x16x8, .i32⟩
  | 40 => ⟨S131072x16x8, .i32⟩
  | 41 => ⟨S131072x16x8x1, .i32⟩
  | 42 => ⟨S131072x16x8, .i32⟩
  | 43 => ⟨S_, .i32⟩
  | 44 => ⟨S131072x16x8, .i32⟩
  | 45 => ⟨S131072x16x8, .i32⟩
  | 46 => ⟨S131072x16x8, .i32⟩
  | 47 => ⟨S_, .i32⟩
  | 48 => ⟨S131072x16x8, .i32⟩
  | 49 => ⟨S131072x16x8, .i32⟩
  | 50 => ⟨S131072x16x8, .i32⟩
  | 51 => ⟨S16, .i32⟩
  | 52 => ⟨S1x16x1, .i32⟩
  | 53 => ⟨S_, .i32⟩
  | 54 => ⟨S1x16x1, .i32⟩
  | 55 => ⟨S1x16x1, .i1⟩
  | 56 => ⟨S_, .i32⟩
  | 57 => ⟨S1x16x1, .i32⟩
  | 58 => ⟨S1x16x1, .i32⟩
  | 59 => ⟨S1x16x1, .i32⟩
  | 60 => ⟨S_, .i32⟩
  | 61 => ⟨S131072x16x8, .i32⟩
  | 62 => ⟨S131072x16x8, .i1⟩
  | 63 => ⟨S_, .i32⟩
  | 64 => ⟨S131072x16x8, .i32⟩
  | 65 => ⟨S131072x16x8, .i32⟩
  | 66 => ⟨S131072x16x8, .i32⟩
  | 67 => ⟨S131072x16x8, .i32⟩
  | 68 => ⟨S131072x16x8x1, .i32⟩
  | 69 => ⟨S131072x16x8x1, .i32⟩
  | 70 => ⟨S131072x16x8x2, .i32⟩
  | 71 => ⟨S131072x16x8x2, .f32⟩
  | 72 => ⟨S131072x16x1x3, .f32⟩
  | 73 => ⟨S131072x16x1x3, .f32⟩
  | 74 => ⟨S_, .f32⟩
  | 75 => ⟨S131072x16x1x3, .f32⟩
  | 76 => ⟨S131072x16x1x3, .f32⟩
  | 77 => ⟨S131072x16x8x3, .i1⟩
  | 78 => ⟨S131072x16x8x3, .f32⟩
  | 79 => ⟨S131072x16x8x3, .f32⟩
  | 80 => ⟨S131072x16x8x3, .f32⟩
  | 81 => ⟨S131072x16x8x1, .f32⟩
  | 82 => ⟨S131072x16x8, .f32⟩
  | 83 => ⟨S131072x16x8x1, .f32⟩
  | 84 => ⟨S131072x16x8, .f32⟩
  | 85 => ⟨S131072x16x8, .f32⟩
  | 86 => ⟨S131072x16x8x1, .f32⟩
  | 87 => ⟨S131072x16x8, .f32⟩
  | 88 => ⟨S131072x16x8, .f32⟩
  | 89 => ⟨S131072x16x8x1, .f32⟩
  | 90 => ⟨S131072x16x8x2, .f32⟩
  | 91 => ⟨S131072x16x8x2, .f32⟩
  | 92 => ⟨S_, .f32⟩
  | 93 => ⟨S131072x16x2, .f32⟩
  | 94 => ⟨S131072x32, .f32⟩
  | 95 => ⟨S131072x64, .f32⟩
  | 96 => ⟨S1x64, .f32⟩
  | 97 => ⟨S131072x64, .f32⟩
  | 98 => ⟨S131072x64, .f32⟩
  | 99 => ⟨S_, .f32⟩
  | 100 => ⟨S131072x64, .f32⟩
  | 101 => ⟨S131072x64, .f32⟩
  | 102 => ⟨S131072x16, .f32⟩
  | 103 => ⟨S1x16, .f32⟩
  | 104 => ⟨S131072x16, .f32⟩
  | 105 => ⟨S131072x16, .f32⟩
  | 106 => ⟨S131072x1, .f32⟩
  | 107 => ⟨S131072, .f32⟩
  | 108 => ⟨S131072x15, .f32⟩
  | 109 => ⟨S_, .f32⟩
  | 110 => ⟨S131072x3, .f32⟩
  | 111 => ⟨S131072x3, .f32⟩
  | 112 => ⟨S131072x3, .f32⟩
  | 113 => ⟨S_, .f32⟩
  | 114 => ⟨S131072x3, .f32⟩
  | 115 => ⟨S131072x3, .f32⟩
  | 116 => ⟨S131072x3, .f32⟩
  | 117 => ⟨S_, .f32⟩
  | 118 => ⟨S131072x3, .f32⟩
  | 119 => ⟨S131072x3, .f32⟩
  | 120 => ⟨S131072x3, .f32⟩
  | 121 => ⟨S_, .f32⟩
  | 122 => ⟨S131072x3, .f32⟩
  | 123 => ⟨S131072x3, .f32⟩
  | 124 => ⟨S131072x3, .f32⟩
  | 125 => ⟨S_, .f32⟩
  | 126 => ⟨S131072x3, .f32⟩
  | 127 => ⟨S131072x3, .f32⟩
  | _ => ⟨S131072x3, .f32⟩

abbrev hbmTy0_1 (i : Nat) : BufTy := match i % 128 with
  | 0 => ⟨S131072x3, .f32⟩
  | 1 => ⟨S_, .f32⟩
  | 2 => ⟨S131072x3, .f32⟩
  | 3 => ⟨S131072x3, .f32⟩
  | 4 => ⟨S131072x3, .f32⟩
  | 5 => ⟨S_, .f32⟩
  | 6 => ⟨S131072x3, .f32⟩
  | 7 => ⟨S131072x3, .f32⟩
  | 8 => ⟨S131072x3, .f32⟩
  | 9 => ⟨S_, .f32⟩
  | 10 => ⟨S131072x3, .f32⟩
  | 11 => ⟨S131072x3, .f32⟩
  | 12 => ⟨S131072x3, .f32⟩
  | 13 => ⟨S131072x27, .f32⟩
  | 14 => ⟨S131072x42, .f32⟩
  | 15 => ⟨S131072x64, .f32⟩
  | 16 => ⟨S1x64, .f32⟩
  | 17 => ⟨S131072x64, .f32⟩
  | 18 => ⟨S131072x64, .f32⟩
  | 19 => ⟨S_, .f32⟩
  | 20 => ⟨S131072x64, .f32⟩
  | 21 => ⟨S131072x64, .f32⟩
  | 22 => ⟨S131072x64, .f32⟩
  | 23 => ⟨S1x64, .f32⟩
  | 24 => ⟨S131072x64, .f32⟩
  | 25 => ⟨S131072x64, .f32⟩
  | 26 => ⟨S_, .f32⟩
  | 27 => ⟨S131072x64, .f32⟩
  | 28 => ⟨S131072x64, .f32⟩
  | 29 => ⟨S131072x3, .f32⟩
  | 30 => ⟨S1x3, .f32⟩
  | 31 => ⟨S131072x3, .f32⟩
  | 32 => ⟨S131072x3, .f32⟩
  | 33 => ⟨S131072x3, .f32⟩
  | 34 => ⟨S131072x3, .f32⟩
  | 35 => ⟨S_, .f32⟩
  | 36 => ⟨S131072x3, .f32⟩
  | 37 => ⟨S131072x3, .f32⟩
  | 38 => ⟨S_, .f32⟩
  | 39 => ⟨S131072x3, .f32⟩
  | 40 => ⟨S131072x3, .f32⟩
  | _ => ⟨S131072x3, .f32⟩

abbrev hbmTy (i : Nat) : BufTy := match i / 128 with
  | 0 => hbmTy0_0 i
  | 1 => hbmTy0_1 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_c : Ref sig .tc := ⟨.hbm, 14, rfl⟩
abbrev main_c_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_call1_cst : Ref sig .tc := ⟨.hbm, 99, rfl⟩
abbrev main_call1_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_11 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_12 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_13 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_14 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_15 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_16 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_17 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_18 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_call2_cst : Ref sig .tc := ⟨.hbm, 147, rfl⟩
abbrev main_call2_v0 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_call3_cst : Ref sig .tc := ⟨.hbm, 154, rfl⟩
abbrev main_call3_v0 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_19 : Ref sig .tc := ⟨.hbm, 163, rfl⟩
abbrev main_v120 : Ref sig .tc := ⟨.hbm, 164, rfl⟩
abbrev main_v121 : Ref sig .tc := ⟨.hbm, 165, rfl⟩
abbrev main_cst_20 : Ref sig .tc := ⟨.hbm, 166, rfl⟩
abbrev main_v122 : Ref sig .tc := ⟨.hbm, 167, rfl⟩
abbrev main_v123 : Ref sig .tc := ⟨.hbm, 168, rfl⟩

abbrev nD : Nat := 1
abbrev τ : Topo := Topo.v7x

variable {F : FTy → Type} [FloatOps F]
-- ==== Proof.Pieces.lean ====
/-
  The encoder's two inner loops as programs of their own, over a level's resolution and the base of its table: `hashBody` writes the table
  positions of the eight corners of sixteen points, `interpBody` sums the eight fetched features of sixteen points by their weights.
-/
module

public import Idealize.ShloMosaic.Lib.SparseCore.Stream
public import Idealize.ShloMosaic.Lib.Scf

@[expose] public section

noncomputable section

namespace Cert.Enc

open Idealize.ShloMosaic Idealize.ShloMosaic.SparseCore Idealize.SL.Sem

abbrev S16 : Shape := ⟨1, ![16]⟩
abbrev S1x16 : Shape := ⟨2, ![1, 16]⟩
abbrev S3x128 : Shape := ⟨2, ![3, 128]⟩
abbrev S32x128 : Shape := ⟨2, ![32, 128]⟩
abbrev S128 : Shape := ⟨1, ![128]⟩
abbrev S2048 : Shape := ⟨1, ![2048]⟩
abbrev STab : Shape := ⟨1, ![16777216]⟩

/-- The counted loop of both pieces: eight groups of sixteen points. -/
@[reducible] def grpLoop : Scf.Loop 32 := ⟨0#32, Scalar.addi 0#32 8#32, 1#32⟩

theorem grpLoop_trips : grpLoop.trips = 8 := by decide +kernel
theorem h16 : 0 < S16.numel := by decide +kernel
theorem h1x16 : 0 < S1x16.numel := by decide +kernel
theorem sc_row : S1x16.ShapeCasts S16 := by decide +kernel
theorem sc_col : S16.ShapeCasts S1x16 := by decide +kernel
theorem sc_id : S16.ShapeCasts S16 := by decide +kernel

/-- Row `r`, the sixteen columns of group `t`. -/
def rowOff (r : ℕ) (t : Fin grpLoop.trips) : Fin 2 → ℕ :=
  ![r, (Scalar.indexCast (Scalar.muli (Scf.iv 0#32 1#32 t) 16#32)).toNat]
/-- The sixteen words of corner `c` of group `t` for the first feature, -/
def offA (t : Fin grpLoop.trips) (c : Fin 8) : Fin 1 → ℕ :=
  ![(Scalar.indexCast (Scalar.addi (Scalar.muli (Scf.iv 0#32 1#32 t) 128#32) (BitVec.ofNat 32 (16 * c.val)))).toNat]
/-- and for the second. -/
def offB (t : Fin grpLoop.trips) (c : Fin 8) : Fin 1 → ℕ :=
  ![(Scalar.indexCast (Scalar.addi (Scalar.addi 1024#32 (Scalar.muli (Scf.iv 0#32 1#32 t) 128#32)) (BitVec.ofNat 32 (16 * c.val)))).toNat]

theorem rowOff_col (r : ℕ) : ∀ t : Fin grpLoop.trips, rowOff r t 1 = 16 * t.val := by
  unfold rowOff; simp only [Matrix.cons_val_one, Matrix.cons_val_fin_one]; decide +kernel
theorem offA_eq : ∀ t : Fin grpLoop.trips, ∀ c : Fin 8, offA t c 0 = 128 * t.val + 16 * c.val := by decide +kernel
theorem offB_eq : ∀ t : Fin grpLoop.trips, ∀ c : Fin 8, offB t c 0 = 1024 + 128 * t.val + 16 * c.val := by decide +kernel

theorem rowOff_inb {n : ℕ} (r : ℕ) (hr : r < n) (t : Fin grpLoop.trips) : ∀ a, rowOff r t a + S1x16.size a ≤ (⟨2, ![n, 128]⟩ : Shape).size a := by
  have ht : t.val < 8 := lt_of_lt_of_eq t.isLt grpLoop_trips
  intro a
  match a with
  | ⟨0, _⟩ => change r + 1 ≤ n; omega
  | ⟨1, _⟩ => have h := rowOff_col r t; change rowOff r t 1 + 16 ≤ 128; omega

theorem offA_inb (t : Fin grpLoop.trips) (c : Fin 8) : ∀ a, offA t c a + S16.size a ≤ S2048.size a := by
  have ht : t.val < 8 := lt_of_lt_of_eq t.isLt grpLoop_trips
  intro a
  match a with
  | ⟨0, _⟩ => have h := offA_eq t c; have := c.isLt; change offA t c 0 + 16 ≤ 2048; omega

theorem offB_inb (t : Fin grpLoop.trips) (c : Fin 8) : ∀ a, offB t c a + S16.size a ≤ S2048.size a := by
  have ht : t.val < 8 := lt_of_lt_of_eq t.isLt grpLoop_trips
  intro a
  match a with
  | ⟨0, _⟩ => have h := offB_eq t c; have := c.isLt; change offB t c 0 + 16 ≤ 2048; omega

section Payloads

variable {F : FTy → Type} [FloatOps F]

/-- A coordinate's sixteen values at a level's resolution, -/
def scaled (v : Vec F S1x16 .f32) (res : F .f32) : FVec F S16 .f32 := mulf (shapeCast S16 v sc_row) (broadcast S16 res)
/-- the cell each lies in, -/
def cell (v : Vec F S1x16 .f32) (res : F .f32) : IVec S16 32 := fptosi 32 (scaled v res)
/-- and where in the cell. -/
def frac (v : Vec F S1x16 .f32) (res : F .f32) : FVec F S16 .f32 := subf (scaled v res) (sitofp .f32 (cell v res))

/-- A corner's coordinate times its hash factor, the coordinate the cell's or the next one's. -/
def mulBy (p : BitVec 32) (v : IVec S16 32) : IVec S16 32 := muli v (broadcast S16 p)
def mulNext (p : BitVec 32) (v : IVec S16 32) : IVec S16 32 := addi (mulBy p v) (broadcast S16 p)
def next (v : IVec S16 32) : IVec S16 32 := addi v (broadcast S16 1#32)

/-- The position of a hashed corner's first feature in the flat tables. -/
def word (base : BitVec 32) (h : IVec S16 32) : IVec S16 32 :=
  shli (addi (andi h (broadcast S16 524287#32)) (broadcast S16 base)) (broadcast S16 1#32)

def one16 : FVec F S16 .f32 := broadcast S16 (Scalar.ofBits .f32 0x3F800000#32)
def zero16 : FVec F S16 .f32 := broadcast S16 (Scalar.ofBits .f32 0x00000000#32)

end Payloads

section Programs

variable {nD : Nat} {τ : Topo} {sig : RefSig} {F : FTy → Type} [FloatOps F] {Λ : Labels} {κ : Proc τ}

/-- The sixteen values of group `t` in row `r`. -/
def ldRow {n : ℕ} (m : Memref sig κ.kind .vmem ⟨2, ![n, 128]⟩ .f32) (r : ℕ) (hr : r < n) (t : Fin grpLoop.trips) :
    Prog (TpuEff nD τ sig (Elt F) Λ κ) (Vec F S1x16 .f32) :=
  Prog.lift (.load m (Rect.unit (s := ⟨2, ![n, 128]⟩) (rowOff r t) S1x16.size (rowOff_inb r hr t)).toLoadRect (View.loadsAt_vmem h1x16))

/-- Sixteen values into group `t` of row `r`, whose old values are read first. -/
def putRow {n : ℕ} (m : Memref sig κ.kind .vmem ⟨2, ![n, 128]⟩ .f32) (r : ℕ) (hr : r < n) (t : Fin grpLoop.trips) (v : FVec F S16 .f32) :
    Prog (TpuEff nD τ sig (Elt F) Λ κ) PUnit := do
  let _ ← ldRow m r hr t
  Prog.lift (.store m (Rect.unit (s := ⟨2, ![n, 128]⟩) (rowOff r t) S1x16.size (rowOff_inb r hr t)) (shapeCast S1x16 v sc_col) Finset.univ
    (View.stores_vmem_bits_univ h1x16 rfl) (.inl rfl))

/-- Sixteen words of a list of 2048, -/
def ld16 {e : EltTy} (m : Memref sig κ.kind .vmem S2048 e) (off : Fin 1 → ℕ) (h : ∀ a, off a + S16.size a ≤ S2048.size a) :
    Prog (TpuEff nD τ sig (Elt F) Λ κ) (Vec F S16 e) :=
  Prog.lift (.load m (Rect.unit (s := S2048) off S16.size h).toLoadRect (View.loadsAt_vmem h16))

/-- and sixteen words written into it, its old words read first. -/
def put16 (m : Memref sig κ.kind .vmem S2048 .i32) (off : Fin 1 → ℕ) (h : ∀ a, off a + S16.size a ≤ S2048.size a) (v : IVec S16 32) :
    Prog (TpuEff nD τ sig (Elt F) Λ κ) PUnit := do
  let _ ← ld16 m off h
  Prog.lift (.store m (Rect.unit (s := S2048) off S16.size h) (shapeCast S16 v sc_id) Finset.univ (View.stores_vmem_bits_univ h16 rfl) (.inl rfl))

/-- A corner's two positions, of its first feature and of its second. -/
def putCorner (m : Memref sig κ.kind .vmem S2048 .i32) (t : Fin grpLoop.trips) (c : Fin 8) (d : IVec S16 32) :
    Prog (TpuEff nD τ sig (Elt F) Λ κ) PUnit := do
  put16 m (offA t c) (offA_inb t c) d
  put16 m (offB t c) (offB_inb t c) (next d)

/-- One group of the hash loop. -/
def hashBody (xyz : Memref sig κ.kind .vmem S3x128 .f32) (ib : Memref sig κ.kind .vmem S2048 .i32) (res : F .f32) (base : BitVec 32)
    (t : Fin grpLoop.trips) (_ : Unit) : Prog (TpuEff nD τ sig (Elt F) Λ κ) Unit := do
  let x ← ldRow xyz 0 (by decide) t
  let y ← ldRow xyz 1 (by decide) t
  let z ← ldRow xyz 2 (by decide) t
  let y0 := mulBy 2654435761#32 (cell y res)
  let y1 := mulNext 2654435761#32 (cell y res)
  let z0 := mulBy 805459861#32 (cell z res)
  let z1 := mulNext 805459861#32 (cell z res)
  let x0 := cell x res
  let x1 := next x0
  putCorner ib t 0 (word base (xori x0 (xori y0 z0)))
  putCorner ib t 1 (word base (xori x0 (xori y0 z1)))
  putCorner ib t 2 (word base (xori x0 (xori y1 z0)))
  putCorner ib t 3 (word base (xori x0 (xori y1 z1)))
  putCorner ib t 4 (word base (xori x1 (xori y0 z0)))
  putCorner ib t 5 (word base (xori x1 (xori y0 z1)))
  putCorner ib t 6 (word base (xori x1 (xori y1 z0)))
  putCorner ib t 7 (word base (xori x1 (xori y1 z1)))
  pure ⟨⟩

/-- Corner `c`'s two features of group `t`. -/
def getCorner (m : Memref sig κ.kind .vmem S2048 .f32) (t : Fin grpLoop.trips) (c : Fin 8) :
    Prog (TpuEff nD τ sig (Elt F) Λ κ) (FVec F S16 .f32 × FVec F S16 .f32) := do
  let a ← ld16 m (offA t c) (offA_inb t c)
  let b ← ld16 m (offB t c) (offB_inb t c)
  pure (shapeCast S16 a sc_id, shapeCast S16 b sc_id)

/-- One group of the interpolation loop, into rows `r0` and `r1`. -/
def interpBody (xyz : Memref sig κ.kind .vmem S3x128 .f32) (fb : Memref sig κ.kind .vmem S2048 .f32) (ob : Memref sig κ.kind .vmem S32x128 .f32)
    (res : F .f32) (r0 r1 : ℕ) (h0 : r0 < 32) (h1 : r1 < 32) (t : Fin grpLoop.trips) (_ : Unit) : Prog (TpuEff nD τ sig (Elt F) Λ κ) Unit := do
  let x ← ldRow xyz 0 (by decide) t
  let y ← ldRow xyz 1 (by decide) t
  let z ← ldRow xyz 2 (by decide) t
  let x1 := frac x res
  let y1 := frac y res
  let z1 := frac z res
  let x0 := subf one16 x1
  let y0 := subf one16 y1
  let z0 := subf one16 z1
  let f0 ← getCorner fb t 0
  let f1 ← getCorner fb t 1
  let f2 ← getCorner fb t 2
  let f3 ← getCorner fb t 3
  let f4 ← getCorner fb t 4
  let f5 ← getCorner fb t 5
  let f6 ← getCorner fb t 6
  let f7 ← getCorner fb t 7
  let acc (g : FVec F S16 .f32 × FVec F S16 .f32 → FVec F S16 .f32) : FVec F S16 .f32 :=
    addf (addf (addf (addf (addf (addf (addf (addf zero16 (mulf (mulf (mulf x0 y0) z0) (g f0))) (mulf (mulf (mulf x0 y0) z1) (g f1)))
      (mulf (mulf (mulf x0 y1) z0) (g f2))) (mulf (mulf (mulf x0 y1) z1) (g f3))) (mulf (mulf (mulf x1 y0) z0) (g f4)))
      (mulf (mulf (mulf x1 y0) z1) (g f5))) (mulf (mulf (mulf x1 y1) z0) (g f6))) (mulf (mulf (mulf x1 y1) z1) (g f7))
  putRow ob r0 h0 t (acc Prod.fst)
  putRow ob r1 h1 t (acc Prod.snd)
  pure ⟨⟩

end Programs

end Cert.Enc
-- ==== Proof.Block.lean ====
/-
  The encoder's block: one tile's 128 points through the sixteen levels. A level's hash loop writes its table positions into one of two index
  lists, sixteen indirect copies of 128 words fetch them into the list's feature buffer, and while they fly the level before it is waited for
  and interpolated.
-/
module

public import proofs.«01_k».proof.Proof.Pieces

@[expose] public section

noncomputable section

namespace Cert.Enc

open Idealize.ShloMosaic Idealize.ShloMosaic.SparseCore Idealize.SL.Sem

/-- The levels' resolutions, as words, -/
def resWord : Fin 16 → BitVec 32 :=
  ![0x41800000#32, 0x41B00000#32, 0x41F00000#32, 0x42280000#32, 0x42680000#32, 0x42A00000#32, 0x42DE0000#32, 0x43190000#32,
    0x43540000#32, 0x43930000#32, 0x43CB0000#32, 0x440C4000#32, 0x44420000#32, 0x44860000#32, 0x44B94000#32, 0x45000000#32]
/-- and where their tables begin, in entries. -/
def baseWord (l : Fin 16) : BitVec 32 := BitVec.ofNat 32 (524288 * l.val)

theorem gathersTab : STab.Gathers 0 S128 := by decide +kernel

theorem strm_inb (j : Fin 16) : ∀ a, (![128 * j.val] : Fin 1 → ℕ) a + S128.size a ≤ S2048.size a := by
  intro a
  match a with
  | ⟨0, _⟩ => have := j.isLt; change 128 * j.val + 128 ≤ 2048; omega

theorem tab_inb : ∀ a, (![0] : Fin 1 → ℕ) a + STab.size a ≤ STab.size a := by
  intro a
  match a with
  | ⟨0, _⟩ => change 0 + 16777216 ≤ 16777216; omega

variable {nD : Nat} {τ : Topo} {sig : RefSig} {F : FTy → Type} [FloatOps F] {Λ : Labels} {κ : Proc τ}

/-- Stream `j`'s 128 words of a list of 2048, -/
def strm {e : EltTy} (m : Memref sig κ.kind .vmem S2048 e) (j : Fin 16) : Memref sig κ.kind .vmem S128 e :=
  m.slice (Rect.unit (s := S2048) ![128 * j.val] S128.size (strm_inb j)) (fun _ => rfl)
/-- and the whole table as a copy names it. -/
def tabAll (m : Memref sig κ.kind .hbm STab .f32) : Memref sig κ.kind .hbm STab .f32 :=
  m.slice (Rect.unit (s := STab) ![0] STab.size tab_inb) (fun _ => rfl)

/-- Sixteen programs in order. -/
def seq16 (f : Fin 16 → Prog (TpuEff nD τ sig (Elt F) Λ κ) PUnit) : Prog (TpuEff nD τ sig (Elt F) Λ κ) PUnit := do
  f 0; f 1; f 2; f 3; f 4; f 5; f 6; f 7; f 8; f 9; f 10; f 11; f 12; f 13; f 14; f 15

/-- Fifteen programs in order. -/
def seq15 (f : Fin 15 → Prog (TpuEff nD τ sig (Elt F) Λ κ) PUnit) : Prog (TpuEff nD τ sig (Elt F) Λ κ) PUnit := do
  f 0; f 1; f 2; f 3; f 4; f 5; f 6; f 7; f 8; f 9; f 10; f 11; f 12; f 13; f 14

/-- One stream's issue, -/
def fire (hκ : κ.kind = .scVector) (tabs : Memref sig κ.kind .hbm STab .f32) (ib : Memref sig κ.kind .vmem S2048 .i32)
    (fb : Memref sig κ.kind .vmem S2048 .f32) (sem : DmaSem sig) (j : Fin 16) : Prog (TpuEff nD τ sig (Elt F) Λ κ) PUnit :=
  SparseCore.enqueueIndirectGather hκ (tabAll tabs) (strm fb j) gathersTab (strm ib j) rfl sem (View.wordExact_bits rfl) rfl (Or.inl rfl)

/-- and one stream's wait. -/
def await (tabs : Memref sig κ.kind .hbm STab .f32) (fb : Memref sig κ.kind .vmem S2048 .f32) (sem : DmaSem sig) (j : Fin 16) :
    Prog (TpuEff nD τ sig (Elt F) Λ κ) PUnit :=
  SparseCore.waitIndirectGather sem (tabAll tabs) (strm fb j) (View.wordExact_bits rfl) (View.wordExact_bits rfl)

/-- What a block works in. -/
structure Bufs (sig : RefSig) (k : Kind) where
  tabs : Memref sig k .hbm STab .f32
  xyz : Memref sig k .vmem S3x128 .f32
  ib : Fin 2 → Memref sig k .vmem S2048 .i32
  fb : Fin 2 → Memref sig k .vmem S2048 .f32
  ob : Memref sig k .vmem S32x128 .f32
  sem : Fin 2 → DmaSem sig
  hxyz : xyz.IsWhole
  hob : ob.IsWhole

/-- The buffers a level uses: the even levels the first pair, the odd levels the second. -/
def par (l : Fin 16) : Fin 2 := ⟨l.val % 2, Nat.mod_lt _ (by decide)⟩

section
variable (B : Bufs sig κ.kind)

def hashLvl (l : Fin 16) : Prog (TpuEff nD τ sig (Elt F) Λ κ) PUnit :=
  Scf.Loop.for grpLoop (by decide +kernel) ⟨⟩ (hashBody B.xyz (B.ib (par l)) (Scalar.ofBits .f32 (resWord l)) (baseWord l))

theorem row0_lt (l : Fin 16) : 2 * l.val < 32 := by have := l.isLt; omega
theorem row1_lt (l : Fin 16) : 2 * l.val + 1 < 32 := by have := l.isLt; omega

def interpLvl (l : Fin 16) : Prog (TpuEff nD τ sig (Elt F) Λ κ) PUnit :=
  Scf.Loop.for grpLoop (by decide +kernel) ⟨⟩ (interpBody B.xyz (B.fb (par l)) B.ob (Scalar.ofBits .f32 (resWord l)) (2 * l.val) (2 * l.val + 1)
    (row0_lt l) (row1_lt l))

def fireLvl (hκ : κ.kind = .scVector) (l : Fin 16) : Prog (TpuEff nD τ sig (Elt F) Λ κ) PUnit :=
  seq16 (fire hκ B.tabs (B.ib (par l)) (B.fb (par l)) (B.sem (par l)))

def awaitLvl (l : Fin 16) : Prog (TpuEff nD τ sig (Elt F) Λ κ) PUnit :=
  seq16 (await B.tabs (B.fb (par l)) (B.sem (par l)))

/-- Level `l + 1` hashed and issued, level `l` waited for and interpolated. -/
def midLvl (hκ : κ.kind = .scVector) (l : Fin 15) : Prog (TpuEff nD τ sig (Elt F) Λ κ) PUnit := do
  hashLvl B l.succ
  fireLvl B hκ l.succ
  awaitLvl B l.castSucc
  interpLvl B l.castSucc

/-- A block: its coordinates fetched from `src`, its features sent to `dst`. -/
def blockBody (hκ : κ.kind = .scVector) (src : Memref sig κ.kind .hbm S3x128 .f32) (dst : Memref sig κ.kind .hbm S32x128 .f32)
    (rin rout : DmaSem sig) : Prog (TpuEff nD τ sig (Elt F) Λ κ) PUnit := do
  Prog.lift (.enqueueDma src (.here B.xyz) (.dma rin) (View.wordExact_bits rfl) B.hxyz.wordExact ⟨Or.inl rfl, trivial⟩)
  Prog.lift (.waitDma2 rin src B.xyz (View.wordExact_bits rfl) B.hxyz.wordExact)
  hashLvl B 0
  fireLvl B hκ 0
  seq15 (midLvl B hκ)
  awaitLvl B 15
  interpLvl B 15
  Prog.lift (.enqueueDma B.ob (.here dst) (.dma rout) B.hob.wordExact (View.wordExact_bits rfl) ⟨Or.inl rfl, trivial⟩)
  Prog.lift (.waitDma2 rout B.ob dst B.hob.wordExact (View.wordExact_bits rfl))

end

end Cert.Enc
-- ==== Proof.Holds.lean ====
/-
  A buffer by what is read through a memref: `Holds c m q g` says that `m` is held at share `q` and reads as `g`, `HoldsOn c m P G` that it is
  held whole and reads as `G` at the places in `P`. The rules of loads and stores over them, and a triple's use inside a longer program.
-/
module

public import Idealize.ShloMosaic.Lib.SparseCore.Stream
public import Idealize.ShloMosaic.Lib.Batch
public import Idealize.ShloMosaic.Lib.Scf

@[expose] public section

noncomputable section

namespace Cert.Enc

open Idealize.ShloMosaic Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U] {Lvl : Type} [Preorder Lvl] {Λ : Labels}
variable {defs : Defs nD τ sig Val Λ} (𝒱 : Variants) (c : Thread nD τ) (bd : Option 𝒱.V)
variable {α β : Type}

local notation "𝕄" => MT nD τ sig Ix Val Name U Lvl

/-- `m` held at share `q`, reading as `g`. -/
def Holds {sp : Space} {s : Shape} {e : EltTy} (m : Memref sig c.2.kind sp s e) (q : PosShare TreeShare) (g : s.Idx → Val e) : sProp 𝕄 :=
  iprop(∃ f, ⌜m.view.read Val f = g⌝ ∗ (m.view.loc c ↦[m.view.set]{q} f))

/-- `m` held whole, reading as `G` at the places in `P`. -/
def HoldsOn {sp : Space} {s : Shape} {e : EltTy} (m : Memref sig c.2.kind sp s e) (P : s.Idx → Prop) (G : s.Idx → Val e) : sProp 𝕄 :=
  iprop(∃ g, ⌜∀ i, P i → g i = G i⌝ ∗ Holds c m fullShare g)

section Basic

variable {sp : Space} {s : Shape} {e : EltTy} {m : Memref sig c.2.kind sp s e}

theorem Holds.intro {q : PosShare TreeShare} {f : Buf Val (m.view.loc c)} :
    (m.view.loc c ↦[m.view.set]{q} f : sProp 𝕄) ⊢ Holds c m q (m.view.read Val f) := by
  unfold Holds; iintro H; iexists f; isplitr; · ipureintro; rfl
  iexact H

theorem HoldsOn.weaken {P P' : s.Idx → Prop} {G : s.Idx → Val e} (h : ∀ i, P' i → P i) :
    (HoldsOn c m P G : sProp 𝕄) ⊢ HoldsOn c m P' G := by
  unfold HoldsOn; iintro ⟨%g, %hg, H⟩; iexists g; isplitr; · ipureintro; exact fun i hi => hg i (h i hi)
  iexact H

theorem HoldsOn.of_holds {P : s.Idx → Prop} {g G : s.Idx → Val e} (h : ∀ i, P i → g i = G i) :
    (Holds c m fullShare g : sProp 𝕄) ⊢ HoldsOn c m P G := by
  unfold HoldsOn; iintro H; iexists g; isplitr; · ipureintro; exact h
  iexact H

theorem HoldsOn.full {P : s.Idx → Prop} {G : s.Idx → Val e} (h : ∀ i, P i) : (HoldsOn c m P G : sProp 𝕄) ⊢ Holds c m fullShare G := by
  unfold HoldsOn; iintro ⟨%g, %hg, H⟩
  rw [show g = G from funext fun i => hg i (h i)]
  iexact H

end Basic

/-- A triple used in front of what follows. -/
theorem step {p : Prog (TpuEff nD τ sig Val Λ c.2) α} {k : α → Prog (TpuEff nD τ sig Val Λ c.2) β} {X : sProp 𝕄} {Y : α → sProp 𝕄}
    {Q : β → sProp 𝕄} (h : X ⊢ wp frame (wpE defs 𝒱 c bd) Set.univ p Y) :
    X ⊢ iprop((∀ v, Y v -∗ wp frame (wpE defs 𝒱 c bd) Set.univ (k v) Q) -∗ wp frame (wpE defs 𝒱 c bd) Set.univ (p >>= k) Q) := by
  rw [wp_bind]
  refine h.trans (wand_intro ?_)
  refine (wp_frame_r _ _ _).trans (wp_mono _ _ _ fun v => ?_)
  iintro ⟨HY, H⟩
  iapply H $$ %v HY

section Access

variable {cs : CoreSpace} {s : Shape} {e : EltTy} {m : Memref sig c.2.kind cs s e} {r : Rect s}

theorem ld_holds {hl : m.view.LoadsAt r.toLoadRect} {q : PosShare TreeShare} {g : s.Idx → Val e}
    {k : (r.shape.Idx → Val e) → Prog (TpuEff nD τ sig Val Λ c.2) β} {Q : β → sProp 𝕄} :
    (Holds c m q g)
      ⊢ iprop((Holds c m q g -∗ wp frame (wpE defs 𝒱 c bd) Set.univ (k fun i => g (r.emb i)) Q)
        -∗ wp frame (wpE defs 𝒱 c bd) Set.univ ((Prog.lift (.load m r.toLoadRect hl)) >>= k) Q) := by
  unfold Holds
  iintro ⟨%f, %hf, H⟩ Hk
  subst hf
  iapply (wp_load_rect 𝒱 c bd Set.univ (m := m) (r := r) (hl := hl) (S := m.view.set) (View.set_slice_subset _ r)) $$ H
  iintro H
  iapply Hk
  iexists f; isplitr; · ipureintro; rfl
  iexact H

theorem ld_any {hl : m.view.LoadsAt r.toLoadRect} {P : s.Idx → Prop} {G : s.Idx → Val e}
    {k : (r.shape.Idx → Val e) → Prog (TpuEff nD τ sig Val Λ c.2) β} {Q : β → sProp 𝕄} :
    (HoldsOn c m P G)
      ⊢ iprop((∀ v, HoldsOn c m P G -∗ wp frame (wpE defs 𝒱 c bd) Set.univ (k v) Q)
        -∗ wp frame (wpE defs 𝒱 c bd) Set.univ ((Prog.lift (.load m r.toLoadRect hl)) >>= k) Q) := by
  unfold HoldsOn
  iintro ⟨%g, %hg, H⟩ Hk
  iapply (ld_holds 𝒱 c bd (r := r) (hl := hl)) $$ H
  iintro H
  iapply Hk $$ %_
  iexists g; isplitr; · ipureintro; exact hg
  iexact H

theorem st_on {w : r.shape.Idx → Val e} {hx : (m.access r).Stores Finset.univ} {hm : (Finset.univ : Finset r.shape.Idx) = Finset.univ ∨ ∀ a, r.stride a = 1}
    {P P' : s.Idx → Prop} {G : s.Idx → Val e} {k : PUnit → Prog (TpuEff nD τ sig Val Λ c.2) β} {Q : β → sProp 𝕄}
    (hw : ∀ x, w x = G (r.emb x)) (hP : ∀ i, P' i → P i ∨ i ∈ r.set) :
    (HoldsOn c m P G)
      ⊢ iprop((HoldsOn c m P' G -∗ wp frame (wpE defs 𝒱 c bd) Set.univ (k ⟨⟩) Q)
        -∗ wp frame (wpE defs 𝒱 c bd) Set.univ ((Prog.lift (.store m r w Finset.univ hx hm)) >>= k) Q) := by
  unfold HoldsOn Holds
  iintro ⟨%g, %hg, %f, %hf, H⟩ Hk
  subst hf
  iapply (wp_store 𝒱 c bd Set.univ (m := m) (r := r) (hx := hx) (hm := hm) (S := m.view.set) (View.set_slice_subset _ r)) $$ H
  iintro H
  iapply Hk
  iexists m.view.read Val ((m.access r).write Val f w Finset.univ)
  isplitr
  · ipureintro
    intro i hi
    by_cases hr : i ∈ r.set
    · obtain ⟨x, rfl⟩ : ∃ x, r.emb x = i := LoadRect.exists_idx_of_mem _ hr
      rw [← hw x]
      exact congrFun (View.read_write_univ (v := m.access r) f w) x
    · rcases hP i hi with h | h
      · rw [← hg i h]
        exact View.read_slice_write_of_not_mem (v := m.view) r f w Finset.univ (by rwa [Rect.map_emb_univ])
      · exact absurd h hr
  iexists _; isplitr; · ipureintro; rfl
  iexact H

end Access

end Cert.Enc
-- ==== Proof.GatherBatch.lean ====
/-
  An indirect gather issued into a BATCH: the rows of several streams outstanding at once on one DMA semaphore, each row one entry of the
  batch (`Transfers.Batch`), every row of the same credit. The issue of a stream of `m` rows moves the batch from `k` entries issued to `k + m`.
-/
module

public import Idealize.ShloMosaic.Lib.SparseCore.Stream
public import Idealize.ShloMosaic.Lib.Batch

@[expose] public section

noncomputable section

namespace Cert.Enc

open Idealize.ShloMosaic Idealize.ShloMosaic.SparseCore Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The entries `k …` not yet issued are the next `m` and those after them. -/
theorem bigSep_pending_block {n : ℕ} (Φ : Fin n → sProp 𝕄) (k m : ℕ) (h : k + m ≤ n) :
    bigSep (pending k) Φ ⊢ iprop(bigSep (Finset.univ : Finset (Fin m)) (fun j => Φ ⟨k + j.val, by omega⟩) ∗ bigSep (pending (k + m)) Φ) := by
  have hd : pending (n := n) k = (Finset.univ.image fun j : Fin m => (⟨k + j.val, by omega⟩ : Fin n)) ∪ pending (k + m) := by
    ext t
    simp only [pending, Finset.mem_filter, Finset.mem_univ, true_and, Finset.mem_union, Finset.mem_image]
    constructor
    · intro ht
      by_cases h' : k + m ≤ t.val
      · exact .inr h'
      · exact .inl ⟨⟨t.val - k, by omega⟩, Fin.ext (by simp; omega)⟩
    · rintro (⟨j, rfl⟩ | h')
      · simp
      · omega
  have hdis : Disjoint (Finset.univ.image fun j : Fin m => (⟨k + j.val, by omega⟩ : Fin n)) (pending (k + m)) := by
    rw [Finset.disjoint_left]
    intro t ht ht'
    simp only [pending, Finset.mem_filter, Finset.mem_univ, true_and, Finset.mem_image] at ht ht'
    obtain ⟨j, rfl⟩ := ht
    have := j.isLt
    simp at ht'
    omega
  rw [hd]
  refine (Entails.of_eq (BI.bigSep_union hdis)).trans (sep_mono_left (Entails.of_eq ?_))
  refine BI.bigSep_image_of_injOn ?_ Φ
  intro x _ y _ hxy
  have := congrArg Fin.val hxy
  exact Fin.ext (by simp at this; exact this)

/-- What row `j` of the gather from `src` by `offs` into `dst` delivers: the row of `dst` written, the list's entry and the row's piece of `src` back. -/
def rowDeliv {src : Memref sig c.2.kind sp s₀ e} {dst : Memref sig c.2.kind .vmem s e} (hg : s₀.Gathers a s)
    {offs : Memref sig c.2.kind .vmem si .i32} (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (fun i : (s.rowShape hg.axis').Idx => src.view.read (Elt F) fs (hg.rowIdx (rows (offs.view.read (Elt F) fo) hn hin j) i)) Finset.univ))
        ∗ (offs.view.loc c ↦[{offs.view.emb (si.rowMajor.symm (j.cast hn.symm))}]{qo} fo))
      ∗ (src.view.loc c ↦[src.view.set]{pieceOf q _ ho j} fs))

instance rowDeliv_storable {src : Memref sig c.2.kind sp s₀ e} {dst : Memref sig c.2.kind .vmem s e} (hg : s₀.Gathers a s)
    {offs : Memref sig c.2.kind .vmem si .i32} (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) (j : Fin (s.size hg.axis')) :
    Storable (upEmb : UEmb _ 𝕄) (rowDeliv c hg hn q qo fs fd fo ho hin j) := by
  unfold rowDeliv; infer_instance

/-- All rows delivered: the destination written with the gather's payload, the two shares back. -/
theorem rowDeliv_join {src : Memref sig c.2.kind sp s₀ e} {dst : Memref sig c.2.kind .vmem s e} (hg : s₀.Gathers a s)
    {offs : Memref sig c.2.kind .vmem si .i32} (hn : si.numel = s.size hg.axis')
    (q qo : PosShare TreeShare) (fs : Buf (Elt F) (src.view.loc c)) (fd : Buf (Elt F) (dst.view.loc c)) (fo : Buf (Elt F) (offs.view.loc c))
    (ho : 0 < s.size hg.axis') (hin : ∀ x, (offs.view.read (Elt F) fo x).toNat < s₀.size hg.axis) :
    bigSep Finset.univ (rowDeliv (Ix := Ix) (Name := Name) (U := U) (Lvl := Lvl) c hg hn q qo fs fd fo ho hin)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective fun j : Fin (s.size hg.axis') => si.rowMajor.symm (j.cast hn.symm) :=
    si.rowMajor.symm.bijective.comp (finCongr hn.symm).bijective
  have hW : ∀ j i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  unfold rowDeliv
  iintro H
  ihave H' := Transfers.bigSep_sep_out _ _ _ $$ H
  icases H' with ⟨H1, Hs⟩
  ihave H1' := Transfers.bigSep_sep_out _ _ _ $$ H1
  icases H1' with ⟨Hd, Ho⟩
  isplitl [Hd]
  · iapply (pointsTo_rows_write (Ix := Ix) (Name := Name) (U := U) (Lvl := Lvl) c dst.view hg.axis' fd _ _ hW) $$ Hd
  isplitl [Hs]
  · iapply (Entails.of_eq (pointsTo_piecesOf (src.view.set) fs ho q).symm) $$ Hs
  · iapply (Entails.of_eq (pointsTo_entries c offs.view _ hen qo fo).symm) $$ Ho

/-- An indirect gather issued into a batch of rows at entries `k …`: each row's delivery is the batch's at its entry (`hD`). -/
theorem wp_gatherIssue [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) {n : ℕ} {D : Fin n → sProp 𝕄} {k₀ : ℕ}
    (hN : ∀ j, (dst.slice (s.rowRect hg.axis' j) (s.stride_rowRect hg.axis' j)).view.dmaCredit = N)
    (hk : k₀ + s.size hg.axis' ≤ n) (ho : 0 < s.size hg.axis')
    (hin : ∀ x, (offs.view.read (Elt F) fo x).toNat < s₀.size hg.axis)
    (hD : ∀ j : Fin (s.size hg.axis'), rowDeliv c hg hn q qo fs fd fo ho hin j ⊢ D ⟨k₀ + j.val, by omega⟩) :
    iprop(Batch EC c (.dma sem) ι N D k₀ 0 ∗ (src.view.loc c ↦[src.view.set]{q} fs) ∗ (dst.view.loc c ↦[dst.view.set]{fullShare} fd)
        ∗ (offs.view.loc c ↦[offs.view.set]{qo} fo))
      ⊢ iprop((Batch EC c (.dma sem) ι N D (k₀ + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem :=
    fun j => gatherRow c src dst hg sem hsrc he hsp hr j (rows (offs.view.read (Elt F) fo) hn hin j)
  have hagree : S.RowsAgree := by
    intro j x x' ρ ρ' h h'
    obtain ⟨_, _, rfl⟩ := Option.map_eq_some_iff.mp h
    obtain ⟨_, _, rfl⟩ := Option.map_eq_some_iff.mp h'
    rfl
  have hnamed : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have htot : ∑ j, (rd j).dst.view.dmaCredit = s.size hg.axis' * N := by
    rw [Finset.sum_congr rfl fun j _ => hN j, Finset.sum_const, Finset.card_univ, Fintype.card_fin, smul_eq_mul]
  unfold Batch
  iintro ⟨⟨%γ, %γ₀, %κ, #Hinv, Hγ, Hu, Hc⟩, Hs, Hd, Ho⟩ Hk
  ihave Hγ2 := (bigSep_pending_block (fun t => count EC (γ t) 0) k₀ (s.size hg.axis') hk) $$ Hγ
  icases Hγ2 with ⟨Hγ, Hrest⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hagree hnamed htot) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨k₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (fun i : (s.rowShape hg.axis').Idx => src.view.read (Elt F) fs (hg.rowIdx (rows (offs.view.read (Elt F) fo) hn hin j) i)) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hcu := batch_creditUpdate EC (g := (c, SemLoc.dma sem)) (N := N) (D := D) (γ := γ) (γ₀ := γ₀) (ι := κ) ⟨k₀ + j.val, by omega⟩ (hD j)
        rw [← hN j] at hcu
        iapply hcu
        isplitr; · rw [hN j]; iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcred
    iapply Hk
    iexists γ, γ₀, κ
    isplitr; · iexact Hinv
    isplitl [Hrest]; · iexact Hrest
    isplitl [Hu]; · iexact Hu
    have hcr : (cred (tallyAt (c, SemLoc.dma sem) ι ((k₀ + s.size hg.axis') * N - 0)) : sProp 𝕄)
        = cred (tallyAt (c, SemLoc.dma sem) ι (k₀ * N - 0) + tallyAt (c, SemLoc.dma sem) ι (s.size hg.axis' * N)) := by
      rw [tallyAt_add]; congr 2; simp [Nat.add_mul]
    rw [hcr]
    iapply (cred_add _ _).2
    isplitl [Hc] <;> iassumption

end Cert.Enc
-- ==== Proof.Point.lean ====
/-
  The encoding of one point at one level, in the kernel's own arithmetic: the cell it lies in, its eight corners' positions in the flat tables,
  their weights and the weighted sum; then a block's index list, feature list and result by position.
-/
module

public import proofs.«01_k».proof.Proof.Block
public import Idealize.ShloMosaic.Lib.ValueIdxCore
public import Idealize.ShloMosaic.Lib.Pipeline.Value

@[expose] public section

noncomputable section

namespace Cert.Enc

open Idealize.ShloMosaic Idealize.ShloMosaic.ValueIdx

variable {F : FTy → Type} [FloatOps F]

/-- A coordinate's cell at a resolution, -/
def cellAt (v res : F .f32) : BitVec 32 := FloatOps.fptosi 32 (FloatOps.mulf v res)
/-- and where in the cell it lies. -/
def fracAt (v res : F .f32) : F .f32 := FloatOps.subf (FloatOps.mulf v res) (FloatOps.sitofp .f32 (cellAt v res))

/-- The hash of corner `c` of a cell; the three bits of `c` say on which axes the corner is the next cell's. -/
def hashAt (x y z : BitVec 32) (c : Fin 8) : BitVec 32 :=
  IntOp.xori (if 4 ≤ c.val then IntOp.addi x 1#32 else x)
    (IntOp.xori (if c.val / 2 % 2 = 1 then IntOp.addi (IntOp.muli y 2654435761#32) 2654435761#32 else IntOp.muli y 2654435761#32)
      (if c.val % 2 = 1 then IntOp.addi (IntOp.muli z 805459861#32) 805459861#32 else IntOp.muli z 805459861#32))

/-- The position of corner `c`'s feature `f` in the flat tables. -/
def posAt (x y z res : F .f32) (base : BitVec 32) (c : Fin 8) (f : ℕ) : BitVec 32 :=
  if f = 0 then IntOp.shli .vector (IntOp.addi (IntOp.andi (hashAt (cellAt x res) (cellAt y res) (cellAt z res) c) 524287#32) base) 1#32
  else IntOp.addi (IntOp.shli .vector (IntOp.addi (IntOp.andi (hashAt (cellAt x res) (cellAt y res) (cellAt z res) c) 524287#32) base) 1#32) 1#32

def oneF : F .f32 := Scalar.ofBits .f32 0x3F800000#32
def zeroF : F .f32 := Scalar.ofBits .f32 0x00000000#32

/-- An axis's weight, of the next cell's corner or of the cell's own. -/
def sideAt (next : Bool) (v res : F .f32) : F .f32 := if next then fracAt v res else FloatOps.subf oneF (fracAt v res)

def wgtAt (x y z res : F .f32) (c : Fin 8) : F .f32 :=
  FloatOps.mulf (FloatOps.mulf (sideAt (decide (4 ≤ c.val)) x res) (sideAt (decide (c.val / 2 % 2 = 1)) y res)) (sideAt (decide (c.val % 2 = 1)) z res)

/-- Eight terms summed in order from zero. -/
def sum8 (f : Fin 8 → F .f32) : F .f32 :=
  FloatOps.addf (FloatOps.addf (FloatOps.addf (FloatOps.addf (FloatOps.addf (FloatOps.addf (FloatOps.addf (FloatOps.addf zeroF (f 0)) (f 1)) (f 2)) (f 3))
    (f 4)) (f 5)) (f 6)) (f 7)

/-- A point's feature `f` at a level, the tables read by position. -/
def featAt (x y z res : F .f32) (base : BitVec 32) (T : BitVec 32 → F .f32) (f : ℕ) : F .f32 :=
  sum8 fun c => FloatOps.mulf (wgtAt x y z res c) (T (posAt x y z res base c f))

/-- A position of an index list: which point of the block, which corner, which feature. -/
theorem ptOf_lt (n : ℕ) : n % 1024 / 128 * 16 + n % 16 < 128 := by omega
theorem cornerOf_lt (n : ℕ) : n % 128 / 16 < 8 := by omega

/-- A block's index list, by position, -/
def idxList (g : S3x128.Idx → F .f32) (res : F .f32) (base : BitVec 32) : S2048.Idx → BitVec 32 := fun p =>
  posAt (g (ix2 0 ⟨_, ptOf_lt (p 0).val⟩)) (g (ix2 1 ⟨_, ptOf_lt (p 0).val⟩)) (g (ix2 2 ⟨_, ptOf_lt (p 0).val⟩)) res base
    ⟨_, cornerOf_lt (p 0).val⟩ ((p 0).val / 1024)

/-- the features it names, -/
def featList (g : S3x128.Idx → F .f32) (res : F .f32) (base : BitVec 32) (T : BitVec 32 → F .f32) : S2048.Idx → F .f32 := fun p =>
  T (idxList g res base p)

theorem lvlOf_lt (r : Fin 32) : r.val / 2 < 16 := by omega

/-- and a block's result: rows `2 l` and `2 l + 1` hold level `l`'s two features. -/
def outBlk (g : S3x128.Idx → F .f32) (T : BitVec 32 → F .f32) : S32x128.Idx → F .f32 := fun i =>
  featAt (g (ix2 0 (i 1))) (g (ix2 1 (i 1))) (g (ix2 2 (i 1))) (Scalar.ofBits .f32 (resWord ⟨_, lvlOf_lt (i 0)⟩)) (baseWord ⟨_, lvlOf_lt (i 0)⟩) T
    ((i 0).val % 2)

theorem idxList_at (g : S3x128.Idx → F .f32) (res : F .f32) (base : BitVec 32) (f t x : ℕ) (c : Fin 8) (ht : t < 8) (hx : x < 16) (hf : f < 2)
    (p : S2048.Idx) (hp : (p 0).val = 1024 * f + 128 * t + 16 * c.val + x) :
    idxList g res base p = posAt (g (ix2 0 ⟨16 * t + x, by omega⟩)) (g (ix2 1 ⟨16 * t + x, by omega⟩)) (g (ix2 2 ⟨16 * t + x, by omega⟩)) res base c f := by
  have hc := c.isLt
  have e1 : (⟨_, ptOf_lt (p 0).val⟩ : Fin 128) = ⟨16 * t + x, by omega⟩ := Fin.ext (by simp only; omega)
  have e2 : (⟨_, cornerOf_lt (p 0).val⟩ : Fin 8) = c := Fin.ext (by simp only; omega)
  have e3 : (p 0).val / 1024 = f := by omega
  unfold idxList
  rw [e1, e2, e3]

/-- The sixteen values of a row read at a group, as a vector. -/
theorem row_at {n : ℕ} (g : (⟨2, ![n, 128]⟩ : Shape).Idx → F .f32) (r : ℕ) (hr : r < n) (t : Fin grpLoop.trips) (x : S16.Idx) :
    shapeCast S16 (fun i => g ((Rect.unit (s := ⟨2, ![n, 128]⟩) (rowOff r t) S1x16.size (rowOff_inb r hr t)).emb i)) sc_row x
      = g (ix2 ⟨r, hr⟩ ⟨16 * t.val + (x 0).val, by
          have h1 : (x 0).val < 16 := (x 0).isLt; have h2 : t.val < 8 := lt_of_lt_of_eq t.isLt grpLoop_trips; omega⟩) := by
  have h1 : (x 0).val < 16 := (x 0).isLt
  rw [shapeCast_apply _ sc_row x (ix2 (0 : Fin 1) (⟨(x 0).val, h1⟩ : Fin 16)) (by
    rw [Shape.rowMajor_val_two, Shape.rowMajor_val_one]; simp)]
  refine congrArg g (funext fun a => Fin.ext ?_)
  match a with
  | ⟨0, _⟩ => rw [Rect.emb_apply]; change r + 1 * 0 = r; omega
  | ⟨1, _⟩ => have h := rowOff_col r t; rw [Rect.emb_apply]; change rowOff r t 1 + 1 * (x 0).val = 16 * t.val + (x 0).val; omega

/-- A row of a block read at a group, as a load gives it. -/
def rowV (g : S3x128.Idx → F .f32) (r : ℕ) (hr : r < 3) (t : Fin grpLoop.trips) : S1x16.Idx → F .f32 := fun i =>
  g ((Rect.unit (s := ⟨2, ![3, 128]⟩) (rowOff r t) S1x16.size (rowOff_inb r hr t)).emb i)

theorem rowV_at (g : S3x128.Idx → F .f32) (r : ℕ) (hr : r < 3) (t : Fin grpLoop.trips) (x : S16.Idx) (h : 16 * t.val + (x 0).val < 128) :
    shapeCast S16 (rowV g r hr t) sc_row x = g (ix2 ⟨r, hr⟩ ⟨16 * t.val + (x 0).val, h⟩) := row_at g r hr t x

/-- A place of the index list, from the rows as read. -/
theorem corner_at (g : S3x128.Idx → F .f32) (res : F .f32) (base : BitVec 32) (t : Fin grpLoop.trips) (x : S16.Idx) (c : Fin 8) (f : ℕ) (hf : f < 2)
    (p : S2048.Idx) (hp : (p 0).val = 1024 * f + 128 * t.val + 16 * c.val + (x 0).val) :
    posAt (shapeCast S16 (rowV g 0 (by decide) t) sc_row x) (shapeCast S16 (rowV g 1 (by decide) t) sc_row x)
      (shapeCast S16 (rowV g 2 (by decide) t) sc_row x) res base c f = idxList g res base p := by
  have ht : t.val < 8 := lt_of_lt_of_eq t.isLt grpLoop_trips
  have hx : (x 0).val < 16 := (x 0).isLt
  rw [idxList_at g res base f t.val (x 0).val c ht hx hf p hp, rowV_at g 0 _ t x (by omega),
    rowV_at g 1 _ t x (by omega), rowV_at g 2 _ t x (by omega)]
  rfl

/-- A place of the result, from the rows as read. -/
theorem out_at (g : S3x128.Idx → F .f32) (T : BitVec 32 → F .f32) (l : Fin 16) (f : ℕ) (hf : f < 2) (t : Fin grpLoop.trips) (x : S16.Idx)
    (p : S32x128.Idx) (h0 : (p 0).val = 2 * l.val + f) (h1 : (p 1).val = 16 * t.val + (x 0).val) :
    featAt (shapeCast S16 (rowV g 0 (by decide) t) sc_row x) (shapeCast S16 (rowV g 1 (by decide) t) sc_row x)
      (shapeCast S16 (rowV g 2 (by decide) t) sc_row x) (Scalar.ofBits .f32 (resWord l)) (baseWord l) T f = outBlk g T p := by
  have e1 : (⟨_, lvlOf_lt (p 0)⟩ : Fin 16) = l := Fin.ext (by simp only; omega)
  have e2 : (p 0).val % 2 = f := by omega
  have ht : t.val < 8 := lt_of_lt_of_eq t.isLt grpLoop_trips
  have hx : (x 0).val < 16 := (x 0).isLt
  have e3 : p 1 = (⟨16 * t.val + (x 0).val, by omega⟩ : Fin 128) := Fin.ext h1
  unfold outBlk
  rw [e1, e2, e3, rowV_at g 0 _ t x (by omega), rowV_at g 1 _ t x (by omega), rowV_at g 2 _ t x (by omega)]
  rfl

/-- The fetched features of a corner, as a load gives them: its first, -/
def valA (l : S2048.Idx → F .f32) (t : Fin grpLoop.trips) (c : Fin 8) : FVec F S16 .f32 :=
  shapeCast S16 (fun i => l ((Rect.unit (s := S2048) (offA t c) S16.size (offA_inb t c)).emb i) : Vec F S16 .f32) sc_id
/-- and its second. -/
def valB (l : S2048.Idx → F .f32) (t : Fin grpLoop.trips) (c : Fin 8) : FVec F S16 .f32 :=
  shapeCast S16 (fun i => l ((Rect.unit (s := S2048) (offB t c) S16.size (offB_inb t c)).emb i) : Vec F S16 .f32) sc_id

theorem valA_at (g : S3x128.Idx → F .f32) (res : F .f32) (base : BitVec 32) (T : BitVec 32 → F .f32) (t : Fin grpLoop.trips) (c : Fin 8) (x : S16.Idx) :
    valA (featList g res base T) t c x = T (posAt (shapeCast S16 (rowV g 0 (by decide) t) sc_row x) (shapeCast S16 (rowV g 1 (by decide) t) sc_row x)
      (shapeCast S16 (rowV g 2 (by decide) t) sc_row x) res base c 0) := by
  unfold valA
  rw [shapeCast_apply _ sc_id x x rfl]
  refine congrArg T (corner_at g res base t x c 0 (by omega) _ ?_).symm
  have h := offA_eq t c
  rw [Rect.emb_apply]; change offA t c 0 + 1 * (x 0).val = _; omega

theorem valB_at (g : S3x128.Idx → F .f32) (res : F .f32) (base : BitVec 32) (T : BitVec 32 → F .f32) (t : Fin grpLoop.trips) (c : Fin 8) (x : S16.Idx) :
    valB (featList g res base T) t c x = T (posAt (shapeCast S16 (rowV g 0 (by decide) t) sc_row x) (shapeCast S16 (rowV g 1 (by decide) t) sc_row x)
      (shapeCast S16 (rowV g 2 (by decide) t) sc_row x) res base c 1) := by
  unfold valB
  rw [shapeCast_apply _ sc_id x x rfl]
  refine congrArg T (corner_at g res base t x c 1 (by omega) _ ?_).symm
  have h := offB_eq t c
  rw [Rect.emb_apply]; change offB t c 0 + 1 * (x 0).val = _; omega

/-- What the interpolation stores, at a place: the weighted sum over the corners of what it loaded. -/
theorem accA_at (g : S3x128.Idx → F .f32) (T : BitVec 32 → F .f32) (l : Fin 16) (t : Fin grpLoop.trips) (x : S16.Idx) (p : S32x128.Idx)
    (h0 : (p 0).val = 2 * l.val) (h1 : (p 1).val = 16 * t.val + (x 0).val) :
    sum8 (fun c => FloatOps.mulf (wgtAt (shapeCast S16 (rowV g 0 (by decide) t) sc_row x) (shapeCast S16 (rowV g 1 (by decide) t) sc_row x)
      (shapeCast S16 (rowV g 2 (by decide) t) sc_row x) (Scalar.ofBits .f32 (resWord l)) c)
      (valA (featList g (Scalar.ofBits .f32 (resWord l)) (baseWord l) T) t c x)) = outBlk g T p := by
  rw [← out_at g T l 0 (by omega) t x p h0 h1]
  unfold featAt
  simp only [valA_at]

theorem accB_at (g : S3x128.Idx → F .f32) (T : BitVec 32 → F .f32) (l : Fin 16) (t : Fin grpLoop.trips) (x : S16.Idx) (p : S32x128.Idx)
    (h0 : (p 0).val = 2 * l.val + 1) (h1 : (p 1).val = 16 * t.val + (x 0).val) :
    sum8 (fun c => FloatOps.mulf (wgtAt (shapeCast S16 (rowV g 0 (by decide) t) sc_row x) (shapeCast S16 (rowV g 1 (by decide) t) sc_row x)
      (shapeCast S16 (rowV g 2 (by decide) t) sc_row x) (Scalar.ofBits .f32 (resWord l)) c)
      (valB (featList g (Scalar.ofBits .f32 (resWord l)) (baseWord l) T) t c x)) = outBlk g T p := by
  rw [← out_at g T l 1 (by omega) t x p h0 h1]
  unfold featAt
  simp only [valB_at]

end Cert.Enc
-- ==== Proof.Fires.lean ====
/-
  A level's sixteen indirect copies: their issue turns the index list, the feature buffer and a share of the tables into one batch of 2048 rows
  in flight (`Flying`), and the sixteen waits turn it back, the feature buffer holding the words that the list names.
-/
module

public import proofs.«01_k».proof.Proof.Holds
public import proofs.«01_k».proof.Proof.GatherBatch
public import proofs.«01_k».proof.Proof.Point

@[expose] public section

noncomputable section

namespace Cert.Enc

open Idealize.ShloMosaic Idealize.ShloMosaic.SparseCore Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)

local notation "𝕄" => MT nD τ sig Ix (Elt F) Name U Lvl

/-- A family, each in place of the other. -/
theorem bigSep_imp {α : Type} [Fintype α] [DecidableEq α] {Φ Ψ : α → sProp 𝕄} (h : ∀ j, Φ j ⊢ Ψ j) : bigSep Finset.univ Φ ⊢ bigSep Finset.univ Ψ :=
  BI.bigSep_mono fun j _ => h j

/-- Sixteen programs in order, by an invariant. -/
theorem seq16_spec (f : Fin 16 → Prog (TpuEff nD τ sig (Elt F) Λ c.2) PUnit) (I : ℕ → sProp 𝕄)
    (h : ∀ j : Fin 16, I j.val ⊢ wp frame (wpE defs 𝒱 c bd) Set.univ (f j) (fun _ => I (j.val + 1))) :
    I 0 ⊢ wp frame (wpE defs 𝒱 c bd) Set.univ (seq16 f) (fun _ => I 16) := by
  have h' : ∀ (n : ℕ) (j : Fin 16), j.val = n → (I n ⊢ wp frame (wpE defs 𝒱 c bd) Set.univ (f j) (fun _ => I n.succ)) := fun n j e => e ▸ h j
  unfold seq16
  iintro H
  iapply (step 𝒱 c bd (h' 0 0 rfl)) $$ H; iintro %_ H
  iapply (step 𝒱 c bd (h' 1 1 rfl)) $$ H; iintro %_ H
  iapply (step 𝒱 c bd (h' 2 2 rfl)) $$ H; iintro %_ H
  iapply (step 𝒱 c bd (h' 3 3 rfl)) $$ H; iintro %_ H
  iapply (step 𝒱 c bd (h' 4 4 rfl)) $$ H; iintro %_ H
  iapply (step 𝒱 c bd (h' 5 5 rfl)) $$ H; iintro %_ H
  iapply (step 𝒱 c bd (h' 6 6 rfl)) $$ H; iintro %_ H
  iapply (step 𝒱 c bd (h' 7 7 rfl)) $$ H; iintro %_ H
  iapply (step 𝒱 c bd (h' 8 8 rfl)) $$ H; iintro %_ H
  iapply (step 𝒱 c bd (h' 9 9 rfl)) $$ H; iintro %_ H
  iapply (step 𝒱 c bd (h' 10 10 rfl)) $$ H; iintro %_ H
  iapply (step 𝒱 c bd (h' 11 11 rfl)) $$ H; iintro %_ H
  iapply (step 𝒱 c bd (h' 12 12 rfl)) $$ H; iintro %_ H
  iapply (step 𝒱 c bd (h' 13 13 rfl)) $$ H; iintro %_ H
  iapply (step 𝒱 c bd (h' 14 14 rfl)) $$ H; iintro %_ H
  iapply (h' 15 15 rfl) $$ H

/-- What a core still owes, its waits at index `ι` beyond `W₀` recorded, and that it may wait there. -/
def Ow (ι : Ix) (O : CellTallies nD τ sig Ix) (W₀ : Waits sig Ix) : sProp 𝕄 :=
  iprop(MayWaits c ι O ∗ ∃ W, ⌜∀ p ∈ W, p ∈ W₀ ∨ p.2 = ι⌝ ∗ owes c O W)

section Split

variable {sp : Space} {e : EltTy}

/-- The places of stream `j` in a list's buffer. -/
def strmSet {κ : Proc τ} (m : Memref sig κ.kind .vmem S2048 e) (j : Fin 16) : Finset m.view.ty.Idx :=
  (Rect.unit (s := S2048) ![128 * j.val] S128.size (strm_inb j)).set.map m.view.emb

theorem strm_set {κ : Proc τ} (m : Memref sig κ.kind .vmem S2048 e) (j : Fin 16) : (strm m j).view.set = strmSet m j := View.set_slice _ _

theorem strm_disj {κ : Proc τ} (m : Memref sig κ.kind .vmem S2048 e) (j j' : Fin 16) (h : j ≠ j') : Disjoint (strmSet m j) (strmSet m j') := by
  unfold strmSet
  rw [Finset.disjoint_map, Finset.disjoint_left]
  intro i hi hi'
  rw [Rect.mem_set_unit] at hi hi'
  have h0 : 128 * j.val ≤ (i 0).val ∧ (i 0).val < 128 * j.val + 128 := hi 0
  have h1 : 128 * j'.val ≤ (i 0).val ∧ (i 0).val < 128 * j'.val + 128 := hi' 0
  exact h (Fin.ext (by omega))

theorem strm_cover {κ : Proc τ} (m : Memref sig κ.kind .vmem S2048 e) : m.view.set = Finset.univ.biUnion fun j : Fin 16 => strmSet m j := by
  ext i
  rw [Finset.mem_biUnion]
  constructor
  · intro hi
    obtain ⟨x, -, rfl⟩ := Finset.mem_map.mp hi
    have hx : (x 0).val < 2048 := (x 0).isLt
    refine ⟨⟨(x 0).val / 128, by omega⟩, Finset.mem_univ _, ?_⟩
    refine Finset.mem_map_of_mem _ ?_
    rw [Rect.mem_set_unit]; intro a
    match a with
    | ⟨0, _⟩ => change 128 * ((x 0).val / 128) ≤ (x 0).val ∧ (x 0).val < 128 * ((x 0).val / 128) + 128; omega
  · rintro ⟨j, -, hi⟩
    obtain ⟨x, -, rfl⟩ := Finset.mem_map.mp hi
    exact Finset.mem_map_of_mem _ (Finset.mem_univ _)

/-- A list of 2048 words is its sixteen streams'. -/
theorem strm_split (m : Memref sig c.2.kind .vmem S2048 e) (q : PosShare TreeShare) (f : Buf (Elt F) (m.view.loc c)) :
    (m.view.loc c ↦[m.view.set]{q} f : sProp 𝕄) = bigSep Finset.univ fun j : Fin 16 => (strm m j).view.loc c ↦[(strm m j).view.set]{q} f := by
  have h : (m.view.loc c ↦[m.view.set]{q} f : sProp 𝕄) = bigSep Finset.univ fun j : Fin 16 => m.view.loc c ↦[strmSet m j]{q} f := by
    rw [strm_cover m]
    exact pointsTo_biUnion _ _ fun j _ j' _ h => strm_disj m j j' h
  refine h.trans (BI.bigSep_congr fun j _ => ?_)
  exact congrArg (fun S => (m.view.loc c ↦[S]{q} f : sProp 𝕄)) (strm_set m j).symm

end Split

section Flight

variable {tabs : Memref sig c.2.kind .hbm STab .f32} {ib : Memref sig c.2.kind .vmem S2048 .i32} {fb : Memref sig c.2.kind .vmem S2048 .f32}

theorem axis128 : 0 < S128.size gathersTab.axis' := by decide +kernel

/-- Row `r` of stream `j` delivered. -/
def rowD (q : PosShare TreeShare) (fT : Buf (Elt F) ((tabAll tabs).view.loc c)) (fd : Buf (Elt F) (fb.view.loc c)) (fo : Buf (Elt F) (ib.view.loc c))
    (hin : ∀ (j : Fin 16) x, ((strm ib j).view.read (Elt F) fo x).toNat < STab.size gathersTab.axis) (j : Fin 16) (r : Fin 128) : sProp 𝕄 :=
  rowDeliv (src := tabAll tabs) (dst := strm fb j) c gathersTab (offs := strm ib j) rfl (pieceOf q 16 (by decide) j) fullShare fT fd fo axis128 (hin j) r

/-- The batch's entries: stream by stream, row by row. -/
def rowsD (q : PosShare TreeShare) (fT : Buf (Elt F) ((tabAll tabs).view.loc c)) (fd : Buf (Elt F) (fb.view.loc c)) (fo : Buf (Elt F) (ib.view.loc c))
    (hin : ∀ (j : Fin 16) x, ((strm ib j).view.read (Elt F) fo x).toNat < STab.size gathersTab.axis) (t : Fin 2048) : sProp 𝕄 :=
  rowD c (tabs := tabs) (ib := ib) (fb := fb) q fT fd fo hin ⟨t.val / 128, by omega⟩ ⟨t.val % 128, by omega⟩

instance rowsD_storable (q : PosShare TreeShare) (fT : Buf (Elt F) ((tabAll tabs).view.loc c)) (fd : Buf (Elt F) (fb.view.loc c)) (fo : Buf (Elt F) (ib.view.loc c))
    (hin : ∀ (j : Fin 16) x, ((strm ib j).view.read (Elt F) fo x).toNat < STab.size gathersTab.axis) (t : Fin 2048) :
    Storable (upEmb : UEmb _ 𝕄) (rowsD c (tabs := tabs) (ib := ib) (fb := fb) q fT fd fo hin t) := by
  unfold rowsD rowD; exact rowDeliv_storable c _ _ _ _ _ _ _ _ _ _

theorem rowsD_at (q : PosShare TreeShare) (fT : Buf (Elt F) ((tabAll tabs).view.loc c)) (fd : Buf (Elt F) (fb.view.loc c)) (fo : Buf (Elt F) (ib.view.loc c))
    (hin : ∀ (j : Fin 16) x, ((strm ib j).view.read (Elt F) fo x).toNat < STab.size gathersTab.axis) (j : Fin 16) (r : Fin 128) (h : 128 * j.val + r.val < 2048) :
    (rowsD c (tabs := tabs) (ib := ib) (fb := fb) q fT fd fo hin ⟨128 * j.val + r.val, h⟩ : sProp 𝕄) = rowD c (tabs := tabs) (ib := ib) (fb := fb) q fT fd fo hin j r := by
  unfold rowsD
  have h1 : (⟨(128 * j.val + r.val) / 128, by omega⟩ : Fin 16) = j := Fin.ext (by simp only; omega)
  have h2 : (⟨(128 * j.val + r.val) % 128, by omega⟩ : Fin 128) = r := Fin.ext (by simp only; omega)
  exact congrArg₂ (rowD c (tabs := tabs) (ib := ib) (fb := fb) q fT fd fo hin) h1 h2

theorem rowsD_all (q : PosShare TreeShare) (fT : Buf (Elt F) ((tabAll tabs).view.loc c)) (fd : Buf (Elt F) (fb.view.loc c)) (fo : Buf (Elt F) (ib.view.loc c))
    (hin : ∀ (j : Fin 16) x, ((strm ib j).view.read (Elt F) fo x).toNat < STab.size gathersTab.axis) :
    (bigSep Finset.univ (rowsD c (tabs := tabs) (ib := ib) (fb := fb) q fT fd fo hin) : sProp 𝕄)
      = bigSep Finset.univ fun j : Fin 16 => bigSep Finset.univ (rowD c (tabs := tabs) (ib := ib) (fb := fb) q fT fd fo hin j) := by
  have e : (Fin 16 × Fin 128) ≃ Fin 2048 := finProdFinEquiv
  rw [BI.bigSep_univ_equiv (finProdFinEquiv : (Fin 16 × Fin 128) ≃ Fin (16 * 128)) (Φ := rowsD c (tabs := tabs) (ib := ib) (fb := fb) q fT fd fo hin), BI.bigSep_univ_prod]
  refine BI.bigSep_congr fun j _ => BI.bigSep_congr fun r _ => ?_
  rw [← rowsD_at c q fT fd fo hin j r (by omega)]
  refine congrArg _ (Fin.ext ?_)
  simp [finProdFinEquiv]; omega

/-- A level's copies in flight: their list reads as `g`, the tables as `T`. -/
def Flying (ι : Ix) (N : ℕ) (tabs : Memref sig c.2.kind .hbm STab .f32) (ib : Memref sig c.2.kind .vmem S2048 .i32) (fb : Memref sig c.2.kind .vmem S2048 .f32)
    (sem : DmaSem sig) (q : PosShare TreeShare) (g : S2048.Idx → BitVec 32) (T : STab.Idx → F .f32) : sProp 𝕄 :=
  iprop(∃ fT fd fo, ∃ hin, ⌜ib.view.read (Elt F) fo = g ∧ (tabAll tabs).view.read (Elt F) fT = T⌝
    ∗ Batch EC c (.dma sem) ι N (rowsD c (tabs := tabs) (ib := ib) (fb := fb) q fT fd fo hin) 2048 0)

/-- One stream issued. -/
theorem fire_spec [Infinite Name] [EC.LandsIn (upEmb : UEmb _ 𝕄)] {hκ : c.2.kind = .scVector} {sem : DmaSem sig} (ι : Ix) (N : ℕ)
    (hN : ∀ j r, ((strm fb j).slice (S128.rowRect gathersTab.axis' r) (S128.stride_rowRect gathersTab.axis' r)).view.dmaCredit = N)
    (q : PosShare TreeShare) (fT : Buf (Elt F) ((tabAll tabs).view.loc c)) (fd : Buf (Elt F) (fb.view.loc c)) (fo : Buf (Elt F) (ib.view.loc c))
    (hin : ∀ (j : Fin 16) x, ((strm ib j).view.read (Elt F) fo x).toNat < STab.size gathersTab.axis) (j : Fin 16) :
    iprop(Batch EC c (.dma sem) ι N (rowsD c (tabs := tabs) (ib := ib) (fb := fb) q fT fd fo hin) (128 * j.val) 0
        ∗ ((tabAll tabs).view.loc c ↦[(tabAll tabs).view.set]{pieceOf q 16 (by decide) j} fT)
        ∗ ((strm fb j).view.loc c ↦[(strm fb j).view.set]{fullShare} fd) ∗ ((strm ib j).view.loc c ↦[(strm ib j).view.set]{fullShare} fo))
      ⊢ wp frame (wpE defs 𝒱 c bd) Set.univ (fire hκ tabs ib fb sem j)
          (fun _ => Batch EC c (.dma sem) ι N (rowsD c (tabs := tabs) (ib := ib) (fb := fb) q fT fd fo hin) (128 * (j.val + 1)) 0) := by
  have hj := j.isLt
  rw [← bind_pure (fire hκ tabs ib fb sem j)]
  unfold fire
  iintro H
  iapply (wp_gatherIssue EC 𝒱 c bd (hg := gathersTab) (hn := rfl) ι N (k₀ := 128 * j.val) (fun r => hN j r)
    (by change 128 * j.val + 128 ≤ 2048; omega) axis128 (hin j)
    (fun r => Entails.of_eq (rowsD_at c q fT fd fo hin j r (by have : r.val < 128 := r.isLt; omega)).symm)) $$ H
  iintro H
  rw [wp_pure]
  imodintro
  iexact H

/-- A word's place in the flat tables. -/
def tabIx (w : BitVec 32) : STab.Idx := ix1 (⟨w.toNat % 16777216, Nat.mod_lt _ (by decide)⟩ : Fin 16777216)

/-- What a stream lands, by place: the tables' word that the list names there. -/
theorem strm_payload (T : STab.Idx → Elt F .f32) (g : S2048.Idx → BitVec 32) (j : Fin 16) (w : S128.Idx → BitVec 32)
    (hw : ∀ x, w x = g ((Rect.unit (s := S2048) ![128 * j.val] S128.size (strm_inb j)).emb x))
    (h : ∀ x, (w x).toNat < STab.size gathersTab.axis) (x : S128.Idx) :
    gatherPayload (F := F) gathersTab T (rows (F := F) w rfl h) x = T (tabIx (g ((Rect.unit (s := S2048) ![128 * j.val] S128.size (strm_inb j)).emb x))) := by
  unfold gatherPayload
  refine congrArg T (funext fun a => ?_)
  match a with
  | ⟨0, _⟩ =>
    refine (Shape.Gathers.idx_axis gathersTab (rows (F := F) w rfl h) x).trans (Fin.ext ?_)
    have e : S128.rowMajor.symm ((x gathersTab.axis').cast rfl) = x := by
      rw [Equiv.symm_apply_eq]
      refine Fin.ext ?_
      rw [Shape.rowMajor_val_one]; rfl
    have h16 : (w x).toNat < 16777216 := h x
    change (w (S128.rowMajor.symm ((x gathersTab.axis').cast rfl))).toNat = (g _).toNat % 16777216
    rw [e, ← hw x, Nat.mod_eq_of_lt h16]

/-- Stream `j`'s words written are its part of the buffer written. -/
theorem strm_written (fd : Buf (Elt F) (fb.view.loc c)) (T : STab.Idx → Elt F .f32) (g : S2048.Idx → BitVec 32) (j : Fin 16) (v : S128.Idx → Elt F .f32)
    (hv : ∀ x, v x = T (tabIx (g ((Rect.unit (s := S2048) ![128 * j.val] S128.size (strm_inb j)).emb x)))) :
    ((strm fb j).view.loc c ↦[(strm fb j).view.set]{fullShare} ((strm fb j).view.write (Elt F) fd v Finset.univ) : sProp 𝕄)
      = ((strm fb j).view.loc c ↦[(strm fb j).view.set]{fullShare} (fb.view.write (Elt F) fd (fun p => T (tabIx (g p))) Finset.univ)) := by
  refine pointsTo_congr fun i hi => ?_
  obtain ⟨x, -, rfl⟩ := Finset.mem_map.mp hi
  refine (View.write_emb_of_mem (v := (strm fb j).view) fd v (Finset.mem_univ x)).trans ?_
  rw [hv x]
  exact (View.write_emb_of_mem (v := fb.view) fd (fun p => T (tabIx (g p)))
    (Finset.mem_univ ((Rect.unit (s := S2048) ![128 * j.val] S128.size (strm_inb j)).emb x))).symm

/-- A level's sixteen streams issued. -/
theorem fireLvl_spec [Infinite Name] [EC.LandsIn (upEmb : UEmb _ 𝕄)] {hκ : c.2.kind = .scVector} {sem : DmaSem sig} (ι : Ix) (N : ℕ)
    (hN : ∀ j r, ((strm fb j).slice (S128.rowRect gathersTab.axis' r) (S128.stride_rowRect gathersTab.axis' r)).view.dmaCredit = N)
    (q : PosShare TreeShare) (g : S2048.Idx → BitVec 32) (T : STab.Idx → F .f32) (hg : ∀ p, (g p).toNat < 16777216) :
    iprop(Holds c ib fullShare g ∗ (∃ h, Holds c fb fullShare h) ∗ Holds c (tabAll tabs) q T ∗ semVal (c, .dma sem) 0)
      ⊢ wp frame (wpE defs 𝒱 c bd) Set.univ (seq16 (fire hκ tabs ib fb sem)) (fun _ => Flying EC c ι N tabs ib fb sem q g T) := by
  unfold Holds
  iintro ⟨⟨%fo, %hfo, Ho⟩, ⟨%hd, %fd, -, Hd⟩, ⟨%fT, %hfT, HT⟩, Hv⟩
  have hin : ∀ (j : Fin 16) x, ((strm ib j).view.read (Elt F) fo x).toNat < STab.size gathersTab.axis := fun j x => by
    have e : (strm ib j).view.read (Elt F) fo x = g ((Rect.unit (s := S2048) ![128 * j.val] S128.size (strm_inb j)).emb x) :=
      congrFun hfo _
    rw [e]; exact hg _
  ihave Ho := (Entails.of_eq (strm_split c ib fullShare fo)) $$ Ho
  ihave Hd := (Entails.of_eq (strm_split c fb fullShare fd)) $$ Hd
  ihave HT := (Entails.of_eq (pointsTo_piecesOf ((tabAll tabs).view.set) fT (o := 16) (by decide) q)) $$ HT
  ihave H1 := Transfers.bigSep_sep_in _ _ _ $$ [Hd Ho]; · isplitl [Hd] <;> iassumption
  ihave H2 := Transfers.bigSep_sep_in _ _ _ $$ [HT H1]; · isplitl [HT] <;> iassumption
  imod (batch_alloc' EC (c := c) (sm := .dma sem) ι N (rowsD c (tabs := tabs) (ib := ib) (fb := fb) q fT fd fo hin) (E := Set.univ)) $$ Hv with HB
  let Φ : Fin 16 → sProp 𝕄 := fun j => iprop(((tabAll tabs).view.loc c ↦[(tabAll tabs).view.set]{pieceOf q 16 (by decide) j} fT)
        ∗ ((strm fb j).view.loc c ↦[(strm fb j).view.set]{fullShare} fd) ∗ ((strm ib j).view.loc c ↦[(strm ib j).view.set]{fullShare} fo))
  ihave H2 := (Entails.of_eq (bigSep_pending_zero Φ)) $$ H2
  iapply (wp_mono _ _ _ (Q := fun _ => iprop(Batch EC c (.dma sem) ι N (rowsD c (tabs := tabs) (ib := ib) (fb := fb) q fT fd fo hin) (128 * 16) 0 ∗ bigSep (pending 16) Φ))
    (fun _ => by
      unfold Flying
      iintro ⟨H, -⟩
      iexists fT, fd, fo, hin
      isplitr; · ipureintro; exact ⟨hfo, hfT⟩
      iexact H))
  iapply (seq16_spec 𝒱 c bd (fire hκ tabs ib fb sem)
    (fun n => iprop(Batch EC c (.dma sem) ι N (rowsD c (tabs := tabs) (ib := ib) (fb := fb) q fT fd fo hin) (128 * n) 0 ∗ bigSep (pending n) Φ)) (fun j => by
      rw [bigSep_pending_step Φ j.val j.isLt]
      iintro ⟨HB, Hj, Hr⟩
      rw [← bind_pure (fire hκ tabs ib fb sem j)]
      iapply (step 𝒱 c bd (fire_spec EC 𝒱 c bd ι N hN q fT fd fo hin j)) $$ [HB Hj]
      · isplitl [HB] <;> iassumption
      iintro %_ HB
      rw [wp_pure]
      imodintro
      isplitl [HB] <;> iassumption))
  isplitl [HB] <;> iassumption

/-- A level's sixteen waits: the list back, the feature buffer holding the words it names. -/
theorem awaitLvl_spec [EC.LandsIn (upEmb : UEmb _ 𝕄)] {sem : DmaSem sig} (ι : Ix) (N : ℕ) (hN0 : 0 < N)
    (hJ : ∀ j, (strm fb j).view.dmaCredit = 128 * N)
    (q : PosShare TreeShare) (g : S2048.Idx → BitVec 32) (T : STab.Idx → F .f32) {O : CellTallies nD τ sig Ix} {W₀ : Waits sig Ix} :
    iprop(Flying EC c ι N tabs ib fb sem q g T ∗ Ow c ι O W₀)
      ⊢ wp frame (wpE defs 𝒱 c bd) Set.univ (seq16 (await tabs fb sem))
          (fun _ => iprop(Holds c ib fullShare g ∗ Holds c fb fullShare (fun p => T (tabIx (g p))) ∗ Holds c (tabAll tabs) q T ∗ semVal (c, .dma sem) 0
            ∗ Ow c ι O W₀)) := by
  unfold Flying
  iintro ⟨⟨%fT, %fd, %fo, %hin, %hh, HB⟩, HO⟩
  obtain ⟨hfo, hfT⟩ := hh
  iapply (wp_fupd _ _ _ _ _)
  iapply (wp_mono _ _ _ (Q := fun _ => iprop(Batch EC c (.dma sem) ι N (rowsD c (tabs := tabs) (ib := ib) (fb := fb) q fT fd fo hin) 2048 (128 * 16 * N) ∗ Ow c ι O W₀))
    (fun _ => by
      iintro ⟨HB, HO⟩
      rw [show 128 * 16 * N = N * 2048 by rw [Nat.mul_comm N]]
      imod (batch_collect' EC c hN0) $$ HB with ⟨HD, Hv⟩
      imodintro
      ihave HD := (Entails.of_eq (rowsD_all c q fT fd fo hin)) $$ HD
      ihave HD := (bigSep_imp (Φ := fun j => bigSep Finset.univ (rowD c (tabs := tabs) (ib := ib) (fb := fb) q fT fd fo hin j)) fun j => rowDeliv_join (src := tabAll tabs) (dst := strm fb j) c gathersTab (offs := strm ib j) rfl (pieceOf q 16 (by decide) j) fullShare fT fd fo axis128 (hin j)) $$ HD
      ihave HD := Transfers.bigSep_sep_out _ _ _ $$ HD
      icases HD with ⟨Hd, HD⟩
      ihave HD := Transfers.bigSep_sep_out _ _ _ $$ HD
      icases HD with ⟨HT, Ho⟩
      ihave Hd := (bigSep_imp fun j => Entails.of_eq (strm_written c fd T g j _ (fun x => by
        rw [← hfT]
        exact strm_payload _ g j _ (fun x => congrFun hfo _) _ x))) $$ Hd
      ihave Hd := (Entails.of_eq (strm_split c fb fullShare _).symm) $$ Hd
      ihave Ho := (Entails.of_eq (strm_split c ib fullShare fo).symm) $$ Ho
      ihave HT := (Entails.of_eq (pointsTo_piecesOf ((tabAll tabs).view.set) fT (o := 16) _ q).symm) $$ HT
      isplitl [Ho]; · rw [← hfo]; iapply (Holds.intro c) $$ Ho
      isplitl [Hd]
      · ihave Hd := (Holds.intro c) $$ Hd
        rw [View.read_write_univ]; iexact Hd
      isplitl [HT]; · rw [← hfT]; iapply (Holds.intro c) $$ HT
      isplitl [Hv] <;> iassumption))
  iapply (seq16_spec 𝒱 c bd (await tabs fb sem)
    (fun n => iprop(Batch EC c (.dma sem) ι N (rowsD c (tabs := tabs) (ib := ib) (fb := fb) q fT fd fo hin) 2048 (128 * n * N) ∗ Ow c ι O W₀)) (fun j => by
      have hj := j.isLt
      have hu : 128 * j.val * N + 128 * N ≤ N * 2048 := by
        rw [← Nat.add_mul, Nat.mul_comm N 2048]
        exact Nat.mul_le_mul_right N (by omega)
      unfold Ow await waitIndirectGather
      iintro ⟨HB, #Hmw, %W, %hW, HO⟩
      iapply (wp_waitBatchMulO EC 𝒱 c bd ι 128 (hJ j) (D := rowsD c (tabs := tabs) (ib := ib) (fb := fb) q fT fd fo hin) (j := 2048) (u := 128 * j.val * N) hu (O := O) (W := W)) $$ [HB HO]
      · isplitl [HB]; · iexact HB
        isplitl [HO]; · iexact HO
        iapply (MayWaits.elim (.dma sem)) $$ Hmw
      iintro ⟨HB, HO⟩
      rw [wp_ret]
      imodintro
      isplitl [HB]
      · rw [show 128 * (j.val + 1) * N = 128 * j.val * N + 128 * N by rw [← Nat.add_mul, Nat.mul_add]]; iexact HB
      isplitr; · iexact Hmw
      iexists (insert (SemLoc.dma sem, ι) W)
      isplitr
      · ipureintro
        intro p hp
        rcases Finset.mem_insert.mp hp with hp | hp
        · exact .inr (by rw [hp])
        · exact hW p hp
      iexact HO))
  isplitl [HB]
  · have e0 : 128 * 0 * N = 0 := by simp
    rw [e0]; iexact HB
  iexact HO

end Flight

end Cert.Enc
-- ==== Proof.Loops.lean ====
/-
  The triples of the encoder's two inner loops: the hash loop leaves the block's index list (`idxList`), the interpolation loop the level's two
  rows of the block's result (`outBlk`).
-/
module

public import proofs.«01_k».proof.Proof.Holds
public import proofs.«01_k».proof.Proof.Point

@[expose] public section

noncomputable section

namespace Cert.Enc

open Idealize.ShloMosaic Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)

local notation "𝕄" => MT nD τ sig Ix (Elt F) Name U Lvl

/-- In both halves of a list, the first `n` places. -/
def donePos (n : ℕ) : S2048.Idx → Prop := fun p => (p 0).val % 1024 < n

/-- Sixteen words into a list. -/
theorem put16_spec {m : Memref sig c.2.kind .vmem S2048 .i32} {off : Fin 1 → ℕ} {h : ∀ a, off a + S16.size a ≤ S2048.size a} {v : IVec S16 32}
    {P P' : S2048.Idx → Prop} {G : S2048.Idx → BitVec 32} (n : ℕ) (hn : off 0 = n)
    (hv : ∀ (x : S16.Idx) (p : S2048.Idx), (p 0).val = n + (x 0).val → v x = G p)
    (hP : ∀ p : S2048.Idx, P' p → P p ∨ (n ≤ (p 0).val ∧ (p 0).val < n + 16)) :
    (HoldsOn c m P G : sProp 𝕄) ⊢ wp frame (wpE defs 𝒱 c bd) Set.univ (put16 m off h v) (fun _ => HoldsOn c m P' G) := by
  unfold put16 ld16
  iintro H
  iapply (ld_any 𝒱 c bd) $$ H
  iintro %_ H
  rw [← bind_pure (Prog.lift _)]
  iapply (st_on 𝒱 c bd (P := P) (P' := P') (G := G) (fun x => by
      have hx : shapeCast S16 v sc_id x = v x := shapeCast_apply v sc_id x x rfl
      refine hx.trans (hv x _ ?_)
      rw [Rect.emb_apply]; change off 0 + 1 * (x 0).val = _; omega) (fun p hp => (hP p hp).imp_right fun hp => by
      rw [Rect.mem_set_unit]; intro a
      match a with
      | ⟨0, _⟩ => change off 0 ≤ (p 0).val ∧ (p 0).val < off 0 + 16; omega)) $$ H
  iintro H
  rw [wp_pure]
  imodintro
  iexact H

/-- A corner's positions. -/
theorem putCorner_spec {m : Memref sig c.2.kind .vmem S2048 .i32} {G : S2048.Idx → BitVec 32} (t : Fin grpLoop.trips) (k : Fin 8) (d : IVec S16 32)
    (h0 : ∀ (x : S16.Idx) (p : S2048.Idx), (p 0).val = 128 * t.val + 16 * k.val + (x 0).val → d x = G p)
    (h1 : ∀ (x : S16.Idx) (p : S2048.Idx), (p 0).val = 1024 + 128 * t.val + 16 * k.val + (x 0).val → next d x = G p) :
    (HoldsOn c m (donePos (128 * t.val + 16 * k.val)) G : sProp 𝕄)
      ⊢ wp frame (wpE defs 𝒱 c bd) Set.univ (putCorner m t k d) (fun _ => HoldsOn c m (donePos (128 * t.val + 16 * (k.val + 1))) G) := by
  have ht : t.val < 8 := lt_of_lt_of_eq t.isLt grpLoop_trips
  have hk := k.isLt
  unfold putCorner
  iintro H
  iapply (step 𝒱 c bd (put16_spec 𝒱 c bd (P := donePos (128 * t.val + 16 * k.val))
    (P' := fun p => donePos (128 * t.val + 16 * k.val) p ∨ (128 * t.val + 16 * k.val ≤ (p 0).val ∧ (p 0).val < 128 * t.val + 16 * k.val + 16))
    _ (offA_eq t k) h0 (fun p hp => hp))) $$ H
  iintro %_ H
  iapply (put16_spec 𝒱 c bd _ (offB_eq t k) h1 (fun p hp => by
    have hp0 : (p 0).val < 2048 := (p 0).isLt
    unfold donePos at *
    by_cases hlt : (p 0).val % 1024 < 128 * t.val + 16 * k.val
    · exact .inl (.inl hlt)
    · by_cases h2 : (p 0).val < 1024
      · exact .inl (.inr (by omega))
      · exact .inr (by omega))) $$ H

/-- One group hashed. -/
theorem hashBody_spec {xyz : Memref sig c.2.kind .vmem S3x128 .f32} {ib : Memref sig c.2.kind .vmem S2048 .i32} {q : PosShare TreeShare}
    (g : S3x128.Idx → F .f32) (res : F .f32) (base : BitVec 32) (t : Fin grpLoop.trips) (u : Unit) :
    (iprop(Holds c xyz q g ∗ HoldsOn c ib (donePos (128 * t.val)) (idxList g res base)) : sProp 𝕄)
      ⊢ wp frame (wpE defs 𝒱 c bd) Set.univ (hashBody xyz ib res base t u)
          (fun _ => iprop(Holds c xyz q g ∗ HoldsOn c ib (donePos (128 * (t.val + 1))) (idxList g res base))) := by
  have ht : t.val < 8 := lt_of_lt_of_eq t.isLt grpLoop_trips
  unfold hashBody ldRow
  iintro ⟨Hx, H⟩
  iapply (ld_holds 𝒱 c bd) $$ Hx; iintro Hx
  iapply (ld_holds 𝒱 c bd) $$ Hx; iintro Hx
  iapply (ld_holds 𝒱 c bd) $$ Hx; iintro Hx
  ihave H := (HoldsOn.weaken (P' := donePos (128 * t.val + 16 * (0 : Fin 8).val)) c (fun i hi => hi)) $$ H
  iapply (step 𝒱 c bd (putCorner_spec 𝒱 c bd t 0 _ (fun x p hp => (corner_at g res base t x 0 0 (by omega) p (by omega)).symm ▸ rfl)
    (fun x p hp => (corner_at g res base t x 0 1 (by omega) p (by omega)).symm ▸ rfl))) $$ H; iintro %_ H
  iapply (step 𝒱 c bd (putCorner_spec 𝒱 c bd t 1 _ (fun x p hp => (corner_at g res base t x 1 0 (by omega) p (by omega)).symm ▸ rfl)
    (fun x p hp => (corner_at g res base t x 1 1 (by omega) p (by omega)).symm ▸ rfl))) $$ H; iintro %_ H
  iapply (step 𝒱 c bd (putCorner_spec 𝒱 c bd t 2 _ (fun x p hp => (corner_at g res base t x 2 0 (by omega) p (by omega)).symm ▸ rfl)
    (fun x p hp => (corner_at g res base t x 2 1 (by omega) p (by omega)).symm ▸ rfl))) $$ H; iintro %_ H
  iapply (step 𝒱 c bd (putCorner_spec 𝒱 c bd t 3 _ (fun x p hp => (corner_at g res base t x 3 0 (by omega) p (by omega)).symm ▸ rfl)
    (fun x p hp => (corner_at g res base t x 3 1 (by omega) p (by omega)).symm ▸ rfl))) $$ H; iintro %_ H
  iapply (step 𝒱 c bd (putCorner_spec 𝒱 c bd t 4 _ (fun x p hp => (corner_at g res base t x 4 0 (by omega) p (by omega)).symm ▸ rfl)
    (fun x p hp => (corner_at g res base t x 4 1 (by omega) p (by omega)).symm ▸ rfl))) $$ H; iintro %_ H
  iapply (step 𝒱 c bd (putCorner_spec 𝒱 c bd t 5 _ (fun x p hp => (corner_at g res base t x 5 0 (by omega) p (by omega)).symm ▸ rfl)
    (fun x p hp => (corner_at g res base t x 5 1 (by omega) p (by omega)).symm ▸ rfl))) $$ H; iintro %_ H
  iapply (step 𝒱 c bd (putCorner_spec 𝒱 c bd t 6 _ (fun x p hp => (corner_at g res base t x 6 0 (by omega) p (by omega)).symm ▸ rfl)
    (fun x p hp => (corner_at g res base t x 6 1 (by omega) p (by omega)).symm ▸ rfl))) $$ H; iintro %_ H
  iapply (step 𝒱 c bd (putCorner_spec 𝒱 c bd t 7 _ (fun x p hp => (corner_at g res base t x 7 0 (by omega) p (by omega)).symm ▸ rfl)
    (fun x p hp => (corner_at g res base t x 7 1 (by omega) p (by omega)).symm ▸ rfl))) $$ H; iintro %_ H
  rw [wp_pure]
  imodintro
  isplitl [Hx]; · iexact Hx
  iexact H

/-- Of a block's result, the rows of the levels before `l`, and of level `l`'s two the first `n` columns. -/
def doneRow (l : Fin 16) (n : ℕ) : S32x128.Idx → Prop := fun p => (p 0).val < 2 * l.val ∨ ((p 0).val < 2 * l.val + 2 ∧ (p 1).val < n)

/-- Sixteen values into a row. -/
theorem putRow_spec {m : Memref sig c.2.kind .vmem S32x128 .f32} (r : ℕ) (hr : r < 32) (t : Fin grpLoop.trips) {v : FVec F S16 .f32}
    {P P' : S32x128.Idx → Prop} {G : S32x128.Idx → F .f32}
    (hv : ∀ (x : S16.Idx) (p : S32x128.Idx), (p 0).val = r → (p 1).val = 16 * t.val + (x 0).val → v x = G p)
    (hP : ∀ p : S32x128.Idx, P' p → P p ∨ ((p 0).val = r ∧ 16 * t.val ≤ (p 1).val ∧ (p 1).val < 16 * t.val + 16)) :
    (HoldsOn c m P G : sProp 𝕄) ⊢ wp frame (wpE defs 𝒱 c bd) Set.univ (putRow m r hr t v) (fun _ => HoldsOn c m P' G) := by
  have ho := rowOff_col r t
  unfold putRow ldRow
  iintro H
  iapply (ld_any 𝒱 c bd) $$ H
  iintro %_ H
  rw [← bind_pure (Prog.lift _)]
  iapply (st_on 𝒱 c bd (P := P) (P' := P') (G := G) (fun x => by
      have h0 : (x 0).val < 1 := (x 0).isLt
      have h1 : (x 1).val < 16 := (x 1).isLt
      rw [shapeCast_apply v sc_col x (ix1 (⟨(x 1).val, h1⟩ : Fin 16)) (by
        rw [Shape.rowMajor_val_two, Shape.rowMajor_val_one]; change (x 1).val = (x 0).val * 16 + (x 1).val; omega)]
      refine hv _ _ ?_ ?_
      · rw [Rect.emb_apply]; change r + 1 * (x 0).val = r; omega
      · rw [Rect.emb_apply]; change rowOff r t 1 + 1 * (x 1).val = 16 * t.val + (x 1).val; omega) (fun p hp => (hP p hp).imp_right fun hp => by
      rw [Rect.mem_set_unit]; intro a
      match a with
      | ⟨0, _⟩ => change r ≤ (p 0).val ∧ (p 0).val < r + 1; omega
      | ⟨1, _⟩ => change rowOff r t 1 ≤ (p 1).val ∧ (p 1).val < rowOff r t 1 + 16; omega)) $$ H
  iintro H
  rw [wp_pure]
  imodintro
  iexact H

/-- One group interpolated. -/
theorem interpBody_spec {xyz : Memref sig c.2.kind .vmem S3x128 .f32} {fb : Memref sig c.2.kind .vmem S2048 .f32} {ob : Memref sig c.2.kind .vmem S32x128 .f32}
    {q q' : PosShare TreeShare} (g : S3x128.Idx → F .f32) (T : BitVec 32 → F .f32) (l : Fin 16) (h0 : 2 * l.val < 32) (h1 : 2 * l.val + 1 < 32)
    (t : Fin grpLoop.trips) (u : Unit) :
    (iprop(Holds c xyz q g ∗ Holds c fb q' (featList g (Scalar.ofBits .f32 (resWord l)) (baseWord l) T) ∗ HoldsOn c ob (doneRow l (16 * t.val)) (outBlk g T)) : sProp 𝕄)
      ⊢ wp frame (wpE defs 𝒱 c bd) Set.univ (interpBody xyz fb ob (Scalar.ofBits .f32 (resWord l)) (2 * l.val) (2 * l.val + 1) h0 h1 t u)
          (fun _ => iprop(Holds c xyz q g ∗ Holds c fb q' (featList g (Scalar.ofBits .f32 (resWord l)) (baseWord l) T)
            ∗ HoldsOn c ob (doneRow l (16 * (t.val + 1))) (outBlk g T))) := by
  unfold interpBody ldRow getCorner ld16
  simp only [bind_assoc]
  iintro ⟨Hx, Hf, H⟩
  iapply (ld_holds 𝒱 c bd) $$ Hx; iintro Hx
  iapply (ld_holds 𝒱 c bd) $$ Hx; iintro Hx
  iapply (ld_holds 𝒱 c bd) $$ Hx; iintro Hx
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (ld_holds 𝒱 c bd) $$ Hf; iintro Hf
  iapply (ld_holds 𝒱 c bd) $$ Hf; iintro Hf
  rw [pure_bind]
  iapply (step 𝒱 c bd (putRow_spec 𝒱 c bd _ h0 t
    (P' := fun p => doneRow l (16 * t.val) p ∨ ((p 0).val = 2 * l.val ∧ 16 * t.val ≤ (p 1).val ∧ (p 1).val < 16 * t.val + 16))
    (fun x p hp0 hp1 => accA_at g T l t x p hp0 hp1) (fun p hp => hp))) $$ H; iintro %_ H
  iapply (step 𝒱 c bd (putRow_spec 𝒱 c bd _ h1 t (P' := doneRow l (16 * (t.val + 1)))
    (fun x p hp0 hp1 => accB_at g T l t x p hp0 hp1) (fun p hp => by
      unfold doneRow at *
      by_cases ha : (p 0).val < 2 * l.val
      · exact .inl (.inl (.inl ha))
      · by_cases hb : (p 1).val < 16 * t.val
        · exact .inl (.inl (.inr (by omega)))
        · by_cases hc : (p 0).val = 2 * l.val
          · exact .inl (.inr (by omega))
          · exact .inr (by omega)))) $$ H; iintro %_ H
  rw [wp_pure]
  imodintro
  isplitl [Hx]; · iexact Hx
  isplitl [Hf]; · iexact Hf
  iexact H

end Cert.Enc
-- ==== Proof.Levels.lean ====
/-
  A block's run. Between two levels one level's copies are in flight (`Between`): its list and features are lent to them, the other pair of
  buffers is free, and the rows of the levels before it are done. The block as a whole turns its coordinates into `outBlk` of them.
-/
module

public import proofs.«01_k».proof.Proof.Fires
public import proofs.«01_k».proof.Proof.Loops

@[expose] public section

noncomputable section

namespace Cert.Enc

open Idealize.ShloMosaic Idealize.ShloMosaic.SparseCore Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

/-- A table position lies in the tables: sixteen levels of 524288 entries of two words. -/
theorem posIn (h : BitVec 32) (l : Fin 16) : (IntOp.shli .vector (IntOp.addi (IntOp.andi h 524287#32) (baseWord l)) 1#32).toNat < 16777215 := by
  have hl := l.isLt
  have h1 : (IntOp.andi h 524287#32).toNat ≤ 524287 := by
    unfold IntOp.andi
    rw [BitVec.toNat_and]
    exact Nat.and_le_right
  have h2 : (baseWord l).toNat = 524288 * l.val := by
    unfold baseWord; rw [BitVec.toNat_ofNat]; omega
  have h3 : (IntOp.addi (IntOp.andi h 524287#32) (baseWord l)).toNat = (IntOp.andi h 524287#32).toNat + 524288 * l.val := by
    have := BitVec.toNat_add (IntOp.andi h 524287#32) (baseWord l)
    unfold IntOp.addi at *
    rw [this, h2]; omega
  have h4 : IntOp.shli .vector (IntOp.addi (IntOp.andi h 524287#32) (baseWord l)) 1#32 = (IntOp.addi (IntOp.andi h 524287#32) (baseWord l)) <<< 1 := by
    unfold IntOp.shli
    rfl
  rw [h4, BitVec.toNat_shiftLeft, h3, Nat.shiftLeft_eq]
  omega

variable {F : FTy → Type} [FloatOps F]

theorem posAt_lt (x y z res : F .f32) (l : Fin 16) (c : Fin 8) (f : ℕ) : (posAt x y z res (baseWord l) c f).toNat < 16777216 := by
  unfold posAt
  have h := posIn (hashAt (cellAt x res) (cellAt y res) (cellAt z res) c) l
  split
  · omega
  · have h' := BitVec.toNat_add (IntOp.shli .vector (IntOp.addi (IntOp.andi (hashAt (cellAt x res) (cellAt y res) (cellAt z res) c) 524287#32) (baseWord l)) 1#32) 1#32
    unfold IntOp.addi at *
    rw [h']
    have : (1#32 : BitVec 32).toNat = 1 := rfl
    omega

variable {nD : Nat} {τ : Topo} {sig : RefSig} {Ix : Type} [DecidableEq Ix]
variable {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)

local notation "𝕄" => MT nD τ sig Ix (Elt F) Name U Lvl

/-- Fifteen programs in order, by an assertion before each. -/
theorem seq15_spec (f : Fin 15 → Prog (TpuEff nD τ sig (Elt F) Λ c.2) PUnit) (I : Fin 16 → sProp 𝕄)
    (h : ∀ j : Fin 15, I j.castSucc ⊢ wp frame (wpE defs 𝒱 c bd) Set.univ (f j) (fun _ => I j.succ)) :
    I 0 ⊢ wp frame (wpE defs 𝒱 c bd) Set.univ (seq15 f) (fun _ => I 15) := by
  have h' : ∀ (a b : Fin 16) (j : Fin 15), j.castSucc = a → j.succ = b → (I a ⊢ wp frame (wpE defs 𝒱 c bd) Set.univ (f j) (fun _ => I b)) :=
    fun a b j ea eb => ea ▸ eb ▸ h j
  unfold seq15
  iintro H
  iapply (step 𝒱 c bd (h' 0 1 0 rfl rfl)) $$ H; iintro %_ H
  iapply (step 𝒱 c bd (h' 1 2 1 rfl rfl)) $$ H; iintro %_ H
  iapply (step 𝒱 c bd (h' 2 3 2 rfl rfl)) $$ H; iintro %_ H
  iapply (step 𝒱 c bd (h' 3 4 3 rfl rfl)) $$ H; iintro %_ H
  iapply (step 𝒱 c bd (h' 4 5 4 rfl rfl)) $$ H; iintro %_ H
  iapply (step 𝒱 c bd (h' 5 6 5 rfl rfl)) $$ H; iintro %_ H
  iapply (step 𝒱 c bd (h' 6 7 6 rfl rfl)) $$ H; iintro %_ H
  iapply (step 𝒱 c bd (h' 7 8 7 rfl rfl)) $$ H; iintro %_ H
  iapply (step 𝒱 c bd (h' 8 9 8 rfl rfl)) $$ H; iintro %_ H
  iapply (step 𝒱 c bd (h' 9 10 9 rfl rfl)) $$ H; iintro %_ H
  iapply (step 𝒱 c bd (h' 10 11 10 rfl rfl)) $$ H; iintro %_ H
  iapply (step 𝒱 c bd (h' 11 12 11 rfl rfl)) $$ H; iintro %_ H
  iapply (step 𝒱 c bd (h' 12 13 12 rfl rfl)) $$ H; iintro %_ H
  iapply (step 𝒱 c bd (h' 13 14 13 rfl rfl)) $$ H; iintro %_ H
  iapply (h' 14 15 14 rfl rfl) $$ H

section Lvl
variable (B : Bufs sig c.2.kind)

abbrev rsF (l : Fin 16) : F .f32 := Scalar.ofBits .f32 (resWord l)

/-- A level hashed. -/
theorem hashLvl_spec {q : PosShare TreeShare} (g : S3x128.Idx → F .f32) (l : Fin 16) :
    (iprop(Holds c B.xyz q g ∗ ∃ h, Holds c (B.ib (par l)) fullShare h) : sProp 𝕄)
      ⊢ wp frame (wpE defs 𝒱 c bd) Set.univ (hashLvl B l)
          (fun _ => iprop(Holds c B.xyz q g ∗ Holds c (B.ib (par l)) fullShare (idxList g (rsF l) (baseWord l)))) := by
  iintro ⟨Hx, %h, Hi⟩
  ihave Hi := (HoldsOn.of_holds c (P := donePos (128 * 0)) (G := idxList g (rsF l) (baseWord l)) (fun i hi => absurd hi (by unfold donePos; omega))) $$ Hi
  unfold hashLvl
  iapply (Scf.wp_for frame (wpE defs 𝒱 c bd) Set.univ _ _ _ _ _ _
    (fun n _ => iprop(Holds c B.xyz q g ∗ HoldsOn c (B.ib (par l)) (donePos (128 * n)) (idxList g (rsF l) (baseWord l))))
    (fun t u => hashBody_spec 𝒱 c bd g (rsF l) (baseWord l) t u))
  isplitl [Hx Hi]
  · isplitl [Hx] <;> iassumption
  iintro %_ ⟨Hx, Hi⟩
  isplitl [Hx]; · iexact Hx
  iapply (HoldsOn.full c (fun i => by
    have e : Scf.trips grpLoop.lb grpLoop.ub grpLoop.st = 8 := grpLoop_trips
    rw [e]; unfold donePos; omega)) $$ Hi

/-- A level interpolated. -/
theorem interpLvl_spec {q q' : PosShare TreeShare} (g : S3x128.Idx → F .f32) (T : BitVec 32 → F .f32) (l : Fin 16) :
    (iprop(Holds c B.xyz q g ∗ Holds c (B.fb (par l)) q' (featList g (rsF l) (baseWord l) T) ∗ HoldsOn c B.ob (doneRow l 0) (outBlk g T)) : sProp 𝕄)
      ⊢ wp frame (wpE defs 𝒱 c bd) Set.univ (interpLvl B l)
          (fun _ => iprop(Holds c B.xyz q g ∗ Holds c (B.fb (par l)) q' (featList g (rsF l) (baseWord l) T)
            ∗ HoldsOn c B.ob (doneRow l 128) (outBlk g T))) := by
  iintro ⟨Hx, Hf, Ho⟩
  unfold interpLvl
  iapply (Scf.wp_for frame (wpE defs 𝒱 c bd) Set.univ _ _ _ _ _ _
    (fun n _ => iprop(Holds c B.xyz q g ∗ Holds c (B.fb (par l)) q' (featList g (rsF l) (baseWord l) T) ∗ HoldsOn c B.ob (doneRow l (16 * n)) (outBlk g T)))
    (fun t u => interpBody_spec 𝒱 c bd g T l (row0_lt l) (row1_lt l) t u))
  isplitl [Hx Hf Ho]
  · isplitl [Hx]; · iexact Hx
    isplitl [Hf] <;> iassumption
  iintro %_ ⟨Hx, Hf, Ho⟩
  isplitl [Hx]; · iexact Hx
  isplitl [Hf]; · iexact Hf
  have e : Scf.trips grpLoop.lb grpLoop.ub grpLoop.st = 8 := grpLoop_trips
  rw [e]; iexact Ho

/-- The tables' share of a pair of buffers. -/
abbrev qs (q : PosShare TreeShare) (p : Fin 2) : PosShare TreeShare := pieceOf q 2 (by decide) p

/-- A pair of buffers at rest, with its share of the tables and its semaphore. -/
def Free (q : PosShare TreeShare) (T : STab.Idx → F .f32) (p : Fin 2) : sProp 𝕄 :=
  iprop((∃ h, Holds c (B.ib p) fullShare h) ∗ (∃ h, Holds c (B.fb p) fullShare h) ∗ Holds c (tabAll B.tabs) (qs q p) T ∗ semVal (c, .dma (B.sem p)) 0)

/-- The tables read by word. -/
abbrev byWord (T : STab.Idx → F .f32) : BitVec 32 → F .f32 := fun w => T (tabIx w)

/-- Between two levels, level `l` in flight. -/
def Between (ι : Ix) (N : ℕ) (q : PosShare TreeShare) (g : S3x128.Idx → F .f32) (T : STab.Idx → F .f32) (O : CellTallies nD τ sig Ix) (W₀ : Waits sig Ix)
    (l : Fin 16) : sProp 𝕄 :=
  iprop(Holds c B.xyz fullShare g ∗ Flying EC c ι N B.tabs (B.ib (par l)) (B.fb (par l)) (B.sem (par l)) (qs q (par l)) (idxList g (rsF l) (baseWord l)) T
    ∗ Free c B q T (1 - par l) ∗ HoldsOn c B.ob (doneRow l 0) (outBlk g (byWord T)) ∗ Ow c ι O W₀)

/-- What a block needs of its buffers' credits: a row's, and a stream's of 128 rows. -/
structure Credits (N : ℕ) : Prop where
  pos : 0 < N
  row : ∀ p j r, ((strm (B.fb p) j).slice (S128.rowRect gathersTab.axis' r) (S128.stride_rowRect gathersTab.axis' r)).view.dmaCredit = N
  strm : ∀ p j, (strm (B.fb p) j).view.dmaCredit = 128 * N

variable [Infinite Name] [EC.LandsIn (upEmb : UEmb _ (MT nD τ sig Ix (Elt F) Name U Lvl))]

/-- A level hashed and issued, from its buffers free. -/
theorem start_spec {hκ : c.2.kind = .scVector} (ι : Ix) (N : ℕ) (hc : Credits c B N) (q : PosShare TreeShare) (g : S3x128.Idx → F .f32) (T : STab.Idx → F .f32)
    (l : Fin 16) :
    iprop(Holds c B.xyz fullShare g ∗ Free c B q T (par l))
      ⊢ wp frame (wpE defs 𝒱 c bd) Set.univ (hashLvl B l >>= fun _ => fireLvl B hκ l) (fun _ => iprop(Holds c B.xyz fullShare g
          ∗ Flying EC c ι N B.tabs (B.ib (par l)) (B.fb (par l)) (B.sem (par l)) (qs q (par l)) (idxList g (rsF l) (baseWord l)) T)) := by
  unfold Free
  iintro ⟨Hx, Hi, Hf, HT, Hv⟩
  iapply (step 𝒱 c bd (hashLvl_spec 𝒱 c bd B g l)) $$ [Hx Hi]
  · isplitl [Hx] <;> iassumption
  iintro %_ ⟨Hx, Hi⟩
  rw [← bind_pure (fireLvl B hκ l)]
  unfold fireLvl
  iapply (step 𝒱 c bd (fireLvl_spec EC 𝒱 c bd ι N (fun j r => hc.row _ j r) (qs q (par l)) (idxList g (rsF l) (baseWord l)) T (fun p => posAt_lt _ _ _ _ _ _ _))) $$ [Hi Hf HT Hv]
  · isplitl [Hi]; · iexact Hi
    isplitl [Hf]; · iexact Hf
    isplitl [HT] <;> iassumption
  iintro %_ H
  rw [wp_pure]
  imodintro
  isplitl [Hx] <;> iassumption

/-- A level waited for and interpolated. -/
theorem finish_spec (ι : Ix) (N : ℕ) (hc : Credits c B N) (q : PosShare TreeShare) (g : S3x128.Idx → F .f32) (T : STab.Idx → F .f32)
    {O : CellTallies nD τ sig Ix} {W₀ : Waits sig Ix} (l : Fin 16) :
    iprop(Holds c B.xyz fullShare g
        ∗ Flying EC c ι N B.tabs (B.ib (par l)) (B.fb (par l)) (B.sem (par l)) (qs q (par l)) (idxList g (rsF l) (baseWord l)) T
        ∗ HoldsOn c B.ob (doneRow l 0) (outBlk g (byWord T)) ∗ Ow c ι O W₀)
      ⊢ wp frame (wpE defs 𝒱 c bd) Set.univ (awaitLvl B l >>= fun _ => interpLvl B l) (fun _ => iprop(Holds c B.xyz fullShare g
          ∗ Free c B q T (par l) ∗ HoldsOn c B.ob (doneRow l 128) (outBlk g (byWord T)) ∗ Ow c ι O W₀)) := by
  iintro ⟨Hx, Hfl, Ho, HO⟩
  unfold awaitLvl
  iapply (step 𝒱 c bd (awaitLvl_spec EC 𝒱 c bd ι N hc.pos (fun j => hc.strm _ j) (qs q (par l)) (idxList g (rsF l) (baseWord l)) T)) $$ [Hfl HO]
  · isplitl [Hfl] <;> iassumption
  iintro %_ ⟨Hi, Hf, HT, Hv, HO⟩
  ihave Hf := (Entails.of_eq (rfl : (Holds c (B.fb (par l)) fullShare (fun p => T (tabIx (idxList g (rsF l) (baseWord l) p))) : sProp 𝕄)
    = Holds c (B.fb (par l)) fullShare (featList g (rsF l) (baseWord l) (byWord T)))) $$ Hf
  rw [← bind_pure (interpLvl B l)]
  iapply (step 𝒱 c bd (interpLvl_spec 𝒱 c bd B g (byWord T) l)) $$ [Hx Hf Ho]
  · isplitl [Hx]; · iexact Hx
    isplitl [Hf]; · iexact Hf
    iexact Ho
  iintro %_ ⟨Hx, Hf, Ho⟩
  rw [wp_pure]
  imodintro
  unfold Free
  isplitl [Hx]; · iexact Hx
  isplitl [Hi Hf HT Hv]
  · isplitl [Hi]; · iexists _; iexact Hi
    isplitl [Hf]; · iexists _; iexact Hf
    isplitl [HT] <;> iassumption
  isplitl [Ho] <;> iassumption

/-- One level to the next. -/
theorem midLvl_spec {hκ : c.2.kind = .scVector} (ι : Ix) (N : ℕ) (hc : Credits c B N) (q : PosShare TreeShare) (g : S3x128.Idx → F .f32) (T : STab.Idx → F .f32)
    {O : CellTallies nD τ sig Ix} {W₀ : Waits sig Ix} (l : Fin 15) :
    Between EC c B ι N q g T O W₀ l.castSucc
      ⊢ wp frame (wpE defs 𝒱 c bd) Set.univ (midLvl B hκ l) (fun _ => Between EC c B ι N q g T O W₀ l.succ) := by
  have hp : 1 - par l.castSucc = par l.succ := by revert l; decide
  have hp' : par l.castSucc = 1 - par l.succ := by revert l; decide
  have hm : midLvl B hκ l = ((hashLvl B l.succ >>= fun _ => fireLvl B hκ l.succ) >>= fun _ => (awaitLvl B l.castSucc >>= fun _ => interpLvl B l.castSucc)
      : Prog (TpuEff nD τ sig (Elt F) Λ c.2) PUnit) := by
    unfold midLvl; rw [bind_assoc]
  rw [hm]
  unfold Between
  rw [hp]
  iintro ⟨Hx, Hfl, Hfree, Ho, HO⟩
  iapply (step 𝒱 c bd (start_spec EC 𝒱 c bd B ι N hc q g T l.succ)) $$ [Hx Hfree]
  · isplitl [Hx] <;> iassumption
  iintro %_ ⟨Hx, Hnew⟩
  rw [← bind_pure (awaitLvl B l.castSucc >>= fun _ => interpLvl B l.castSucc)]
  iapply (step 𝒱 c bd (finish_spec EC 𝒱 c bd B ι N hc q g T l.castSucc)) $$ [Hx Hfl Ho HO]
  · isplitl [Hx]; · iexact Hx
    isplitl [Hfl]; · iexact Hfl
    isplitl [Ho] <;> iassumption
  iintro %_ ⟨Hx, Hfree, Ho, HO⟩
  rw [wp_pure]
  imodintro
  isplitl [Hx]; · iexact Hx
  isplitl [Hnew]; · iexact Hnew
  isplitl [Hfree]; · rw [← hp']; iexact Hfree
  isplitl [Ho]
  · iapply (HoldsOn.weaken c (fun p hp => by
      have h1 : (p 1).val < 128 := (p 1).isLt
      have e : l.succ.val = l.val + 1 := rfl
      have e' : l.castSucc.val = l.val := rfl
      unfold doneRow at *
      omega)) $$ Ho
  iexact HO

include EC in
/-- A copy within the chip and its wait. -/
theorem copy_spec {sp sp' : Space} {s : Shape} {e : EltTy} (hs : 0 < s.numel) {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    (ι : Ix) {q : PosShare TreeShare} {g : s.Idx → Elt F e} {O : CellTallies nD τ sig Ix} {W₀ : Waits sig Ix}
    {α : Type} {k : PUnit → Prog (TpuEff nD τ sig (Elt F) Λ c.2) α} {Q : α → sProp 𝕄} :
    iprop(Holds c src q g ∗ (∃ h, Holds c dst fullShare h) ∗ semVal (c, .dma sem) 0 ∗ Ow c ι O W₀)
      ⊢ iprop((iprop(Holds c src q g ∗ Holds c dst fullShare g ∗ semVal (c, .dma sem) 0 ∗ Ow c ι O W₀) -∗ wp frame (wpE defs 𝒱 c bd) Set.univ (k ⟨⟩) Q)
        -∗ wp frame (wpE defs 𝒱 c bd) Set.univ (Prog.lift (.enqueueDma src (.here dst) (.dma sem) hsrc hdst hsem) >>= fun _ =>
            Prog.lift (.waitDma2 sem src dst hsrc' hdst') >>= k) Q) := by
  unfold Holds Ow
  iintro ⟨⟨%fs, %hfs, Hs⟩, ⟨%hd, %fd, -, Hd⟩, Hv, #Hmw, %W, %hW, HO⟩ Hk
  iapply (wp_dmaLocal EC 𝒱 c bd (Sd := dst.view.set) (sm := .dma sem) ι dst.view.dmaCredit rfl (dst.view.dmaCredit_pos hs) subset_rfl) $$ [Hs Hd Hv]
  · isplitl [Hs]; · iexact Hs
    isplitl [Hd] <;> iassumption
  iintro HF
  iapply (wp_waitLocalO EC 𝒱 c bd ι rfl (O := O) (W := W)) $$ [HF HO]
  · isplitl [HF]; · iexact HF
    isplitl [HO]; · iexact HO
    iapply (MayWaits.elim (.dma sem)) $$ Hmw
  iintro ⟨⟨Hd, Hs⟩, Hv, HO⟩
  iapply Hk
  isplitl [Hs]; · iexists fs; isplitr; · ipureintro; exact hfs
                  iexact Hs
  isplitl [Hd]
  · iexists _
    isplitr; rotate_left; · iexact Hd
    ipureintro
    rw [View.read_write_univ]
    exact hfs
  isplitl [Hv]; · iexact Hv
  isplitr; · iexact Hmw
  iexists (insert (SemLoc.dma sem, ι) W)
  isplitr
  · ipureintro
    intro p hp
    rcases Finset.mem_insert.mp hp with hp | hp
    · exact .inr (by rw [hp])
    · exact hW p hp
  iexact HO

/-- What a tile holds between blocks. -/
def Rest (q : PosShare TreeShare) (T : STab.Idx → F .f32) (rin rout : DmaSem sig) : sProp 𝕄 :=
  iprop((∃ h, Holds c B.xyz fullShare h) ∗ (∃ h, Holds c B.ob fullShare h) ∗ Free c B q T 0 ∗ Free c B q T 1
    ∗ semVal (c, .dma rin) 0 ∗ semVal (c, .dma rout) 0)

include EC in
/-- A block: the result's columns are `outBlk` of the coordinates'. -/
theorem blockBody_spec {hκ : c.2.kind = .scVector} (ι : Ix) (N : ℕ) (hc : Credits c B N) (q : PosShare TreeShare) (g : S3x128.Idx → F .f32) (T : STab.Idx → F .f32)
    {O : CellTallies nD τ sig Ix} {W₀ : Waits sig Ix} {src : Memref sig c.2.kind .hbm S3x128 .f32} {dst : Memref sig c.2.kind .hbm S32x128 .f32}
    {rin rout : DmaSem sig} {qx : PosShare TreeShare} :
    (iprop(Holds c src qx g ∗ (∃ h, Holds c dst fullShare h) ∗ Rest c B q T rin rout ∗ Ow c ι O W₀) : sProp 𝕄)
      ⊢ wp frame (wpE defs 𝒱 c bd) Set.univ (blockBody B hκ src dst rin rout)
          (fun _ => iprop(Holds c src qx g ∗ Holds c dst fullShare (outBlk g (byWord T)) ∗ Rest c B q T rin rout ∗ Ow c ι O W₀)) := by
  have hm : blockBody B hκ src dst rin rout = (Prog.lift (.enqueueDma src (.here B.xyz) (.dma rin) (View.wordExact_bits rfl) B.hxyz.wordExact ⟨Or.inl rfl, trivial⟩) >>= fun _ =>
      Prog.lift (.waitDma2 rin src B.xyz (View.wordExact_bits rfl) B.hxyz.wordExact) >>= fun _ =>
      ((hashLvl B 0 >>= fun _ => fireLvl B hκ 0) >>= fun _ => (seq15 (midLvl B hκ) >>= fun _ => ((awaitLvl B 15 >>= fun _ => interpLvl B 15) >>= fun _ =>
      (Prog.lift (.enqueueDma B.ob (.here dst) (.dma rout) B.hob.wordExact (View.wordExact_bits rfl) ⟨Or.inl rfl, trivial⟩) >>= fun _ =>
      Prog.lift (.waitDma2 rout B.ob dst B.hob.wordExact (View.wordExact_bits rfl)) >>= pure))))
      : Prog (TpuEff nD τ sig (Elt F) Λ c.2) PUnit) := by
    unfold blockBody; simp only [bind_assoc, bind_pure]
  rw [hm]
  unfold Rest
  iintro ⟨Hs, Hd, ⟨Hx, Hob, H0, H1, Hin, Hout⟩, HO⟩
  iapply (copy_spec EC 𝒱 c bd (by decide +kernel) ι) $$ [Hs Hx Hin HO]
  · isplitl [Hs]; · iexact Hs
    isplitl [Hx]; · iexact Hx
    isplitl [Hin] <;> iassumption
  iintro ⟨Hs, Hx, Hin, HO⟩
  iapply (step 𝒱 c bd (start_spec EC 𝒱 c bd B ι N hc q g T 0)) $$ [Hx H0]
  · isplitl [Hx]; · iexact Hx
    iexact H0
  iintro %_ ⟨Hx, Hfl⟩
  icases Hob with ⟨%ho, Hob⟩
  ihave Hob := (HoldsOn.of_holds c (P := doneRow 0 0) (G := outBlk g (byWord T)) (fun p hp => absurd hp (by
    unfold doneRow; have e : (0 : Fin 16).val = 0 := rfl
    omega))) $$ Hob
  iapply (step 𝒱 c bd (seq15_spec 𝒱 c bd (midLvl B hκ) (Between EC c B ι N q g T O W₀) (fun l => midLvl_spec EC 𝒱 c bd B ι N hc q g T l))) $$ [Hx Hfl H1 Hob HO]
  · unfold Between
    isplitl [Hx]; · iexact Hx
    isplitl [Hfl]; · iexact Hfl
    isplitl [H1]; · iexact H1
    isplitl [Hob] <;> iassumption
  iintro %_ H
  unfold Between
  icases H with ⟨Hx, Hfl, H0, Hob, HO⟩
  iapply (step 𝒱 c bd (finish_spec EC 𝒱 c bd B ι N hc q g T 15)) $$ [Hx Hfl Hob HO]
  · isplitl [Hx]; · iexact Hx
    isplitl [Hfl]; · iexact Hfl
    isplitl [Hob] <;> iassumption
  iintro %_ ⟨Hx, H1, Hob, HO⟩
  ihave Hob := (HoldsOn.full c (fun p => by
    have h0 : (p 0).val < 32 := (p 0).isLt
    have h1 : (p 1).val < 128 := (p 1).isLt
    have e : (15 : Fin 16).val = 15 := rfl
    unfold doneRow; omega)) $$ Hob
  iapply (copy_spec EC 𝒱 c bd (by decide +kernel) ι) $$ [Hob Hd Hout HO]
  · isplitl [Hob]; · iexact Hob
    isplitl [Hd]; · iexact Hd
    isplitl [Hout] <;> iassumption
  iintro ⟨Hob, Hd, Hout, HO⟩
  rw [wp_pure]
  imodintro
  isplitl [Hs]; · iexact Hs
  isplitl [Hd]; · iexact Hd
  isplitr [HO]
  · isplitl [Hx]; · iexists _; iexact Hx
    isplitl [Hob]; · iexists _; iexact Hob
    isplitl [H0]; · iexact H0
    isplitl [H1]; · iexact H1
    isplitl [Hin] <;> iassumption
  iexact HO

end Lvl

end Cert.Enc
-- ==== Proof.Tasks.lean ====
/-
  A tile's work, block after block: a loop whose passes each turn one piece into another, a buffer given back as it was read, and the tables
  split between the two pairs of buffers.
-/
module

public import proofs.«01_k».proof.Proof.Levels

@[expose] public section

noncomputable section

namespace Cert.Enc

open Idealize.ShloMosaic Idealize.ShloMosaic.SparseCore Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

section Loop

variable {M : Type} [URA M] {E : Type → Type}

/-- The pieces of a loop before pass `n`: those of the passes done turned, the others not yet. -/
def piecesAt {m : ℕ} (A B : Fin m → sProp M) (n : ℕ) : sProp M := bigSep Finset.univ fun t => if t.val < n then B t else A t

theorem piecesAt_zero {m : ℕ} (A B : Fin m → sProp M) : piecesAt A B 0 = bigSep Finset.univ A :=
  BI.bigSep_congr fun t _ => if_neg (Nat.not_lt_zero _)

theorem piecesAt_all {m : ℕ} (A B : Fin m → sProp M) : piecesAt A B m = bigSep Finset.univ B :=
  BI.bigSep_congr fun t _ => if_pos t.isLt

theorem piecesAt_take {m : ℕ} (A B : Fin m → sProp M) (t : Fin m) :
    piecesAt A B t.val = iprop(A t ∗ bigSep (Finset.univ.erase t) fun t' => if t'.val < t.val then B t' else A t') := by
  unfold piecesAt
  rw [SparseCore.bigSep_erase' (Finset.mem_univ t), if_neg (lt_irrefl _)]

theorem piecesAt_put {m : ℕ} (A B : Fin m → sProp M) (t : Fin m) :
    piecesAt A B (t.val + 1) = iprop(B t ∗ bigSep (Finset.univ.erase t) fun t' => if t'.val < t.val then B t' else A t') := by
  unfold piecesAt
  rw [SparseCore.bigSep_erase' (Finset.mem_univ t), if_pos (Nat.lt_succ_self _)]
  refine congrArg _ (BI.bigSep_congr fun t' ht => ?_)
  have hne : t'.val ≠ t.val := fun e => (Finset.mem_erase.mp ht).1 (Fin.ext e)
  by_cases h : t'.val < t.val
  · rw [if_pos h, if_pos (Nat.lt_succ_of_lt h)]
  · rw [if_neg h, if_neg (by omega)]

end Loop

theorem of_cast_eq {α β : Type} (h : α = β) {a b : α} (e : cast h a = cast h b) : a = b := by
  subst h; exact e

section Back

variable {nD : Nat} {τ : Topo} {sig : RefSig} {Ix : Type} [DecidableEq Ix]
variable {Val : EltTy → Type} {Name : Type} [DecidableEq Name]
variable {U : Type} [URA U] {Lvl : Type} [Preorder Lvl] {Λ : Labels}
variable {defs : Defs nD τ sig Val Λ} (𝒱 : Variants) (c : Thread nD τ) (bd : Option 𝒱.V)

local notation "𝕄" => MT nD τ sig Ix Val Name U Lvl

/-- What reads as `f` did is `f` there. -/
theorem Holds.back {sp : Space} {s : Shape} {e : EltTy} {m : Memref sig c.2.kind sp s e} {q : PosShare TreeShare} {g : s.Idx → Val e}
    (f : Buf Val (m.view.loc c)) (h : m.view.read Val f = g) :
    (Holds c m q g : sProp 𝕄) ⊢ (m.view.loc c ↦[m.view.set]{q} f) := by
  unfold Holds
  iintro ⟨%f', %hf, H⟩
  have e : (m.view.loc c ↦[m.view.set]{q} f' : sProp 𝕄) = (m.view.loc c ↦[m.view.set]{q} f) := by
    refine pointsTo_congr fun i hi => ?_
    obtain ⟨x, -, rfl⟩ := Finset.mem_map.mp hi
    have := congrFun (hf.trans h.symm) x
    rw [View.read_apply, View.read_apply] at this
    exact of_cast_eq _ this
  iapply (Entails.of_eq e); iexact H

/-- A loop each of whose passes keeps `R` and turns its piece. -/
theorem for_pieces {w : ℕ} (lb ub st : BitVec w) (hok : Scf.OK lb ub st) (R : sProp 𝕄) (A B : Fin (Scf.trips lb ub st) → sProp 𝕄)
    (body : Fin (Scf.trips lb ub st) → PUnit → Prog (TpuEff nD τ sig Val Λ c.2) PUnit)
    (h : ∀ t, iprop(A t ∗ R) ⊢ wp frame (wpE defs 𝒱 c bd) Set.univ (body t ⟨⟩) (fun _ => iprop(B t ∗ R))) :
    iprop(bigSep Finset.univ A ∗ R)
      ⊢ wp frame (wpE defs 𝒱 c bd) Set.univ (Scf.for lb ub st hok ⟨⟩ body) (fun _ => iprop(bigSep Finset.univ B ∗ R)) := by
  have hb : ∀ (t : Fin (Scf.trips lb ub st)) (u : PUnit), iprop(piecesAt A B t.val ∗ R)
      ⊢ wp frame (wpE defs 𝒱 c bd) Set.univ (body t u) (fun _ => iprop(piecesAt A B (t.val + 1) ∗ R)) := by
    intro t u
    rw [piecesAt_take, piecesAt_put]
    iintro ⟨⟨HA, HF⟩, HR⟩
    ihave Hw := (h t) $$ [HA HR]
    · isplitl [HA] <;> iassumption
    iapply (wp_wand_r frame _ Set.univ)
    isplitl [Hw]; · iexact Hw
    iintro %_ ⟨HB, HR⟩
    isplitl [HB HF]
    · isplitl [HB] <;> iassumption
    · iexact HR
  iintro ⟨HA, HR⟩
  iapply (Scf.wp_for frame (wpE defs 𝒱 c bd) Set.univ lb ub st hok ⟨⟩ body (fun n _ => iprop(piecesAt A B n ∗ R)) hb)
  isplitl [HA HR]
  · isplitl [HA]
    · rw [piecesAt_zero]; iexact HA
    · iexact HR
  · rw [piecesAt_all]
    iintro %_ H; iexact H

end Back

section Tables

variable {nD : Nat} {τ : Topo} {sig : RefSig} {Ix : Type} [DecidableEq Ix]
variable {Val : EltTy → Type} {Name : Type} [DecidableEq Name]
variable {U : Type} [URA U] {Lvl : Type} [Preorder Lvl]
variable (c : Thread nD τ) (m : Memref sig c.2.kind .hbm STab .f32)

local notation "𝕄" => MT nD τ sig Ix Val Name U Lvl

theorem tabRect_emb (x : STab.Idx) : (Rect.unit (s := STab) ![0] STab.size tab_inb).emb x = x := by
  funext a
  match a with
  | 0 => exact Fin.ext (by show 0 + 1 * (x 0).val = _; omega)

theorem tabAll_set : ((tabAll (κ := c.2) m).view.set : Finset _) = m.view.set := by
  show (m.view.slice (Rect.unit (s := STab) ![0] STab.size tab_inb)).set = m.view.set
  rw [View.set_slice]
  ext i
  simp only [View.set, Finset.mem_map]
  constructor
  · rintro ⟨x, -, rfl⟩; exact ⟨x, Finset.mem_univ _, rfl⟩
  · rintro ⟨x, -, rfl⟩
    refine ⟨x, (LoadRect.mem_set _).mpr fun a => ?_, rfl⟩
    match a with
    | 0 => exact ⟨(x 0).val, (x 0).isLt, by show (x 0).val = 0 + 1 * (x 0).val; omega⟩

theorem tabAll_read (f : Buf Val (m.view.loc c)) : (tabAll (κ := c.2) m).view.read Val f = m.view.read Val f :=
  funext fun x => by
    show m.view.read Val f ((Rect.unit (s := STab) ![0] STab.size tab_inb).emb x) = _
    rw [tabRect_emb]

/-- The tables, a half of the share to each pair of buffers. -/
theorem tabs_eq (q : PosShare TreeShare) (f : Buf Val (m.view.loc c)) :
    (m.view.loc c ↦[m.view.set]{q} f : sProp 𝕄)
      = iprop(((tabAll (κ := c.2) m).view.loc c ↦[(tabAll (κ := c.2) m).view.set]{qs q 0} f)
          ∗ ((tabAll (κ := c.2) m).view.loc c ↦[(tabAll (κ := c.2) m).view.set]{qs q 1} f)) := by
  rw [tabAll_set, pointsTo_piecesOf _ _ (by decide : 0 < 2) q, show (Finset.univ : Finset (Fin 2)) = {0, 1} from rfl,
    SparseCore.bigSep_insert' (by decide), BI.bigSep_singleton]
  rfl

theorem tabs_take (q : PosShare TreeShare) (f : Buf Val (m.view.loc c)) :
    (m.view.loc c ↦[m.view.set]{q} f : sProp 𝕄)
      ⊢ iprop(Holds c (tabAll (κ := c.2) m) (qs q 0) (m.view.read Val f) ∗ Holds c (tabAll (κ := c.2) m) (qs q 1) (m.view.read Val f)) := by
  rw [tabs_eq, ← tabAll_read]
  iintro ⟨H0, H1⟩
  isplitl [H0]
  · iapply (Holds.intro c (m := tabAll (κ := c.2) m) (f := f)); iexact H0
  · iapply (Holds.intro c (m := tabAll (κ := c.2) m) (f := f)); iexact H1

theorem tabs_give (q : PosShare TreeShare) (f : Buf Val (m.view.loc c)) :
    (iprop(Holds c (tabAll (κ := c.2) m) (qs q 0) (m.view.read Val f) ∗ Holds c (tabAll (κ := c.2) m) (qs q 1) (m.view.read Val f)) : sProp 𝕄)
      ⊢ (m.view.loc c ↦[m.view.set]{q} f) := by
  rw [tabs_eq]
  iintro ⟨H0, H1⟩
  isplitl [H0]
  · iapply (Holds.back c (m := tabAll (κ := c.2) m) f (tabAll_read c m f)); iexact H0
  · iapply (Holds.back c (m := tabAll (κ := c.2) m) f (tabAll_read c m f)); iexact H1

end Tables

end Cert.Enc
-- ==== Proof.Whole.lean ====
/-
  Loads and stores of a whole memref, over what is read through it.
-/
module

public import proofs.«01_k».proof.Proof.Holds
public import Idealize.ShloMosaic.Lib.VecWindow

@[expose] public section

noncomputable section

namespace Cert.Enc

open Idealize.ShloMosaic Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {Val : EltTy → Type} {Name : Type} [DecidableEq Name]
variable {U : Type} [URA U] {Lvl : Type} [Preorder Lvl] {Λ : Labels}
variable {defs : Defs nD τ sig Val Λ} (𝒱 : Variants) (c : Thread nD τ) (bd : Option 𝒱.V)
variable {β : Type} {cs : CoreSpace} {s : Shape} {e : EltTy} {m : Memref sig c.2.kind cs s e}

local notation "𝕄" => MT nD τ sig Ix Val Name U Lvl

/-- The whole of `m` loaded: what it reads as. -/
theorem ld_full {off : Fin s.rank → ℕ} {inb : ∀ a, off a + s.size a ≤ s.size a} {hl : m.view.LoadsAt (Rect.unit off s.size inb).toLoadRect}
    {q : PosShare TreeShare} {g : s.Idx → Val e} {k : (s.Idx → Val e) → Prog (TpuEff nD τ sig Val Λ c.2) β} {Q : β → sProp 𝕄} :
    (Holds c m q g)
      ⊢ iprop((Holds c m q g -∗ wp frame (wpE defs 𝒱 c bd) Set.univ (k g) Q)
        -∗ wp frame (wpE defs 𝒱 c bd) Set.univ ((Prog.lift (.load m (Rect.unit off s.size inb).toLoadRect hl)) >>= k) Q) := by
  have h := ld_holds (defs := defs) 𝒱 c bd (m := m) (r := Rect.unit off s.size inb) (hl := hl) (q := q) (g := g) (k := k) (Q := Q)
  rwa [show (fun i => g ((Rect.unit off s.size inb).emb i)) = g from funext fun i => congrArg g (Rect.emb_unit_full inb i)] at h

/-- The whole of `m` stored. -/
theorem st_full {off : Fin s.rank → ℕ} {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {g : s.Idx → Val e} {k : PUnit → Prog (TpuEff nD τ sig Val Λ c.2) β} {Q : β → sProp 𝕄} :
    (Holds c m fullShare g)
      ⊢ iprop((Holds c m fullShare w -∗ wp frame (wpE defs 𝒱 c bd) Set.univ (k ⟨⟩) Q)
        -∗ wp frame (wpE defs 𝒱 c bd) Set.univ ((Prog.lift (.store m (Rect.unit off s.size inb) w Finset.univ hx hm)) >>= k) Q) := by
  have h := st_on (defs := defs) 𝒱 c bd (m := m) (r := Rect.unit off s.size inb) (w := w) (hx := hx) (hm := hm) (P := fun _ => False) (P' := fun _ => True)
    (G := w) (k := k) (Q := Q) (fun x => congrArg w (Rect.emb_unit_full inb x).symm)
    (fun i _ => .inr (LoadRect.mem_set _ |>.mpr fun a => ⟨(i a).val, (i a).isLt, by
      show (i a).val = off a + 1 * (i a).val
      have := inb a; omega⟩))
  iintro H Hk
  iapply h $$ [H]
  · iapply (HoldsOn.of_holds c (fun i hi => hi.elim)) $$ H
  iintro H
  iapply Hk
  iapply (HoldsOn.full c (fun _ => trivial)) $$ H

end Cert.Enc

end
-- ==== Proof.NormalI.lean ====
/-
  The printed block of the encoder is the block of Proof/Block.lean: the print cuts its statements into parts and writes each level out, and
  both sides are brought to one sequence of loops, issues and waits.
-/
module

public import proofs.«01_k».proof.Proof.Gen.KernelIdeal.Skeleton
public import proofs.«01_k».proof.Proof.Block
@[expose] public section
noncomputable section
namespace Cert.KernelIdeal.Gen
open Idealize.ShloMosaic Idealize.SL.Sem Cert.Enc
variable {F : FTy → Type} [FloatOps F]
variable (i : grid0.Coords) (arg2 : Memref sig .scVector .hbm S3x131072 .f32) (harg2 : arg2.IsWhole) (arg3 : Memref sig .scVector .hbm S16777216 .f32) (harg3 : arg3.IsWhole) (arg4 : Memref sig .scVector .hbm S32x131072 .f32) (harg4 : arg4.IsWhole) (arg5 : Memref sig .scVector .vmem S3x128 .f32) (harg5 : arg5.IsWhole) (arg6 : Memref sig .scVector .vmem S2048 .i32) (harg6 : arg6.IsWhole) (arg7 : Memref sig .scVector .vmem S2048 .i32) (harg7 : arg7.IsWhole) (arg8 : Memref sig .scVector .vmem S2048 .f32) (harg8 : arg8.IsWhole) (arg9 : Memref sig .scVector .vmem S2048 .f32) (harg9 : arg9.IsWhole) (arg10 : Memref sig .scVector .vmem S32x128 .f32) (harg10 : arg10.IsWhole) (arg11 : DmaSems sig S_) (arg12 : DmaSems sig S_) (v1574_r0 : DmaSems sig S_) (v1574_r1 : DmaSems sig S_)
  (v1 c0 c1 : BitVec 32) (k0_t1 : Fin k0_t1_loop.trips)
set_option maxRecDepth 65536
set_option maxHeartbeats 4000000

/-- A tile's buffers and semaphores, -/
def bufs : Bufs sig .scVector where
  tabs := arg3
  xyz := arg5
  ib := ![arg6, arg7]
  fb := ![arg8, arg9]
  ob := arg10
  sem := ![arg11.sem, arg12.sem]
  hxyz := harg5
  hob := harg10
/-- the 128 points of its block `k0_t1` among all points, -/
def inSl : Memref sig .scVector .hbm S3x128 .f32 := arg2.slice (Rect.unit (s:=S3x131072) (k0_off1 i k0_t1) S3x128.size (k0_off1_inb i k0_t1)) (fun _ => rfl)
/-- and their columns in the result. -/
def outSl : Memref sig .scVector .hbm S32x128 .f32 := arg4.slice (Rect.unit (s:=S32x131072) (k0_off194 i k0_t1) S32x128.size (k0_off194_inb i k0_t1)) (fun _=>rfl)
theorem t1_eq : k0_t1_body (F := F) i arg2 harg2 arg3 harg3 arg4 harg4 arg5 harg5 arg6 harg6 arg7 harg7 arg8 harg8 arg9 harg9 arg10 harg10 arg11 arg12 v1574_r0 v1574_r1 v1 k0_t1 ⟨⟩
  = (blockBody (Λ := Λ₀) (κ := .scVector ((i 0).castLE hcore0) ((i 1).castLE hsub0)) (bufs arg3 arg5 harg5 arg6 arg7 arg8 arg9 arg10 harg10 arg11 arg12) rfl (inSl i arg2 k0_t1) (outSl i arg4 k0_t1) v1574_r0.sem v1574_r1.sem) := by
  unfold k0_t1_body
  simp only [k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, k0_part119_eq_skeleton, k0_part119_skel, k0_part120_eq_skeleton, k0_part120_skel, k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, k0_part128_eq_skeleton, k0_part128_skel, k0_part129_eq_skeleton, k0_part129_skel, k0_part130_eq_skeleton, k0_part130_skel, k0_part131_eq_skeleton, k0_part131_skel, k0_part132_eq_skeleton, k0_part132_skel, k0_part133_eq_skeleton, k0_part133_skel, k0_part134_eq_skeleton, k0_part134_skel, k0_part135_eq_skeleton, k0_part135_skel, k0_part136_eq_skeleton, k0_part136_skel, k0_part137_eq_skeleton, k0_part137_skel, k0_part138_eq_skeleton, k0_part138_skel, k0_part139_eq_skeleton, k0_part139_skel, k0_part140_eq_skeleton, k0_part140_skel, k0_part141_eq_skeleton, k0_part141_skel, k0_part142_eq_skeleton, k0_part142_skel, k0_part143_eq_skeleton, k0_part143_skel, k0_part144_eq_skeleton, k0_part144_skel, k0_part145_eq_skeleton, k0_part145_skel, k0_part146_eq_skeleton, k0_part146_skel, k0_part147_eq_skeleton, k0_part147_skel, k0_part148_eq_skeleton, k0_part148_skel, k0_part149_eq_skeleton, k0_part149_skel, k0_part150_eq_skeleton, k0_part150_skel, k0_part151_eq_skeleton, k0_part151_skel, k0_part152_eq_skeleton, k0_part152_skel, k0_part153_eq_skeleton, k0_part153_skel, k0_part154_eq_skeleton, k0_part154_skel, k0_part155_eq_skeleton, k0_part155_skel, k0_part156_eq_skeleton, k0_part156_skel, k0_part157_eq_skeleton, k0_part157_skel, k0_part158_eq_skeleton, k0_part158_skel, k0_part159_eq_skeleton, k0_part159_skel, k0_part160_eq_skeleton, k0_part160_skel, k0_part161_eq_skeleton, k0_part161_skel, k0_part162_eq_skeleton, k0_part162_skel, k0_part163_eq_skeleton, k0_part163_skel, k0_part164_eq_skeleton, k0_part164_skel, k0_part165_eq_skeleton, k0_part165_skel, k0_part166_eq_skeleton, k0_part166_skel, k0_part167_eq_skeleton, k0_part167_skel, k0_part168_eq_skeleton, k0_part168_skel, k0_part169_eq_skeleton, k0_part169_skel, k0_part170_eq_skeleton, k0_part170_skel, k0_part171_eq_skeleton, k0_part171_skel, k0_part172_eq_skeleton, k0_part172_skel, k0_part173_eq_skeleton, k0_part173_skel, k0_part174_eq_skeleton, k0_part174_skel, k0_part175_eq_skeleton, k0_part175_skel, k0_part176_eq_skeleton, k0_part176_skel, blockBody, seq15, seq16, midLvl, fireLvl, awaitLvl, hashLvl, interpLvl, bind_assoc, pure_bind]
  rfl
end Cert.KernelIdeal.Gen
-- ==== Proof.TileI.lean ====
/-
  A tile's task: its 32 blocks of 128 points each, one after the other. From the columns of the coordinates that are its own, a share of the
  tables and its columns of the result, the columns are left at the features (`encOf`) of the coordinates.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import proofs.«01_k».proof.Proof.Gen.KernelIdeal
public import proofs.«01_k».proof.Proof.NormalI
public import proofs.«01_k».proof.Proof.Tasks

@[expose] public section

noncomputable section

namespace Cert.KernelIdeal.Enc

open Cert.KernelIdeal Cert.KernelIdeal.Gen Cert.Enc
open Idealize.ShloMosaic Idealize.ShloMosaic.SparseCore Idealize.ShloMosaic.SparseCore.Cfg Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

variable {F : FTy → Type} [FloatOps F]

abbrev ΛP : Labels := Pipeline.Sig Λ₀ (Fin 1) fun p => (pcfgs (F := F) p).Adm
abbrev K : SparseCore.Cfg τ sig (ΛP (F := F)) 1 := sc
abbrev 𝒱₀ : Variants := Variants.none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable {U : Type} [URA U]
local notation "𝕄" => MT nD τ sig (HIx 1) (Elt F) ℕ U ℕ

abbrev V (d : Dev nD) (c : Fin τ.nSC) (i : Fin τ.nSub) : Thread nD τ := SparseCore.V d c i
abbrev cV (L : grid0.Coords) : Fin τ.nSC := (L 0).castLE hcore0
abbrev jV (L : grid0.Coords) : Fin τ.nSub := (L 1).castLE hsub0
abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

abbrev xM : Memref sig .scVector .hbm S3x131072 .f32 := Memref.whole main_v0_scv
abbrev tM : Memref sig .scVector .hbm S16777216 .f32 := Memref.whole main_v1_scv
abbrev oM : Memref sig .scVector .hbm S32x131072 .f32 := Memref.whole main_v2_scv
abbrev B : Bufs sig .scVector :=
  bufs tM (Memref.whole cc0_scratch0) (Memref.isWhole_whole _) (Memref.whole cc0_scratch1) (Memref.whole cc0_scratch2) (Memref.whole cc0_scratch3)
    (Memref.whole cc0_scratch4) (Memref.whole cc0_scratch5) (Memref.isWhole_whole _) cc0_scratch6 cc0_scratch7

/-- Block `t` of a tile: its columns of the coordinates and of the result. -/
abbrev xSet (L : grid0.Coords) (t : Fin k0_t1_loop.trips) : Finset S3x131072.Idx := (inSl L xM t).view.set
abbrev oSet (L : grid0.Coords) (t : Fin k0_t1_loop.trips) : Finset S32x131072.Idx := (outSl L oM t).view.set

/-- The encoder's result: row `2 l + f` holds feature `f` of level `l`, column by column the points. -/
def encAt (X : S3x131072.Idx → F .f32) (T : S16777216.Idx → F .f32) (r : Fin 32) (p : Fin 131072) : F .f32 :=
  featAt (X (ix2 0 p)) (X (ix2 1 p)) (X (ix2 2 p)) (Scalar.ofBits .f32 (resWord ⟨_, lvlOf_lt r⟩)) (baseWord ⟨_, lvlOf_lt r⟩) (byWord T) (r.val % 2)
def encOf (X : S3x131072.Idx → F .f32) (T : S16777216.Idx → F .f32) : S32x131072.Idx → F .f32 := fun i => encAt X T (i 0) (i 1)

section Tile

variable (d : Dev nD) (L : grid0.Coords)

/-- What a stream's row credits its semaphore. -/
abbrev rowCredit : ℕ := sig.dmaCredit .scVector (Kind.scVector.table .vmem) 3 ⟨1, ![1]⟩ .f32

theorem credits : Credits (V d (cV L) (jV L)) B rowCredit where
  pos := by decide
  row p j r := by
    match p with
    | 0 => rfl
    | 1 => rfl
  strm p j := by
    match p with
    | 0 => exact (by decide : sig.dmaCredit .scVector (Kind.scVector.table .vmem) 3 S128 .f32 = 128 * rowCredit)
    | 1 => exact (by decide : sig.dmaCredit .scVector (Kind.scVector.table .vmem) 4 S128 .f32 = 128 * rowCredit)

/-- Where a place of a block lies in the coordinates and in the result. -/
abbrev inIx (t : Fin k0_t1_loop.trips) (x : S3x128.Idx) : S3x131072.Idx := (inSl L xM t).view.emb x
abbrev outIx (t : Fin k0_t1_loop.trips) (x : S32x128.Idx) : S32x131072.Idx := (outSl L oM t).view.emb x

theorem outIx_row (t : Fin k0_t1_loop.trips) (x : S32x128.Idx) : outIx L t x 0 = x 0 := by
  refine Fin.ext ?_
  show (k0_off194 L t) 0 + 1 * (x 0).val = (x 0).val
  rw [k0_off194_eq]
  show 0 + 1 * (x 0).val = (x 0).val
  omega

theorem inIx_at (t : Fin k0_t1_loop.trips) (x : S32x128.Idx) (a : Fin 3) : inIx L t (ix2 a (x 1)) = ix2 a (outIx L t x 1) := by
  funext b
  match b with
  | ⟨0, _⟩ =>
    refine Fin.ext ?_
    show (k0_off1 L t) 0 + 1 * a.val = a.val
    rw [k0_off1_eq]
    show 0 + 1 * a.val = a.val
    omega
  | ⟨1, _⟩ =>
    refine Fin.ext ?_
    show (k0_off1 L t) 1 + 1 * (x 1).val = (k0_off194 L t) 1 + 1 * (x 1).val
    rw [k0_off1_eq, k0_off194_eq]

theorem enc_block (t : Fin k0_t1_loop.trips) (X : S3x131072.Idx → F .f32) (T : S16777216.Idx → F .f32) :
    (outSl L oM t).view.read (Elt F) (encOf X T) = outBlk ((inSl L xM t).view.read (Elt F) X) (byWord T) := by
  funext x
  have e2 : ∀ a : Fin 3, (inSl L xM t).view.read (Elt F) X (ix2 a (x 1)) = X (ix2 a (outIx L t x 1)) := fun a => congrArg X (inIx_at L t x a)
  show encAt X T (outIx L t x 0) (outIx L t x 1) = outBlk ((inSl L xM t).view.read (Elt F) X) (byWord T) x
  rw [outIx_row]
  unfold outBlk encAt
  rw [e2, e2, e2]

abbrev semA (d : Dev nD) (c : Fin τ.nSC) (i : Fin τ.nSub) : GSem nD τ sig := (V d c i, .dma cc0_scratch6.sem)
abbrev semB (d : Dev nD) (c : Fin τ.nSC) (i : Fin τ.nSub) : GSem nD τ sig := (V d c i, .dma cc0_scratch7.sem)
abbrev semC (d : Dev nD) (c : Fin τ.nSC) (i : Fin τ.nSub) : GSem nD τ sig := (V d c i, .dma cc0_scoped0.sem)
abbrev semD (d : Dev nD) (c : Fin τ.nSC) (i : Fin τ.nSub) : GSem nD τ sig := (V d c i, .dma cc0_scoped1.sem)

/-- What is a tile's own beside the four semaphores. -/
def semRest (d : Dev nD) (c : Fin τ.nSC) (i : Fin τ.nSub) : sProp 𝕄 :=
  bigSep (((((ownCells (V d c i)).erase (semA d c i)).erase (semB d c i)).erase (semC d c i)).erase (semD d c i)) fun g => semVal g 0

theorem ownSems0_V (c : Fin τ.nSC) (i : Fin τ.nSub) :
    (ownSems0 (V d c i) : sProp 𝕄)
      = iprop(semVal (semA d c i) 0 ∗ semVal (semB d c i) 0 ∗ semVal (semC d c i) 0 ∗ semVal (semD d c i) 0 ∗ semRest d c i) := by
  unfold SparseCore.Cfg.ownSems0 semRest
  rw [SparseCore.bigSep_erase' ((mem_ownCells (g := semA d c i)).mpr ⟨rfl, by
      show (SemLoc.dma cc0_scratch6.sem : SemLoc sig).isScoped .scVector = true; decide⟩),
    SparseCore.bigSep_erase' (Finset.mem_erase.mpr ⟨by simp [semA, semB]; decide, (mem_ownCells (g := semB d c i)).mpr ⟨rfl, by
      show (SemLoc.dma cc0_scratch7.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d c i)).mpr ⟨rfl, by show (SemLoc.dma cc0_scoped0.sem : SemLoc sig).isScoped .scVector = true; decide⟩⟩⟩),
    SparseCore.bigSep_erase' (Finset.mem_erase.mpr ⟨by simp [semC, semD]; decide, Finset.mem_erase.mpr ⟨by simp [semB, semD]; decide,
      Finset.mem_erase.mpr ⟨by simp [semA, semD]; decide,
      (mem_ownCells (g := semD d c i)).mpr ⟨rfl, by show (SemLoc.dma cc0_scoped1.sem : SemLoc sig).isScoped .scVector = true; decide⟩⟩⟩⟩)]

/-- A tile's scratch buffers, by number. -/
abbrev scr : Fin 6 → Ref sig .scVector := ![cc0_scratch0, cc0_scratch1, cc0_scratch2, cc0_scratch3, cc0_scratch4, cc0_scratch5]
abbrev scrD (c : Fin τ.nSC) (i : Fin τ.nSub) (k : Fin 6) : DevRef τ sig := (Proc.scVector c i).devRef (scr k)

/-- What is a tile's own beside the six buffers. -/
def bufRest (d : Dev nD) (c : Fin τ.nSC) (i : Fin τ.nSub) : sProp 𝕄 :=
  bigSep (((((((ownRefs (τ := τ) (.scVector c i)).erase (scrD c i 0)).erase (scrD c i 1)).erase (scrD c i 2)).erase (scrD c i 3)).erase (scrD c i 4)).erase (scrD c i 5))
    fun b => iprop(∃ f, ((d, b) : Loc nD τ sig) ↦{fullShare} f)

theorem scr_inj : Function.Injective scr := by decide

theorem mem_scr (c : Fin τ.nSC) (i : Fin τ.nSub) (k : Fin 6) : scrD c i k ∈ ownRefs (τ := τ) (.scVector c i) :=
  SparseCore.Cfg.mem_ownRefs_of_owner (p := Proc.scVector c i) (b := scrD c i k) (by revert k; decide +revert)

theorem scrD_ne (c : Fin τ.nSC) (i : Fin τ.nSub) {k l : Fin 6} (h : k ≠ l) : scrD c i k ≠ scrD c i l :=
  fun e => h (scr_inj (Proc.devRef_injective _ e))

theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f) ∗ (∃ f, (V d c i).loc cc0_scratch5 ↦{fullShare} f) ∗ bufRest d c i) := by
  unfold SparseCore.Cfg.ownBufs bufRest
  have ne := fun (k l : Fin 6) (h : k ≠ l) => scrD_ne c i h
  refine (SparseCore.bigSep_erase' (mem_scr c i 0)).trans ?_
  rw [SparseCore.bigSep_erase' (i := scrD c i 1) (Finset.mem_erase.mpr ⟨ne _ _ (by decide), mem_scr c i 1⟩),
    SparseCore.bigSep_erase' (i := scrD c i 2) (Finset.mem_erase.mpr ⟨ne _ _ (by decide), Finset.mem_erase.mpr ⟨ne _ _ (by decide), mem_scr c i 2⟩⟩),
    SparseCore.bigSep_erase' (i := scrD c i 3) (Finset.mem_erase.mpr ⟨ne _ _ (by decide), Finset.mem_erase.mpr ⟨ne _ _ (by decide),
      Finset.mem_erase.mpr ⟨ne _ _ (by decide), mem_scr c i 3⟩⟩⟩),
    SparseCore.bigSep_erase' (i := scrD c i 4) (Finset.mem_erase.mpr ⟨ne _ _ (by decide), Finset.mem_erase.mpr ⟨ne _ _ (by decide),
      Finset.mem_erase.mpr ⟨ne _ _ (by decide), Finset.mem_erase.mpr ⟨ne _ _ (by decide), mem_scr c i 4⟩⟩⟩⟩),
    SparseCore.bigSep_erase' (i := scrD c i 5) (Finset.mem_erase.mpr ⟨ne _ _ (by decide), Finset.mem_erase.mpr ⟨ne _ _ (by decide),
      Finset.mem_erase.mpr ⟨ne _ _ (by decide), Finset.mem_erase.mpr ⟨ne _ _ (by decide), Finset.mem_erase.mpr ⟨ne _ _ (by decide), mem_scr c i 5⟩⟩⟩⟩⟩)]
  rfl

/-- A tile's number among the 32, and its share of the tables. -/
abbrev wid (L : grid0.Coords) : Fin 32 := ⟨(L 1).val * 2 + (L 0).val, by
  have h0 : (L 0).val < 2 := (L 0).isLt
  have h1 : (L 1).val < 16 := (L 1).isLt
  omega⟩
abbrev tq (w : Fin 32) : PosShare TreeShare := pieceOf fullShare 32 (by decide) w

variable (X : S3x131072.Idx → F .f32) (T : S16777216.Idx → F .f32)

/-- A block before its pass, -/
abbrev blkIn (d : Dev nD) (L : grid0.Coords) (t : Fin k0_t1_loop.trips) : sProp 𝕄 :=
  iprop((xLoc d ↦[xSet L t]{fullShare} X) ∗ ∃ f, oLoc d ↦[oSet L t]{fullShare} f)
/-- and after it. -/
abbrev blkOut (d : Dev nD) (L : grid0.Coords) (t : Fin k0_t1_loop.trips) : sProp 𝕄 :=
  iprop((xLoc d ↦[xSet L t]{fullShare} X) ∗ (oLoc d ↦[oSet L t]{fullShare} (encOf X T)))
abbrev tShare (d : Dev nD) (L : grid0.Coords) : sProp 𝕄 := (tLoc d ↦{tq (wid L)} T)

theorem whole_set {κ : Kind} (r : Ref sig κ) : (Memref.whole r).view.set = Finset.univ := View.set_whole _

variable (EC : UEmb Counters (MT nD τ sig (HIx 1) (Elt F) ℕ U ℕ)) [EC.LandsIn (upEmb : UEmb _ (MT nD τ sig (HIx 1) (Elt F) ℕ U ℕ))]

/-- What a tile keeps from pass to pass. -/
abbrev keep (O : CellTallies nD τ sig (HIx 1)) (W : Waits sig (HIx 1)) : sProp 𝕄 :=
  iprop(Rest (V d (cV L) (jV L)) B (tq (wid L)) T cc0_scoped0.sem cc0_scoped1.sem ∗ Ow (V d (cV L) (jV L)) (none : HIx 1) O W)

theorem in_back (t : Fin k0_t1_loop.trips) :
    (Holds (V d (cV L) (jV L)) (inSl L xM t) fullShare ((inSl L xM t).view.read (Elt F) X) : sProp 𝕄) ⊢ (xLoc d ↦[xSet L t]{fullShare} X) :=
  Holds.back (V d (cV L) (jV L)) (m := inSl L xM t) (q := fullShare) (g := (inSl L xM t).view.read (Elt F) X) X rfl

theorem out_back (t : Fin k0_t1_loop.trips) (f : S32x131072.Idx → F .f32) :
    (Holds (V d (cV L) (jV L)) (outSl L oM t) fullShare ((outSl L oM t).view.read (Elt F) f) : sProp 𝕄) ⊢ (oLoc d ↦[oSet L t]{fullShare} f) :=
  Holds.back (V d (cV L) (jV L)) (m := outSl L oM t) (q := fullShare) (g := (outSl L oM t).view.read (Elt F) f) f rfl

theorem in_take (t : Fin k0_t1_loop.trips) :
    (xLoc d ↦[xSet L t]{fullShare} X : sProp 𝕄) ⊢ Holds (V d (cV L) (jV L)) (inSl L xM t) fullShare ((inSl L xM t).view.read (Elt F) X) :=
  Holds.intro (V d (cV L) (jV L)) (m := inSl L xM t)

theorem out_take (t : Fin k0_t1_loop.trips) (f : S32x131072.Idx → F .f32) :
    (oLoc d ↦[oSet L t]{fullShare} f : sProp 𝕄) ⊢ Holds (V d (cV L) (jV L)) (outSl L oM t) fullShare ((outSl L oM t).view.read (Elt F) f) :=
  Holds.intro (V d (cV L) (jV L)) (m := outSl L oM t)

theorem of_prog_eq {p p' : Prog (TpuEff nD τ sig (Elt F) Λ₀ (V d (cV L) (jV L)).2) PUnit} (h : p = p') {A : sProp 𝕄} {Q : PUnit → sProp 𝕄}
    (H : A ⊢ wp frame (wpE (defs₀ (F := F)) 𝒱₀ (V d (cV L) (jV L)) none) Set.univ p Q) :
    A ⊢ wp frame (wpE (defs₀ (F := F)) 𝒱₀ (V d (cV L) (jV L)) none) Set.univ p' Q := h ▸ H

include EC in
/-- A pass. -/
theorem pass (v1 : BitVec 32) (t : Fin k0_t1_loop.trips) (O : CellTallies nD τ sig (HIx 1)) (W : Waits sig (HIx 1)) :
    iprop(blkIn (U := U) X d L t ∗ keep d L T O W)
      ⊢ wp frame (wpE (defs₀ (F := F)) 𝒱₀ (V d (cV L) (jV L)) none) Set.univ
          (k0_t1_body (F := F) L xM (Memref.isWhole_whole _) tM (Memref.isWhole_whole _) oM (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scoped0 cc0_scoped1 v1 t ⟨⟩)
          (fun _ => iprop(blkOut (U := U) X T d L t ∗ keep d L T O W)) := by
  refine of_prog_eq d L (t1_eq (F := F) L xM (Memref.isWhole_whole _) tM (Memref.isWhole_whole _) oM (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scoped0 cc0_scoped1 v1 t).symm ?_
  unfold keep
  iintro ⟨⟨Hx, %f, Ho⟩, HR, HO⟩
  ihave Hx := (in_take d L X t) $$ Hx
  ihave Ho := (out_take d L t f) $$ Ho
  ihave Hw := (blockBody_spec EC 𝒱₀ (V d (cV L) (jV L)) none B (hκ := rfl) (defs := defs₀ (F := F)) (none : HIx 1) rowCredit (credits d L) (tq (wid L))
    ((inSl L xM t).view.read (Elt F) X) T (O := O) (W₀ := W) (src := inSl L xM t) (dst := outSl L oM t) (rin := cc0_scoped0.sem) (rout := cc0_scoped1.sem)
    (qx := fullShare)) $$ [Hx Ho HR HO]
  · isplitl [Hx]; · iexact Hx
    isplitl [Ho]; · iexists _; iexact Ho
    isplitl [HR] <;> iassumption
  iapply (wp_wand_r frame _ Set.univ)
  isplitl [Hw]; · iexact Hw
  iintro %_ ⟨Hx, Ho, HR, HO⟩
  isplitl [Hx Ho]
  · isplitl [Hx]
    · iapply (in_back d L X t); iexact Hx
    · rw [← enc_block L t X T]; iapply (out_back d L t (encOf X T)); iexact Ho
  · isplitl [HR]; · iexact HR
    iexact HO

end Tile
end Cert.KernelIdeal.Enc
-- ==== Proof.SplitI.lean ====
/-
  The coordinates, the result and the tables of the first call, dealt to the tiles: a tile's columns of the first two, and one of 32 equal shares of
  the tables.
-/
module

public import proofs.«01_k».proof.Proof.TileI
public import Idealize.ShloMosaic.Lib.SparseCore.Stream

@[expose] public section

set_option maxRecDepth 65536

noncomputable section

namespace Cert.KernelIdeal.Enc

open Cert.KernelIdeal Cert.KernelIdeal.Gen Cert.Enc
open Idealize.ShloMosaic Idealize.ShloMosaic.SparseCore Idealize.ShloMosaic.SparseCore.Cfg Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

variable {F : FTy → Type} [FloatOps F]

/-- Tile `i` of SparseCore `c`. -/
abbrev lat (c : Fin 2) (i : Fin 16) : grid0.Coords := fun | 0 => c | 1 => i | ⟨_ + 2, h⟩ => absurd h (Nat.not_lt.2 (Nat.le_add_left _ _))

abbrev Blk : Type := Fin 2 × Fin 16 × Fin k0_t1_loop.trips

theorem trips_eq : k0_t1_loop.trips = 32 := by decide +kernel

/-- A block's first column. -/
abbrev col (b : Blk) : ℕ := 8192 * b.2.1.val + 4096 * b.1.val + 128 * b.2.2.val

theorem mem_xSet (b : Blk) (y : S3x131072.Idx) : y ∈ xSet (lat b.1 b.2.1) b.2.2 ↔ col b ≤ (y 1).val ∧ (y 1).val < col b + 128 := by
  unfold xSet inSl Memref.slice
  rw [show ((xM).view.slice (Rect.unit (s := S3x131072) (k0_off1 (lat b.1 b.2.1) b.2.2) S3x128.size (k0_off1_inb (lat b.1 b.2.1) b.2.2))).set
    = (Rect.unit (s := S3x131072) (k0_off1 (lat b.1 b.2.1) b.2.2) S3x128.size (k0_off1_inb (lat b.1 b.2.1) b.2.2)).set from
      (View.set_slice _ _).trans Finset.map_refl, Rect.mem_set_unit, k0_off1_eq]
  have h0 : (y 0).val < 3 := (y 0).isLt
  constructor
  · intro h
    exact h 1
  · intro h a
    match a with
    | ⟨0, _⟩ => exact ⟨Nat.zero_le _, h0⟩
    | ⟨1, _⟩ => exact h

theorem mem_oSet (b : Blk) (y : S32x131072.Idx) : y ∈ oSet (lat b.1 b.2.1) b.2.2 ↔ col b ≤ (y 1).val ∧ (y 1).val < col b + 128 := by
  unfold oSet outSl Memref.slice
  rw [show ((oM).view.slice (Rect.unit (s := S32x131072) (k0_off194 (lat b.1 b.2.1) b.2.2) S32x128.size (k0_off194_inb (lat b.1 b.2.1) b.2.2))).set
    = (Rect.unit (s := S32x131072) (k0_off194 (lat b.1 b.2.1) b.2.2) S32x128.size (k0_off194_inb (lat b.1 b.2.1) b.2.2)).set from
      (View.set_slice _ _).trans Finset.map_refl, Rect.mem_set_unit, k0_off194_eq]
  have h0 : (y 0).val < 32 := (y 0).isLt
  constructor
  · intro h
    exact h 1
  · intro h a
    match a with
    | ⟨0, _⟩ => exact ⟨Nat.zero_le _, by show (y 0).val < 0 + 32; omega⟩
    | ⟨1, _⟩ => exact h

/-- Blocks are told apart by their columns, -/
theorem blk_eq {b b' : Blk} {n : ℕ} (h : col b ≤ n ∧ n < col b + 128) (h' : col b' ≤ n ∧ n < col b' + 128) : b = b' := by
  obtain ⟨c, i, t⟩ := b
  obtain ⟨c', i', t'⟩ := b'
  have ht : t.val < 32 := lt_of_lt_of_eq t.isLt trips_eq
  have ht' : t'.val < 32 := lt_of_lt_of_eq t'.isLt trips_eq
  have hc := c.isLt
  have hc' := c'.isLt
  simp only [col] at h h'
  have e1 : c = c' := Fin.ext (by omega)
  have e2 : i = i' := Fin.ext (by omega)
  have e3 : t = t' := Fin.ext (by omega)
  rw [e1, e2, e3]

/-- and every column is in one. -/
theorem blk_ex {n : ℕ} (h : n < 131072) : ∃ b : Blk, col b ≤ n ∧ n < col b + 128 :=
  ⟨(⟨n / 4096 % 2, by omega⟩, ⟨n / 8192, by omega⟩, ⟨n / 128 % 32, by rw [trips_eq]; omega⟩), by
    simp only [col]
    omega⟩

variable {U : Type} [URA U]
local notation "𝕄" => MT nD τ sig (HIx 1) (Elt F) ℕ U ℕ

omit [FloatOps F] in
theorem x_split (d : Dev nD) (X : S3x131072.Idx → F .f32) :
    (xLoc d ↦{fullShare} X : sProp 𝕄)
      = bigSep Finset.univ fun c : Fin 2 => bigSep Finset.univ fun i : Fin 16 => bigSep Finset.univ fun t : Fin k0_t1_loop.trips =>
          xLoc d ↦[xSet (lat c i) t]{fullShare} X := by
  have hd : ∀ b ∈ (Finset.univ : Finset Blk), ∀ b' ∈ (Finset.univ : Finset Blk), b ≠ b' →
      Disjoint (xSet (lat b.1 b.2.1) b.2.2) (xSet (lat b'.1 b'.2.1) b'.2.2) := fun b _ b' _ hne =>
    Finset.disjoint_left.mpr fun y hy hy' => hne (blk_eq ((mem_xSet b y).mp hy) ((mem_xSet b' y).mp hy'))
  have hc : (Finset.univ : Finset Blk).biUnion (fun b => xSet (lat b.1 b.2.1) b.2.2) = Finset.univ :=
    Finset.eq_univ_iff_forall.mpr fun y => by
      obtain ⟨b, hb⟩ := blk_ex (y 1).isLt
      exact Finset.mem_biUnion.mpr ⟨b, Finset.mem_univ _, (mem_xSet b y).mpr hb⟩
  have h := pointsTo_biUnion (Ix := HIx 1) (Val := Elt F) (Name := ℕ) (U := U) (Lvl := ℕ) (ℓ := xLoc d) (q := fullShare) (f := X) Finset.univ
    (fun b : Blk => xSet (lat b.1 b.2.1) b.2.2) hd
  rw [hc] at h
  refine h.trans ?_
  rw [BI.bigSep_univ_prod]
  exact BI.bigSep_congr fun c _ => BI.bigSep_univ_prod _

omit [FloatOps F] in
theorem o_split (d : Dev nD) (X : S32x131072.Idx → F .f32) :
    (oLoc d ↦{fullShare} X : sProp 𝕄)
      = bigSep Finset.univ fun c : Fin 2 => bigSep Finset.univ fun i : Fin 16 => bigSep Finset.univ fun t : Fin k0_t1_loop.trips =>
          oLoc d ↦[oSet (lat c i) t]{fullShare} X := by
  have hd : ∀ b ∈ (Finset.univ : Finset Blk), ∀ b' ∈ (Finset.univ : Finset Blk), b ≠ b' →
      Disjoint (oSet (lat b.1 b.2.1) b.2.2) (oSet (lat b'.1 b'.2.1) b'.2.2) := fun b _ b' _ hne =>
    Finset.disjoint_left.mpr fun y hy hy' => hne (blk_eq ((mem_oSet b y).mp hy) ((mem_oSet b' y).mp hy'))
  have hc : (Finset.univ : Finset Blk).biUnion (fun b => oSet (lat b.1 b.2.1) b.2.2) = Finset.univ :=
    Finset.eq_univ_iff_forall.mpr fun y => by
      obtain ⟨b, hb⟩ := blk_ex (y 1).isLt
      exact Finset.mem_biUnion.mpr ⟨b, Finset.mem_univ _, (mem_oSet b y).mpr hb⟩
  have h := pointsTo_biUnion (Ix := HIx 1) (Val := Elt F) (Name := ℕ) (U := U) (Lvl := ℕ) (ℓ := oLoc d) (q := fullShare) (f := X) Finset.univ
    (fun b : Blk => oSet (lat b.1 b.2.1) b.2.2) hd
  rw [hc] at h
  refine h.trans ?_
  rw [BI.bigSep_univ_prod]
  exact BI.bigSep_congr fun c _ => BI.bigSep_univ_prod _

/-- The tiles by number. -/
def widEquiv : Fin 2 × Fin 16 ≃ Fin 32 where
  toFun a := wid (lat a.1 a.2)
  invFun w := (⟨w.val % 2, by omega⟩, ⟨w.val / 2, by omega⟩)
  left_inv a := by
    obtain ⟨c, i⟩ := a
    have := c.isLt
    refine Prod.ext (Fin.ext ?_) (Fin.ext ?_)
    · show (i.val * 2 + c.val) % 2 = c.val
      omega
    · show (i.val * 2 + c.val) / 2 = i.val
      omega
  right_inv w := Fin.ext (by show w.val / 2 * 2 + w.val % 2 = w.val; omega)

omit [FloatOps F] in
theorem t_split (d : Dev nD) (T : S16777216.Idx → F .f32) :
    (tLoc d ↦{fullShare} T : sProp 𝕄)
      = bigSep Finset.univ fun c : Fin 2 => bigSep Finset.univ fun i : Fin 16 => tShare (U := U) T d (lat c i) := by
  rw [pointsTo_piecesOf (Ix := HIx 1) (Val := Elt F) (Name := ℕ) (U := U) (Lvl := ℕ) (ℓ := tLoc d) Finset.univ T (o := 32) (by decide) fullShare,
    BI.bigSep_univ_equiv widEquiv, BI.bigSep_univ_prod]
  rfl

/-- What a tile is handed and what it hands back. -/
abbrev goPay (X : S3x131072.Idx → F .f32) (T : S16777216.Idx → F .f32) (d : Dev nD) (c : Fin 2) (i : Fin 16) : sProp 𝕄 :=
  iprop((bigSep Finset.univ fun t : Fin k0_t1_loop.trips => blkIn (U := U) X d (lat c i) t) ∗ tShare (U := U) T d (lat c i))
abbrev tdPay (X : S3x131072.Idx → F .f32) (T : S16777216.Idx → F .f32) (d : Dev nD) (c : Fin 2) (i : Fin 16) : sProp 𝕄 :=
  iprop((bigSep Finset.univ fun t : Fin k0_t1_loop.trips => blkOut (U := U) X T d (lat c i) t) ∗ tShare (U := U) T d (lat c i))

omit [FloatOps F] in
theorem out_some (d : Dev nD) (L : grid0.Coords) (t : Fin k0_t1_loop.trips) (f : S32x131072.Idx → F .f32) :
    (oLoc d ↦[oSet L t]{fullShare} f : sProp 𝕄) ⊢ iprop(∃ g, oLoc d ↦[oSet L t]{fullShare} g) := by
  iintro H
  iexists f
  iexact H

omit [FloatOps F] in
theorem outs_some (d : Dev nD) (f : S32x131072.Idx → F .f32) :
    (bigSep Finset.univ fun c : Fin 2 => bigSep Finset.univ fun i : Fin 16 => bigSep Finset.univ fun t : Fin k0_t1_loop.trips =>
        oLoc d ↦[oSet (lat c i) t]{fullShare} f : sProp 𝕄)
      ⊢ bigSep Finset.univ fun c : Fin 2 => bigSep Finset.univ fun i : Fin 16 => bigSep Finset.univ fun t : Fin k0_t1_loop.trips =>
        iprop(∃ g, oLoc d ↦[oSet (lat c i) t]{fullShare} g) :=
  BI.bigSep_mono fun c _ => BI.bigSep_mono fun i _ => BI.bigSep_mono fun t _ => out_some (U := U) d (lat c i) t f

omit [FloatOps F] in
/-- The three arrays make up all the tiles' parts, -/
theorem deal (d : Dev nD) (X : S3x131072.Idx → F .f32) (T : S16777216.Idx → F .f32) (f : S32x131072.Idx → F .f32) :
    iprop((xLoc d ↦{fullShare} X) ∗ (tLoc d ↦{fullShare} T) ∗ (oLoc d ↦{fullShare} f))
      ⊢ (bigSep Finset.univ fun c : Fin 2 => bigSep Finset.univ fun i : Fin 16 => goPay (U := U) X T d c i : sProp 𝕄) := by
  rw [x_split, t_split, o_split]
  simp only [goPay, blkIn, BI.bigSep_sep']
  iintro ⟨Hx, Ht, Ho⟩
  isplitl [Hx Ho]
  · isplitl [Hx]; · iexact Hx
    iapply (outs_some (U := U) d f)
    iexact Ho
  iexact Ht

/-- and back, the result at the features. -/
theorem join (d : Dev nD) (X : S3x131072.Idx → F .f32) (T : S16777216.Idx → F .f32) :
    (bigSep Finset.univ fun c : Fin 2 => bigSep Finset.univ fun i : Fin 16 => tdPay (U := U) X T d c i : sProp 𝕄)
      ⊢ iprop((xLoc d ↦{fullShare} X) ∗ (tLoc d ↦{fullShare} T) ∗ (oLoc d ↦{fullShare} encOf X T)) := by
  rw [x_split, t_split, o_split]
  simp only [tdPay, blkOut, BI.bigSep_sep']
  iintro ⟨⟨Hx, Ho⟩, Ht⟩
  isplitl [Hx]; · iexact Hx
  isplitl [Ht]; · iexact Ht
  iexact Ho

end Cert.KernelIdeal.Enc

end
-- ==== Proof.TileBodyI.lean ====
/-
  A tile's task as the launch asks for it: from its part of the call's operands and its own scratch, its columns of the result written.
-/
module

public import proofs.«01_k».proof.Proof.TileI

@[expose] public section

noncomputable section

namespace Cert.KernelIdeal.Enc

open Cert.KernelIdeal Cert.KernelIdeal.Gen Cert.Enc
open Idealize.ShloMosaic Idealize.ShloMosaic.SparseCore Idealize.ShloMosaic.SparseCore.Cfg Idealize.ShloMosaic.Transfers Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA

variable {F : FTy → Type} [FloatOps F]
variable {U : Type} [URA U]
local notation "𝕄" => MT nD τ sig (HIx 1) (Elt F) ℕ U ℕ
variable (EC : UEmb Counters (MT nD τ sig (HIx 1) (Elt F) ℕ U ℕ)) [EC.LandsIn (upEmb : UEmb _ (MT nD τ sig (HIx 1) (Elt F) ℕ U ℕ))]
variable (d : Dev nD) (L : grid0.Coords) (X : S3x131072.Idx → F .f32) (T : S16777216.Idx → F .f32)

/-- A scratch buffer at contents not chosen. -/
theorem own_take (c : Thread nD τ) (r : Ref sig c.2.kind) :
    (iprop(∃ f, c.loc r ↦{fullShare} f) : sProp 𝕄) ⊢ iprop(∃ h, Holds c (Memref.whole r) fullShare h) := by
  iintro ⟨%f, H⟩
  iexists _
  iapply (show (c.loc r ↦{fullShare} f : sProp 𝕄) ⊢ Holds c (Memref.whole r) fullShare ((Memref.whole r).view.read (Elt F) f) from by
    refine (Entails.of_eq ?_).trans (Holds.intro c (m := Memref.whole r))
    rw [View.set_whole])
  iexact H

theorem own_back (c : Thread nD τ) (r : Ref sig c.2.kind) :
    (iprop(∃ h, Holds c (Memref.whole r) fullShare h) : sProp 𝕄) ⊢ iprop(∃ f, c.loc r ↦{fullShare} f) := by
  unfold Holds
  iintro ⟨%h, %f, -, H⟩
  iexists f
  iapply (show ((Memref.whole r).view.loc c ↦[(Memref.whole r).view.set]{fullShare} f : sProp 𝕄) ⊢ (c.loc r ↦{fullShare} f) from
    Entails.of_eq (by rw [View.set_whole]))
  iexact H

/-- The tile's share of the tables, half of it to each pair of buffers. -/
theorem tab_take : (tShare (U := U) T d L) ⊢ (iprop(Holds (V d (cV L) (jV L)) (tabAll (κ := (V d (cV L) (jV L)).2) B.tabs) (qs (tq (wid L)) 0) T
    ∗ Holds (V d (cV L) (jV L)) (tabAll (κ := (V d (cV L) (jV L)).2) B.tabs) (qs (tq (wid L)) 1) T) : sProp 𝕄) := by
  have e : (tLoc d ↦{tq (wid L)} T : sProp 𝕄) = (tM.view.loc (V d (cV L) (jV L)) ↦[tM.view.set]{tq (wid L)} T) := by
    rw [View.set_whole]
  have h := tabs_take (Val := Elt F) (Ix := HIx 1) (Name := ℕ) (U := U) (Lvl := ℕ) (V d (cV L) (jV L)) tM (tq (wid L)) T
  rw [← e] at h
  exact h

theorem tab_back : (iprop(Holds (V d (cV L) (jV L)) (tabAll (κ := (V d (cV L) (jV L)).2) B.tabs) (qs (tq (wid L)) 0) T
    ∗ Holds (V d (cV L) (jV L)) (tabAll (κ := (V d (cV L) (jV L)).2) B.tabs) (qs (tq (wid L)) 1) T) : sProp 𝕄) ⊢ (tShare (U := U) T d L) := by
  have e : (tLoc d ↦{tq (wid L)} T : sProp 𝕄) = (tM.view.loc (V d (cV L) (jV L)) ↦[tM.view.set]{tq (wid L)} T) := by
    rw [View.set_whole]
  have h := tabs_give (Val := Elt F) (Ix := HIx 1) (Name := ℕ) (U := U) (Lvl := ℕ) (V d (cV L) (jV L)) tM (tq (wid L)) T
  rw [← e] at h
  exact h

/-- The tile's kernel, on its buffers. -/
abbrev task : Prog (TpuEff nD τ sig (Elt F) Λ₀ (.scVector (cV L) (jV L))) PUnit :=
  cc0_enc (F := F) L xM (Memref.isWhole_whole _) tM (Memref.isWhole_whole _) oM (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scoped0 cc0_scoped1

include EC in
/-- All passes. -/
theorem passes (O : CellTallies nD τ sig (HIx 1)) (W : Waits sig (HIx 1)) :
    iprop((bigSep Finset.univ fun t : Fin k0_t1_loop.trips => blkIn (U := U) X d L t) ∗ keep d L T O W)
      ⊢ wp frame (wpE (defs₀ (F := F)) 𝒱₀ (V d (cV L) (jV L)) none) Set.univ (task (F := F) L)
          (fun _ => iprop((bigSep Finset.univ fun t : Fin k0_t1_loop.trips => blkOut (U := U) X T d L t) ∗ keep d L T O W)) := by
  have e : task (F := F) L = cc0_enc_skel (F := F) L xM (Memref.isWhole_whole _) tM (Memref.isWhole_whole _) oM (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scoped0 cc0_scoped1 := by
    unfold task; rw [cc0_enc_eq_skeleton]
  refine of_prog_eq d L e.symm ?_
  unfold cc0_enc_skel
  rw [bind_pure]
  exact for_pieces 𝒱₀ (V d (cV L) (jV L)) none _ _ _ k0_t1_ok (keep d L T O W) (fun t => blkIn (U := U) X d L t) (fun t => blkOut (U := U) X T d L t) _
    (fun t => pass d L X T EC _ t O W)

include EC in
/-- The task. -/
theorem tile_body (hF : (K (F := F)).Facts) (O : CellTallies nD τ sig (HIx 1)) (W : Waits sig (HIx 1)) (hO : ∀ g, O g none = 0) :
    iprop(levAts (K (F := F)).L (K (F := F)).lev ∗ emp
        ∗ ((bigSep Finset.univ fun t : Fin k0_t1_loop.trips => blkIn (U := U) X d L t) ∗ tShare (U := U) T d L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (task (F := F) L)
          fun _ => iprop(((bigSep Finset.univ fun t : Fin k0_t1_loop.trips => blkOut (U := U) X T d L t) ∗ tShare (U := U) T d L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨HB, HT⟩, ⟨H0, H1, H2, H3, H4, H5, Hbufs⟩, ⟨HsA, HsB, HsC, HsD, Hsems⟩, HO⟩
  ihave #Hmw := (show levAts (K (F := F)).L (K (F := F)).lev ⊢ (MayWaits (V d (cV L) (jV L)) (none : HIx 1) O : sProp 𝕄) from
    (K (F := F)).mayWaits_none (thr := V d (cV L) (jV L)) hO) $$ Hlv
  ihave H0 := (own_take (V d (cV L) (jV L)) cc0_scratch0) $$ H0
  ihave H1 := (own_take (V d (cV L) (jV L)) cc0_scratch1) $$ H1
  ihave H2 := (own_take (V d (cV L) (jV L)) cc0_scratch2) $$ H2
  ihave H3 := (own_take (V d (cV L) (jV L)) cc0_scratch3) $$ H3
  ihave H4 := (own_take (V d (cV L) (jV L)) cc0_scratch4) $$ H4
  ihave H5 := (own_take (V d (cV L) (jV L)) cc0_scratch5) $$ H5
  ihave HT := (tab_take d L T) $$ HT
  icases HT with ⟨HT0, HT1⟩
  ihave Hw := (passes EC d L X T O W) $$ [HB HT0 HT1 H0 H1 H2 H3 H4 H5 HsA HsB HsC HsD HO]
  · isplitl [HB]; · iexact HB
    unfold keep Rest Cert.Enc.Free Ow
    isplitr [HO]
    · isplitl [H0]; · iexact H0
      isplitl [H5]; · iexact H5
      isplitl [H1 H3 HT0 HsA]
      · isplitl [H1]; · iexact H1
        isplitl [H3]; · iexact H3
        isplitl [HT0]; · iexact HT0
        iexact HsA
      isplitl [H2 H4 HT1 HsB]
      · isplitl [H2]; · iexact H2
        isplitl [H4]; · iexact H4
        isplitl [HT1]; · iexact HT1
        iexact HsB
      isplitl [HsC]; · iexact HsC
      iexact HsD
    · isplitr; · iexact Hmw
      iexists W; isplitr; · ipureintro; exact fun p hp => Or.inl hp
      iexact HO
  iapply (wp_wand_r frame _ Set.univ)
  isplitl [Hw]; · iexact Hw
  unfold keep Rest Cert.Enc.Free Ow
  iintro %_ ⟨HB, ⟨H0, H5, ⟨H1, H3, HT0, HsA⟩, ⟨H2, H4, HT1, HsB⟩, HsC, HsD⟩, -, HO⟩
  isplitl [HB HT0 HT1]
  · isplitl [HB]; · iexact HB
    iapply (tab_back d L T)
    isplitl [HT0]; · iexact HT0
    iexact HT1
  isplitl [H0 H1 H2 H3 H4 H5 Hbufs]
  · isplitl [H0]; · iapply (own_back (V d (cV L) (jV L)) cc0_scratch0); iexact H0
    isplitl [H1]; · iapply (own_back (V d (cV L) (jV L)) cc0_scratch1); iexact H1
    isplitl [H2]; · iapply (own_back (V d (cV L) (jV L)) cc0_scratch2); iexact H2
    isplitl [H3]; · iapply (own_back (V d (cV L) (jV L)) cc0_scratch3); iexact H3
    isplitl [H4]; · iapply (own_back (V d (cV L) (jV L)) cc0_scratch4); iexact H4
    isplitl [H5]; · iapply (own_back (V d (cV L) (jV L)) cc0_scratch5); iexact H5
    iexact Hbufs
  isplitl [HsA HsB HsC HsD Hsems]
  · isplitl [HsA]; · iexact HsA
    isplitl [HsB]; · iexact HsB
    isplitl [HsC]; · iexact HsC
    isplitl [HsD]; · iexact HsD
    iexact Hsems
  iexact HO

end Cert.KernelIdeal.Enc
-- ==== Proof.MlpI.lean ====
/-
  The body of the pipelined call: what it leaves in its two result blocks is a function of what its thirteen operand blocks read as.
-/
module

public import proofs.«01_k».proof.Defs
public import proofs.«01_k».proof.Proof.Gen.KernelIdeal.Skeleton
public import proofs.«01_k».proof.Proof.Whole
public import Idealize.ShloMosaic.Lib.SparseCore.Quiescent

@[expose] public section

noncomputable section

namespace Cert.KernelIdeal.Mlp

open Cert.KernelIdeal Cert.KernelIdeal.Gen Cert.Enc
open Idealize.ShloMosaic Idealize.ShloMosaic.SparseCore Idealize.ShloMosaic.SparseCore.Cfg Idealize.ShloMosaic.Transfers Idealize.ShloMosaic.TcCoe
open Idealize.SL
open Idealize.SL.BI (sProp Storable bigSep)
open scoped Idealize.SL.BI
open Idealize.SL.BI.BIBase Idealize.SL.BI.Laws Idealize.SL.Sem Idealize.SL.ProofMode
open Idealize.SL.RA

variable {F : FTy → Type} [FloatOps F]

/-- The density of a block of points, from their features and the first network's weights. -/
abbrev sigBlk (f : Vec F S32x1024 .f32) (w1 : Vec F S32x64 .f32) (b1 : Vec F S1x64 .f32) (w2 : Vec F S64x16 .f32) (b2 : Vec F S1x16 .f32) :
    FVec F S1024x1 .f32 := k1_pay3 f w1 b1 w2 b2

/-- The colour of a block of points, from their features, their directions and both networks' weights. -/
def rgbBlk (f : Vec F S32x1024 .f32) (v : Vec F S1024x3 .f32) (w1 : Vec F S32x64 .f32) (b1 : Vec F S1x64 .f32) (w2 : Vec F S64x16 .f32)
    (b2 : Vec F S1x16 .f32) (r1 : Vec F S27x64 .f32) (r1x : Vec F S16x64 .f32) (c1 : Vec F S1x64 .f32) (r2 : Vec F S64x64 .f32)
    (c2 : Vec F S1x64 .f32) (r3 : Vec F S64x3 .f32) (c3 : Vec F S1x3 .f32) : FVec F S1024x3 .f32 :=
  k1_pay1 (k1_pay7 v (k1_pay4 r1) (k1_pay5 f w1 b1 w2 b2 v r1 r1x c1) (k1_pay6 (F := F))) (k1_pay8 v) (k1_pay9 (k1_pay4 r1))
    (constant S1024x64 .f32 0x00000000#32) r2 c2 r3 c3

variable {U : Type} [URA U]
local notation "𝕄" => MT nD τ sig (HIx 1) (Elt F) ℕ U ℕ

set_option maxRecDepth 65536 in
/-- The body: thirteen operand blocks read, two result blocks written. -/
theorem body_spec (d : Dev nD) (𝒱 : Variants) (i : grid1.Coords)
    {a1 : Memref sig .tc .vmem S32x1024 .f32} (h1 : a1.IsWhole) {a2 : Memref sig .tc .vmem S1024x3 .f32} (h2 : a2.IsWhole)
    {a3 : Memref sig .tc .vmem S32x64 .f32} (h3 : a3.IsWhole) {a4 : Memref sig .tc .vmem S1x64 .f32} (h4 : a4.IsWhole)
    {a5 : Memref sig .tc .vmem S64x16 .f32} (h5 : a5.IsWhole) {a6 : Memref sig .tc .vmem S1x16 .f32} (h6 : a6.IsWhole)
    {a7 : Memref sig .tc .vmem S27x64 .f32} (h7 : a7.IsWhole) {a8 : Memref sig .tc .vmem S16x64 .f32} (h8 : a8.IsWhole)
    {a9 : Memref sig .tc .vmem S1x64 .f32} (h9 : a9.IsWhole) {a10 : Memref sig .tc .vmem S64x64 .f32} (h10 : a10.IsWhole)
    {a11 : Memref sig .tc .vmem S1x64 .f32} (h11 : a11.IsWhole) {a12 : Memref sig .tc .vmem S64x3 .f32} (h12 : a12.IsWhole)
    {a13 : Memref sig .tc .vmem S1x3 .f32} (h13 : a13.IsWhole) {a14 : Memref sig .tc .vmem S1024x1 .f32} (h14 : a14.IsWhole)
    {a15 : Memref sig .tc .vmem S1024x3 .f32} (h15 : a15.IsWhole)
    (g1 : S32x1024.Idx → Elt F .f32) (g2 : S1024x3.Idx → Elt F .f32) (g3 : S32x64.Idx → Elt F .f32) (g4 : S1x64.Idx → Elt F .f32)
    (g5 : S64x16.Idx → Elt F .f32) (g6 : S1x16.Idx → Elt F .f32) (g7 : S27x64.Idx → Elt F .f32) (g8 : S16x64.Idx → Elt F .f32)
    (g9 : S1x64.Idx → Elt F .f32) (g10 : S64x64.Idx → Elt F .f32) (g11 : S1x64.Idx → Elt F .f32) (g12 : S64x3.Idx → Elt F .f32)
    (g13 : S1x3.Idx → Elt F .f32) (g14 : S1024x1.Idx → Elt F .f32) (g15 : S1024x3.Idx → Elt F .f32) (Q : PUnit → sProp 𝕄) :
    iprop(Holds (d : Thread nD τ) a1 fullShare g1 ∗ Holds (d : Thread nD τ) a2 fullShare g2 ∗ Holds (d : Thread nD τ) a3 fullShare g3
      ∗ Holds (d : Thread nD τ) a4 fullShare g4 ∗ Holds (d : Thread nD τ) a5 fullShare g5 ∗ Holds (d : Thread nD τ) a6 fullShare g6
      ∗ Holds (d : Thread nD τ) a7 fullShare g7 ∗ Holds (d : Thread nD τ) a8 fullShare g8 ∗ Holds (d : Thread nD τ) a9 fullShare g9
      ∗ Holds (d : Thread nD τ) a10 fullShare g10 ∗ Holds (d : Thread nD τ) a11 fullShare g11 ∗ Holds (d : Thread nD τ) a12 fullShare g12
      ∗ Holds (d : Thread nD τ) a13 fullShare g13 ∗ Holds (d : Thread nD τ) a14 fullShare g14 ∗ Holds (d : Thread nD τ) a15 fullShare g15
      ∗ (iprop(Holds (d : Thread nD τ) a1 fullShare g1 ∗ Holds (d : Thread nD τ) a2 fullShare g2 ∗ Holds (d : Thread nD τ) a3 fullShare g3
      ∗ Holds (d : Thread nD τ) a4 fullShare g4 ∗ Holds (d : Thread nD τ) a5 fullShare g5 ∗ Holds (d : Thread nD τ) a6 fullShare g6
      ∗ Holds (d : Thread nD τ) a7 fullShare g7 ∗ Holds (d : Thread nD τ) a8 fullShare g8 ∗ Holds (d : Thread nD τ) a9 fullShare g9
      ∗ Holds (d : Thread nD τ) a10 fullShare g10 ∗ Holds (d : Thread nD τ) a11 fullShare g11 ∗ Holds (d : Thread nD τ) a12 fullShare g12
      ∗ Holds (d : Thread nD τ) a13 fullShare g13 ∗ Holds (d : Thread nD τ) a14 fullShare (sigBlk g1 g3 g4 g5 g6)
      ∗ Holds (d : Thread nD τ) a15 fullShare (rgbBlk g1 g2 g3 g4 g5 g6 g7 g8 g9 g10 g11 g12 g13)) -∗ Q ⟨⟩))
      ⊢ wp frame (wpE (defs₀ (F := F)) 𝒱 (d : Thread nD τ) none) Set.univ
          (cc1__mlp_body i a1 h1 a2 h2 a3 h3 a4 h4 a5 h5 a6 h6 a7 h7 a8 h8 a9 h9 a10 h10 a11 h11 a12 h12 a13 h13 a14 h14 a15 h15) Q := by
  rw [cc1__mlp_body_eq_skeleton]
  unfold cc1__mlp_body_skel
  rw [k1_part1_eq_skeleton, k1_part2_eq_skeleton]
  unfold k1_part1_skel k1_part2_skel
  simp only [Prog.bind_assoc, pure_bind]
  iintro ⟨H1, H2, H3, H4, H5, H6, H7, H8, H9, H10, H11, H12, H13, H14, H15, Hk⟩
  iapply (ld_full 𝒱 (d : Thread nD τ) none (g := g1)) $$ H1; iintro H1
  iapply (ld_full 𝒱 (d : Thread nD τ) none (g := g3)) $$ H3; iintro H3
  iapply (ld_full 𝒱 (d : Thread nD τ) none (g := g4)) $$ H4; iintro H4
  iapply (ld_full 𝒱 (d : Thread nD τ) none (g := g5)) $$ H5; iintro H5
  iapply (ld_full 𝒱 (d : Thread nD τ) none (g := g6)) $$ H6; iintro H6
  iapply (ld_full 𝒱 (d : Thread nD τ) none (g := g14)) $$ H14; iintro H14
  iapply (st_full 𝒱 (d : Thread nD τ) none (g := g14)) $$ H14; iintro H14
  iapply (ld_full 𝒱 (d : Thread nD τ) none (g := g2)) $$ H2; iintro H2
  iapply (ld_full 𝒱 (d : Thread nD τ) none (g := g7)) $$ H7; iintro H7
  iapply (ld_full 𝒱 (d : Thread nD τ) none (g := g8)) $$ H8; iintro H8
  iapply (ld_full 𝒱 (d : Thread nD τ) none (g := g9)) $$ H9; iintro H9
  iapply (ld_full 𝒱 (d : Thread nD τ) none (g := g10)) $$ H10; iintro H10
  iapply (ld_full 𝒱 (d : Thread nD τ) none (g := g11)) $$ H11; iintro H11
  iapply (ld_full 𝒱 (d : Thread nD τ) none (g := g12)) $$ H12; iintro H12
  iapply (ld_full 𝒱 (d : Thread nD τ) none (g := g13)) $$ H13; iintro H13
  iapply (ld_full 𝒱 (d : Thread nD τ) none (g := g15)) $$ H15; iintro H15
  iapply (st_full 𝒱 (d : Thread nD τ) none (g := g15)) $$ H15; iintro H15
  rw [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.KernelIdeal.Mlp

end
-- ==== Proof.RegionI.lean ====
/-
  The pipelined call over its whole grid: entered with every buffer of the device's TensorCore held at a valuation, left with the two results'
  arrays at what the pipeline writes back.
-/
module

public import proofs.«01_k».proof.Proof.MlpI
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionArraysS

@[expose] public section

noncomputable section

namespace Cert.KernelIdeal.Mlp

open Cert.KernelIdeal Cert.KernelIdeal.Gen Cert.Enc
open Idealize.ShloMosaic Idealize.ShloMosaic.SparseCore Idealize.ShloMosaic.SparseCore.Cfg Idealize.ShloMosaic.Transfers Idealize.ShloMosaic.TcCoe
open Idealize.ShloMosaic.Pipeline (Dat BodyObligation)
open Idealize.SL
open Idealize.SL.BI (sProp Storable bigSep)
open scoped Idealize.SL.BI
open Idealize.SL.BI.BIBase Idealize.SL.BI.Laws Idealize.SL.Sem Idealize.SL.ProofMode
open Idealize.SL.RA

variable {F : FTy → Type} [FloatOps F]
variable {U : Type} [URA U]
local notation "𝕄" => MT nD τ sig (HIx 1) (Elt F) ℕ U ℕ

variable (W : Dev nD → Valuation τ sig (Elt F)) (B : Dev nD → Set (SemLoc sig × HIx 1))

/-- What window `w`'s block at point `t` reads as. -/
abbrev stg (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The density block written at point `t`. -/
def sigAt (c : Dev nD) (t : Fin cfg1.N) : S1024x1.Idx → Elt F .f32 :=
  sigBlk (stg W c 0 t) (stg W c 2 t) (stg W c 3 t) (stg W c 4 t) (stg W c 5 t)

/-- The colour block written at point `t`. -/
def rgbAt (c : Dev nD) (t : Fin cfg1.N) : S1024x3.Idx → Elt F .f32 :=
  rgbBlk (stg W c 0 t) (stg W c 1 t) (stg W c 2 t) (stg W c 3 t) (stg W c 4 t) (stg W c 5 t) (stg W c 6 t) (stg W c 7 t) (stg W c 8 t)
    (stg W c 9 t) (stg W c 10 t) (stg W c 11 t) (stg W c 12 t)

/-- The pipeline's data: the arrays as held, the operands' blocks kept, the results' blocks at the body's values. -/
def dat (c : Dev nD) : Dat τ (Elt F) (HIx 1) ℕ U ℕ cfg1 c where
  A w := W c (Proc.devRef .tc (Pipeline.arrRef spec1 w))
  after w t := match w with
    | ⟨13, _⟩ => sigAt W c t
    | ⟨14, _⟩ => rgbAt W c t
    | ⟨0, _⟩ => stg W c 0 t
    | ⟨1, _⟩ => stg W c 1 t
    | ⟨2, _⟩ => stg W c 2 t
    | ⟨3, _⟩ => stg W c 3 t
    | ⟨4, _⟩ => stg W c 4 t
    | ⟨5, _⟩ => stg W c 5 t
    | ⟨6, _⟩ => stg W c 6 t
    | ⟨7, _⟩ => stg W c 7 t
    | ⟨8, _⟩ => stg W c 8 t
    | ⟨9, _⟩ => stg W c 9 t
    | ⟨10, _⟩ => stg W c 10 t
    | ⟨11, _⟩ => stg W c 11 t
    | ⟨12, _⟩ => stg W c 12 t
  Φ _ := BI.emp
  q _ := fullShare
  owed _ := 0
  recorded _ := B c

theorem before_in (c : Dev nD) (w : Fin cfg1.W) (hw : (cfg1.win w).isOut = false)
    (hkeep : ∀ t, (cfg1.win w).cut (cfg1.grid.coords t) ((dat (U := U) W B c).after w t) = (dat (U := U) W B c).blockOf w t)
    (hclip : ∀ t t' : Fin cfg1.N, (cfg1.win w).index t = (cfg1.win w).index t' →
      (cfg1.win w).clip (cfg1.grid.coords t) = (cfg1.win w).clip (cfg1.grid.coords t'))
    (t : Fin cfg1.N) (d : (cfg1.win w).block.Idx → Elt F (cfg1.win w).elt) :
    (dat (U := U) W B c).before w t d = (dat (U := U) W B c).fetched w t d :=
  (dat (U := U) W B c).before_in_eq_fetched w hw (fun _ => rfl) hclip hkeep t d

/-- An operand's buffer, as the pipeline fetched it. -/
theorem into (c : Dev nD) (w : Fin cfg1.W) (hw : (cfg1.win w).isOut = false)
    (hkeep : ∀ t, (cfg1.win w).cut (cfg1.grid.coords t) ((dat (U := U) W B c).after w t) = (dat (U := U) W B c).blockOf w t)
    (hclip : ∀ t t' : Fin cfg1.N, (cfg1.win w).index t = (cfg1.win w).index t' →
      (cfg1.win w).clip (cfg1.grid.coords t) = (cfg1.win w).clip (cfg1.grid.coords t'))
    (t : Fin cfg1.N) {P : sProp 𝕄}
    (hP : ∀ d, owns (c : Thread nD τ) ((cfg1.win w).stage (cfg1.slots t w)) fullShare ((dat (U := U) W B c).fetched w t d) = P) :
    iprop(∃ d, owns (c : Thread nD τ) ((cfg1.win w).stage (cfg1.slots t w)) fullShare ((dat (U := U) W B c).before w t d)) ⊢ P := by
  have h : ∀ d, owns (c : Thread nD τ) ((cfg1.win w).stage (cfg1.slots t w)) fullShare ((dat (U := U) W B c).before w t d) = P := fun d => by
    rw [before_in W B c w hw hkeep hclip]; exact hP d
  iintro ⟨%d, H⟩
  ihave H' := (Entails.of_eq (h d)) $$ H
  iexact H'

/-- A result's buffer, whatever it holds. -/
theorem intoAny (c : Dev nD) (w : Fin cfg1.W) (t : Fin cfg1.N) {P : ((cfg1.win w).block.Idx → Elt F (cfg1.win w).elt) → sProp 𝕄}
    (hP : ∀ g, owns (c : Thread nD τ) ((cfg1.win w).stage (cfg1.slots t w)) fullShare g = P g) :
    iprop(∃ d, owns (c : Thread nD τ) ((cfg1.win w).stage (cfg1.slots t w)) fullShare ((dat (U := U) W B c).before w t d)) ⊢ iprop(∃ g, P g) := by
  iintro ⟨%d, H⟩
  ihave H' := (Entails.of_eq (hP _)) $$ H
  iexists _
  iexact H'

/-- The fifteen buffers of point `t`: the operands' as fetched, the results' at `g13` and `g14`. -/
def blks (c : Dev nD) (t : Fin cfg1.N) (g13 : S1024x1.Idx → Elt F .f32) (g14 : S1024x3.Idx → Elt F .f32) : sProp 𝕄 :=
  iprop(Holds (c : Thread nD τ) (stage1_0 ((cfg1.slots t 0).cast nbuf1_0)) fullShare (stg W c 0 t)
    ∗ Holds (c : Thread nD τ) (stage1_1 ((cfg1.slots t 1).cast nbuf1_1)) fullShare (stg W c 1 t)
    ∗ Holds (c : Thread nD τ) (stage1_2 ((cfg1.slots t 2).cast nbuf1_2)) fullShare (stg W c 2 t)
    ∗ Holds (c : Thread nD τ) (stage1_3 ((cfg1.slots t 3).cast nbuf1_3)) fullShare (stg W c 3 t)
    ∗ Holds (c : Thread nD τ) (stage1_4 ((cfg1.slots t 4).cast nbuf1_4)) fullShare (stg W c 4 t)
    ∗ Holds (c : Thread nD τ) (stage1_5 ((cfg1.slots t 5).cast nbuf1_5)) fullShare (stg W c 5 t)
    ∗ Holds (c : Thread nD τ) (stage1_6 ((cfg1.slots t 6).cast nbuf1_6)) fullShare (stg W c 6 t)
    ∗ Holds (c : Thread nD τ) (stage1_7 ((cfg1.slots t 7).cast nbuf1_7)) fullShare (stg W c 7 t)
    ∗ Holds (c : Thread nD τ) (stage1_8 ((cfg1.slots t 8).cast nbuf1_8)) fullShare (stg W c 8 t)
    ∗ Holds (c : Thread nD τ) (stage1_9 ((cfg1.slots t 9).cast nbuf1_9)) fullShare (stg W c 9 t)
    ∗ Holds (c : Thread nD τ) (stage1_10 ((cfg1.slots t 10).cast nbuf1_10)) fullShare (stg W c 10 t)
    ∗ Holds (c : Thread nD τ) (stage1_11 ((cfg1.slots t 11).cast nbuf1_11)) fullShare (stg W c 11 t)
    ∗ Holds (c : Thread nD τ) (stage1_12 ((cfg1.slots t 12).cast nbuf1_12)) fullShare (stg W c 12 t)
    ∗ Holds (c : Thread nD τ) (stage1_13 ((cfg1.slots t 13).cast nbuf1_13)) fullShare g13
    ∗ Holds (c : Thread nD τ) (stage1_14 ((cfg1.slots t 14).cast nbuf1_14)) fullShare g14)

set_option maxRecDepth 65536 in
set_option maxHeartbeats 2000000 in
/-- The body at every point of the grid. -/
theorem body_obligation (c : Dev nD) : BodyObligation (dat (U := U) W B c) (defs₀ (F := F)) Variants.none none Set.univ := fun t => by
  rw [bigSep_W1, bigSep_W1]
  refine Entails.trans ?_ (wp_mono frame _ _ fun _ => Entails.of_eq (show iprop((dat (U := U) W B c).Φ t.castSucc ∗ (dat (U := U) W B c).owesAt none t.castSucc
    ∗ blks W c t (sigAt W c t) (rgbAt W c t)) = _ from rfl))
  iintro ⟨HΦ, HO, H0, H1, H2, H3, H4, H5, H6, H7, H8, H9, H10, H11, H12, H13, H14⟩
  ihave H0 := (into W B c 0 rfl (fun _ => rfl) (fun _ _ _ => rfl) t (P := Holds (c : Thread nD τ) (stage1_0 ((cfg1.slots t 0).cast nbuf1_0)) fullShare (stg W c 0 t)) fun _ => rfl) $$ H0
  ihave H1 := (into W B c 1 rfl (fun _ => rfl) (fun _ _ _ => rfl) t (P := Holds (c : Thread nD τ) (stage1_1 ((cfg1.slots t 1).cast nbuf1_1)) fullShare (stg W c 1 t)) fun _ => rfl) $$ H1
  ihave H2 := (into W B c 2 rfl (fun _ => rfl) (fun _ _ _ => rfl) t (P := Holds (c : Thread nD τ) (stage1_2 ((cfg1.slots t 2).cast nbuf1_2)) fullShare (stg W c 2 t)) fun _ => rfl) $$ H2
  ihave H3 := (into W B c 3 rfl (fun _ => rfl) (fun _ _ _ => rfl) t (P := Holds (c : Thread nD τ) (stage1_3 ((cfg1.slots t 3).cast nbuf1_3)) fullShare (stg W c 3 t)) fun _ => rfl) $$ H3
  ihave H4 := (into W B c 4 rfl (fun _ => rfl) (fun _ _ _ => rfl) t (P := Holds (c : Thread nD τ) (stage1_4 ((cfg1.slots t 4).cast nbuf1_4)) fullShare (stg W c 4 t)) fun _ => rfl) $$ H4
  ihave H5 := (into W B c 5 rfl (fun _ => rfl) (fun _ _ _ => rfl) t (P := Holds (c : Thread nD τ) (stage1_5 ((cfg1.slots t 5).cast nbuf1_5)) fullShare (stg W c 5 t)) fun _ => rfl) $$ H5
  ihave H6 := (into W B c 6 rfl (fun _ => rfl) (fun _ _ _ => rfl) t (P := Holds (c : Thread nD τ) (stage1_6 ((cfg1.slots t 6).cast nbuf1_6)) fullShare (stg W c 6 t)) fun _ => rfl) $$ H6
  ihave H7 := (into W B c 7 rfl (fun _ => rfl) (fun _ _ _ => rfl) t (P := Holds (c : Thread nD τ) (stage1_7 ((cfg1.slots t 7).cast nbuf1_7)) fullShare (stg W c 7 t)) fun _ => rfl) $$ H7
  ihave H8 := (into W B c 8 rfl (fun _ => rfl) (fun _ _ _ => rfl) t (P := Holds (c : Thread nD τ) (stage1_8 ((cfg1.slots t 8).cast nbuf1_8)) fullShare (stg W c 8 t)) fun _ => rfl) $$ H8
  ihave H9 := (into W B c 9 rfl (fun _ => rfl) (fun _ _ _ => rfl) t (P := Holds (c : Thread nD τ) (stage1_9 ((cfg1.slots t 9).cast nbuf1_9)) fullShare (stg W c 9 t)) fun _ => rfl) $$ H9
  ihave H10 := (into W B c 10 rfl (fun _ => rfl) (fun _ _ _ => rfl) t (P := Holds (c : Thread nD τ) (stage1_10 ((cfg1.slots t 10).cast nbuf1_10)) fullShare (stg W c 10 t)) fun _ => rfl) $$ H10
  ihave H11 := (into W B c 11 rfl (fun _ => rfl) (fun _ _ _ => rfl) t (P := Holds (c : Thread nD τ) (stage1_11 ((cfg1.slots t 11).cast nbuf1_11)) fullShare (stg W c 11 t)) fun _ => rfl) $$ H11
  ihave H12 := (into W B c 12 rfl (fun _ => rfl) (fun _ _ _ => rfl) t (P := Holds (c : Thread nD τ) (stage1_12 ((cfg1.slots t 12).cast nbuf1_12)) fullShare (stg W c 12 t)) fun _ => rfl) $$ H12
  ihave H13 := (intoAny W B c 13 t (P := fun g => Holds (c : Thread nD τ) (stage1_13 ((cfg1.slots t 13).cast nbuf1_13)) fullShare g) fun _ => rfl) $$ H13
  icases H13 with ⟨%d13, H13⟩
  ihave H14 := (intoAny W B c 14 t (P := fun g => Holds (c : Thread nD τ) (stage1_14 ((cfg1.slots t 14).cast nbuf1_14)) fullShare g) fun _ => rfl) $$ H14
  icases H14 with ⟨%d14, H14⟩
  iapply (body_spec c Variants.none (cfg1.grid.coords t) (hstage1_0 ((cfg1.slots t 0).cast nbuf1_0)) (hstage1_1 ((cfg1.slots t 1).cast nbuf1_1)) (hstage1_2 ((cfg1.slots t 2).cast nbuf1_2)) (hstage1_3 ((cfg1.slots t 3).cast nbuf1_3)) (hstage1_4 ((cfg1.slots t 4).cast nbuf1_4)) (hstage1_5 ((cfg1.slots t 5).cast nbuf1_5)) (hstage1_6 ((cfg1.slots t 6).cast nbuf1_6)) (hstage1_7 ((cfg1.slots t 7).cast nbuf1_7)) (hstage1_8 ((cfg1.slots t 8).cast nbuf1_8)) (hstage1_9 ((cfg1.slots t 9).cast nbuf1_9)) (hstage1_10 ((cfg1.slots t 10).cast nbuf1_10)) (hstage1_11 ((cfg1.slots t 11).cast nbuf1_11)) (hstage1_12 ((cfg1.slots t 12).cast nbuf1_12)) (hstage1_13 ((cfg1.slots t 13).cast nbuf1_13)) (hstage1_14 ((cfg1.slots t 14).cast nbuf1_14))
    (stg W c 0 t) (stg W c 1 t) (stg W c 2 t) (stg W c 3 t) (stg W c 4 t) (stg W c 5 t) (stg W c 6 t) (stg W c 7 t) (stg W c 8 t)
    (stg W c 9 t) (stg W c 10 t) (stg W c 11 t) (stg W c 12 t) d13 d14)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro H
  isplitl [HΦ]; · iexact HΦ
  isplitl [HO]; · iexact HO
  unfold blks
  iexact H

/-- The one pipeline's data. -/
def dats : (p : Fin 1) → (c : Dev nD) → Dat τ (Elt F) (HIx 1) ℕ U ℕ (Pipeline.pin (pcfgs (F := F)) (fun p => (cfgs p).toPCfg_adm) p) c
  | ⟨0, _⟩ => fun c => dat W B c

variable (L : GSem nD τ sig → Finset (HIx 1)) (lv : GSem nD τ sig → HIx 1 → ℕ)

set_option backward.isDefEq.respectTransparency.types false in
set_option maxRecDepth 65536 in
/-- The call: entered with every buffer held at `W c`, nothing owed and waits recorded within `B c`; left with the results' arrays written
    back, and no wait recorded but those and the pipeline's own. -/
def reg : Pipeline.RegionSeg (pcfgs (F := F)) (fun p => (cfgs p).toPCfg_adm) (dats (U := U) W B) none defs₀ Variants.none L lv 0 where
  win := launch1.win.to₀
  block_pos := launch1.block_pos
  stage_whole := launch1.stage_whole
  K := PEmpty
  osem k := k.elim
  ho := Pipeline.OwnSemFacts.none _
  hbody c := (body_obligation W B c).loose
  hwaits := Pipeline.hwaits_of_owed_zero _ _ _ _ L lv 0 fun _ _ => rfl
  pre c := iprop(StableHlo.held (c : Thread nD τ) (Pipeline.ucRefs τ sig) (W c)
    ∗ ∃ Wd, ⌜↑Wd ⊆ B c⌝ ∗ owes (c : Thread nD τ) (0 : CellTallies nD τ sig (HIx 1)) Wd)
  post c := iprop(StableHlo.held (c : Thread nD τ) (Pipeline.ucRefs τ sig) (Pipeline.afterRegion (dat (U := U) W B c) (W c))
    ∗ ∃ Wd, ⌜∀ p ∈ Wd, p ∈ B c ∨ p.2 = none⌝ ∗ owes (c : Thread nD τ) (0 : CellTallies nD τ sig (HIx 1)) Wd)
  X _ := BI.emp
  Y _ := BI.emp
  Z c := StableHlo.held (c : Thread nD τ) (Pipeline.ucRefs τ sig \ Pipeline.arrRefs spec1) (W c)
  hentry c := by
    rw [Pipeline.ownSems0_none, Pipeline.prefHeld_of_none _ rfl,
      Pipeline.arrays_held (pcfgs (F := F)) _ (dats (U := U) W B) 0 launch1.toP c
        ((dats (U := U) W B 0 c).share_full fun _ => rfl) ((dats (U := U) W B 0 c).arrAt · 0) (W c) (fun _ => rfl),
      StableHlo.held_sub_split (c : Thread nD τ) (Pipeline.arrRefs_sub_ucRefs spec1 launch1.win.arr_unscoped) (W c)]
    iintro ⟨⟨⟨Ha, Hr⟩, %Wd, %hWd, HO⟩, -, -⟩
    imodintro
    isplitl [Ha]; · iexact Ha
    isplitr; · iempintro
    isplitl [HO]
    · iexists Wd
      isplitr; · ipureintro; exact fun p hp => Or.inl (hWd hp)
      iexact HO
    isplitr; · iempintro
    iexact Hr
  hin c := by
    iintro -
    iempintro
  hout c := by
    rw [Pipeline.ownSems0_none, scopedRest1_eq]
    iintro -
    isplitr; · iempintro
    isplitr; · iempintro
    iempintro
  hexit c := by
    rw [Pipeline.arrays_held (pcfgs (F := F)) _ (dats (U := U) W B) 0 launch1.toP c
        ((dats (U := U) W B 0 c).share_full fun _ => rfl)
        ((dats (U := U) W B 0 c).arrAt · (Pipeline.pin (pcfgs (F := F)) (fun p => (cfgs p).toPCfg_adm) 0).N) (Pipeline.afterRegion (dat (U := U) W B c) (W c))
        (fun w => (Pipeline.afterRegion_arr (dat (U := U) W B c) (W c) launch1.win.arr_inj w).symm),
      StableHlo.held_sub_split (c : Thread nD τ) (Pipeline.arrRefs_sub_ucRefs spec1 launch1.win.arr_unscoped)
        (Pipeline.afterRegion (dat (U := U) W B c) (W c)),
      StableHlo.held_congr (c : Thread nD τ) (Pipeline.afterRegion_off (dat (U := U) W B c) (W c) (Pipeline.ucRefs τ sig))]
    iintro ⟨Ha, ⟨%Wd, %hWd, HO⟩, -, Hr⟩
    imodintro
    isplitl [Ha Hr]
    · isplitl [Ha]; · iexact Ha
      iexact Hr
    iexists Wd
    isplitr
    · ipureintro
      intro p hp
      rcases hWd hp with h | ⟨w, s, rfl⟩
      · exact Or.inl h
      · exact Or.inr rfl
    iexact HO

end Cert.KernelIdeal.Mlp

end
-- ==== Proof.LaunchI.lean ====
/-
  The first call's launch: what the calls hand over, each tile's obligation, and the ghost state the program starts from.
-/
module

public import proofs.«01_k».proof.Proof.SplitI
public import proofs.«01_k».proof.Proof.TileBodyI
public import proofs.«01_k».proof.Proof.RegionI
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Run

open Cert.KernelIdeal Cert.KernelIdeal.Gen Cert.KernelIdeal.Enc Cert.KernelIdeal.Mlp
open Idealize.ShloMosaic Idealize.ShloMosaic.SparseCore Idealize.ShloMosaic.SparseCore.Cfg Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Rounds
open Idealize.ShloMosaic.Tactic

variable {F : FTy → Type} [FloatOps F]

/-! ## The ghost state -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL
/-- The pipeline's rounds. -/
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb
/-- The tiles' counters. -/
def EC : UEmb Counters (MT nD τ sig (HIx 1) (Elt F) ℕ UU ℕ) :=
  (UEmb.inr : UEmb Counters (UK × Counters)).trans ((UEmb.inr : UEmb (UK × Counters) UU).trans
    (uEmb (nD := nD) (sig := sig) (Ix := HIx 1) (Val := Elt F) (Name := ℕ) (U := UU) (Lvl := ℕ)))

instance : (EP : Emb UK 𝕄).LandsIn (upEmb : UEmb _ 𝕄) := by unfold EP; infer_instance
instance : (EC : UEmb Counters 𝕄).LandsIn (upEmb : UEmb _ 𝕄) := by unfold EC; infer_instance

abbrev D : Defs nD τ sig (Elt F) (ΛP (F := F)) := Pipeline.defs pcfgs defs₀
abbrev 𝒱 : Variants := 𝒱₀.lift
abbrev v₀ : 𝒱.V := Sum.inl none

/-! ## What the buffers hold along the way -/

variable (m : (ℓ : Loc nD τ sig) → Buf (Elt F) ℓ)

/-- The host's operations before the first call, -/
abbrev ops₁ : List (HloOp τ sig (Elt F)) :=
  [StableHlo.unary main_arg0 main_v0 ((transpose S3x131072 [1, 0] · transposes_S131072x3_S3x131072_1_0) : (⟨S131072x3, .f32⟩ : BufTy).Contents (Elt F) → (⟨S3x131072, .f32⟩ : BufTy).Contents (Elt F)),
   StableHlo.reshape main_arg2 main_v1 (rfl : (.f32 : EltTy) = .f32) shapeCasts_S16x524288x2_S16777216]

/-- between the two, -/
abbrev ops₂ : List (HloOp τ sig (Elt F)) :=
  [StableHlo.nullary main_cst (constant S_ .f32 0x00000000#32),
   StableHlo.unary main_cst main_v3 (broadcastInDim S1x64 ![] bcast_S_S1x64 : (⟨S_, .f32⟩ : BufTy).Contents (Elt F) → (⟨S1x64, .f32⟩ : BufTy).Contents (Elt F)),
   StableHlo.unary main_arg7 main_v4 ((extractStridedSlice S15x64 ![27, 0] · slices_S42x64_S15x64_27_0) : (⟨S42x64, .f32⟩ : BufTy).Contents (Elt F) → (⟨S15x64, .f32⟩ : BufTy).Contents (Elt F)),
   StableHlo.binary main_v3 main_v4 main_v5 ((fun a b => concatenate S16x64 0 [⟨S1x64, a⟩, ⟨S15x64, b⟩] concatenates_S1x64_S15x64_S16x64_d0) : (⟨S1x64, .f32⟩ : BufTy).Contents (Elt F) → (⟨S15x64, .f32⟩ : BufTy).Contents (Elt F) → (⟨S16x64, .f32⟩ : BufTy).Contents (Elt F)),
   StableHlo.reshape main_arg4 main_v6 (rfl : (.f32 : EltTy) = .f32) shapeCasts_S64_S1x64,
   StableHlo.reshape main_arg6 main_v7 (rfl : (.f32 : EltTy) = .f32) shapeCasts_S16_S1x16,
   StableHlo.unary main_arg7 main_v8 ((extractStridedSlice S27x64 ![0, 0] · slices_S42x64_S27x64_0_0) : (⟨S42x64, .f32⟩ : BufTy).Contents (Elt F) → (⟨S27x64, .f32⟩ : BufTy).Contents (Elt F)),
   StableHlo.reshape main_arg8 main_v9 (rfl : (.f32 : EltTy) = .f32) shapeCasts_S64_S1x64,
   StableHlo.reshape main_arg10 main_v10 (rfl : (.f32 : EltTy) = .f32) shapeCasts_S64_S1x64,
   StableHlo.reshape main_arg12 main_v11 (rfl : (.f32 : EltTy) = .f32) shapeCasts_S3_S1x3]

/-- and after the second. -/
abbrev ops₃ : List (HloOp τ sig (Elt F)) :=
  [StableHlo.reshape main_v12_0 main_v13 (rfl : (.f32 : EltTy) = .f32) shapeCasts_S131072x1_S131072]

abbrev V0 (d : Dev nD) : Valuation τ sig (Elt F) := fun b => m (d, b)
def V1 (d : Dev nD) : Valuation τ sig (Elt F) := StableHlo.after ops₁ (V0 m d)
/-- The coordinates, column by column, and the tables, flat. -/
def Xv (d : Dev nD) : S3x131072.Idx → F .f32 := V1 m d (Proc.devRef .tc main_v0)
def Tv (d : Dev nD) : S16777216.Idx → F .f32 := V1 m d (Proc.devRef .tc main_v1)
def V2 (d : Dev nD) : Valuation τ sig (Elt F) := Function.update (V1 m d) (Proc.devRef .tc main_v2) (encOf (Xv m d) (Tv m d))
def V3 (d : Dev nD) : Valuation τ sig (Elt F) := StableHlo.after ops₂ (V2 m d)
/-- What the first call's waits have recorded by the second. -/
def Bd (d : Dev nD) : Set (SemLoc sig × HIx 1) := {p | (K (F := F)).lev (SparseCore.T d, p.1) p.2 ≤ 8}
def V4 (d : Dev nD) : Valuation τ sig (Elt F) := Pipeline.afterRegion (dat (U := UU) (V3 m) (Bd (F := F)) d) (V3 m d)
def V5 (d : Dev nD) : Valuation τ sig (Elt F) := StableHlo.after ops₃ (V4 m d)

/-! ## What the calls hand over -/

theorem nCore_zero : (K (F := F)).nCore 0 = 2 := rfl
theorem nSub_zero : (K (F := F)).nSub 0 = 16 := rfl

def P : (K (F := F)).Pay (nD := nD) (Val := Elt F) (Name := ℕ) (U := UU) where
  st q d c := match q with
    | 0 => bigSep Finset.univ fun i : Fin 16 => goPay (U := UU) (Xv m d) (Tv m d) d (Fin.cast nCore_zero c) i
  dn q d c := match q with
    | 0 => bigSep Finset.univ fun i : Fin 16 => tdPay (U := UU) (Xv m d) (Tv m d) d (Fin.cast nCore_zero c) i
  go q d c i := match q with
    | 0 => goPay (U := UU) (Xv m d) (Tv m d) d (Fin.cast nCore_zero c) (Fin.cast nSub_zero i)
  td q d c i := match q with
    | 0 => tdPay (U := UU) (Xv m d) (Tv m d) d (Fin.cast nCore_zero c) (Fin.cast nSub_zero i)
  x := fun _ _ => iprop(emp)

instance : (P m).IsStorable where
  st q d c := match q with
    | 0 => (inferInstance : Storable (upEmb : UEmb _ 𝕄) (bigSep Finset.univ fun i : Fin 16 => goPay (U := UU) (Xv m d) (Tv m d) d (Fin.cast nCore_zero c) i))
  dn q d c := match q with
    | 0 => (inferInstance : Storable (upEmb : UEmb _ 𝕄) (bigSep Finset.univ fun i : Fin 16 => tdPay (U := UU) (Xv m d) (Tv m d) d (Fin.cast nCore_zero c) i))
  go q d c i := match q with
    | 0 => (inferInstance : Storable (upEmb : UEmb _ 𝕄) (goPay (U := UU) (Xv m d) (Tv m d) d (Fin.cast nCore_zero c) (Fin.cast nSub_zero i)))
  td q d c i := match q with
    | 0 => (inferInstance : Storable (upEmb : UEmb _ 𝕄) (tdPay (U := UU) (Xv m d) (Tv m d) d (Fin.cast nCore_zero c) (Fin.cast nSub_zero i)))

/-! ## A tile's obligation -/

theorem defs₀_vector (c : Fin τ.nSC) (s : Fin τ.nSub) :
    defs₀ (F := F) (.scVector c s) 0 () = SparseCore.onTile hcore0 hsub0 (fun c s => task (F := F) (lat c s)) ⟨⟩ c s := rfl

omit [FloatOps F] in
theorem obl_post {thr : Thread nD τ} {A A' B C : sProp 𝕄} {O : CellTallies nD τ sig (HIx 1)} {W : Waits sig (HIx 1)} {q : Fin 1} :
    iprop((A ∗ A') ∗ B ∗ C ∗ ∃ W', ⌜∀ p ∈ W', p ∈ W ∨ p.2 = none⌝ ∗ owes thr O W')
      ⊢ iprop((A ∗ A') ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro
    exact fun p hp => (hW' p hp).imp_right Or.inl
  iexact HO

theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact (tile_body EC d (lat ⟨_, hci.1⟩ ⟨_, hci.2⟩) (Xv m d) (Tv m d) facts O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  BI.bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  BI.bigSep_congr fun _ _ => congrArg Φ (Fin.ext rfl)

theorem vecSplit : (K (F := F)).VecSplit' (P m) 0 := by
  intro d c
  show (bigSep Finset.univ fun i : Fin 16 => goPay (U := UU) (Xv m d) (Tv m d) d (Fin.cast nCore_zero c) i : sProp 𝕄) ⊢ |={Set.univ}=> iprop(
      (bigSep Finset.univ fun i : Fin ((K (F := F)).nSub 0) => goPay (U := UU) (Xv m d) (Tv m d) d (Fin.cast nCore_zero c) (Fin.cast nSub_zero i))
      ∗ ((bigSep Finset.univ fun i : Fin ((K (F := F)).nSub 0) => tdPay (U := UU) (Xv m d) (Tv m d) d (Fin.cast nCore_zero c) (Fin.cast nSub_zero i))
          -∗ bigSep Finset.univ fun i : Fin 16 => tdPay (U := UU) (Xv m d) (Tv m d) d (Fin.cast nCore_zero c) i))
  rw [bigSep_tasks (F := F) (fun i => goPay (U := UU) (Xv m d) (Tv m d) d (Fin.cast nCore_zero c) i),
    bigSep_tasks (F := F) (fun i => tdPay (U := UU) (Xv m d) (Tv m d) d (Fin.cast nCore_zero c) i)]
  iintro H
  imodintro
  isplitl [H]; · iexact H
  iintro H
  iexact H

/-! ## The start -/

abbrev padm (p : Fin 1) : (pcfgs (F := F) p).Adm := (cfgs p).toPCfg_adm

/-- The pipeline's part of a device's start. -/
def G (d : Dev nD) : sProp 𝕄 :=
  iprop(Pipeline.cellsGhost (Pipeline.pin (pcfgs (F := F)) padm) EP 0 d ∗ Pipeline.toksInit (Pipeline.pin (pcfgs (F := F)) padm) EP 0 d)

theorem pinj : Function.Injective (Pipeline.cellOf (nD := nD) (τ := τ) (Pipeline.pin (pcfgs (F := F)) padm)) := cellOf_inj

def u₀ : UU := (initOf (K (F := F)).hsCells (K (F := F)).hsToks,
  (initOf (Pipeline.cells (Pipeline.pin (pcfgs (F := F)) padm) pinj) (Pipeline.launchToks (Pipeline.pin (pcfgs (F := F)) padm) pinj), 1))

omit [FloatOps F] in
theorem ownU_split (a : UH) (b : UK) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op _)))

omit [FloatOps F] in
theorem bigSep_none {I : Type} (s : Finset I) : (bigSep s fun _ => iprop(emp)) = (iprop(emp) : sProp 𝕄) := BI.bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_split (F := F) _ _) $$ Hu
  icases H with ⟨HH, HP⟩
  imod (Pipeline.fund_ghost (Pipeline.pin (pcfgs (F := F)) padm) EP pinj) $$ HP with ⟨Hg, Ht⟩
  imodintro
  isplitl [HH]; · iexact HH
  isplitl [Hg Ht]
  · rw [show (bigSep Finset.univ fun d : Dev nD => G (F := F) d) = iprop((bigSep Finset.univ fun c : Dev nD => bigSep Finset.univ fun p => Pipeline.cellsGhost (Pipeline.pin (pcfgs (F := F)) padm) EP p c)
          ∗ (bigSep Finset.univ fun c : Dev nD => bigSep Finset.univ fun p => (Pipeline.toksInit (Pipeline.pin (pcfgs (F := F)) padm) EP p c : sProp 𝕄))) from by
      rw [← BI.bigSep_sep']
      refine BI.bigSep_congr fun d _ => ?_
      rw [BI.bigSep_univ_of_subsingleton (0 : Fin 1), BI.bigSep_univ_of_subsingleton (0 : Fin 1)]
      rfl]
    isplitl [Hg] <;> iassumption
  rw [show (bigSep Finset.univ fun thr : Thread nD τ => bigSep Finset.univ fun q : Fin 1 => (P (F := F) m).x q thr) = bigSep Finset.univ fun _ => iprop(emp) from
    BI.bigSep_congr fun _ _ => BI.bigSep_univ_of_subsingleton (0 : Fin 1), bigSep_none]
  iempintro

end Cert.KernelIdeal.Run

end
-- ==== Proof.MainI.lean ====
/-
  The program's run: the host's operations, the first call on the SparseCores and the second on the TensorCore, to the contents its buffers end at.
-/
module

public import proofs.«01_k».proof.Proof.LaunchI

@[expose] public section

noncomputable section

namespace Cert.KernelIdeal.Run

open Cert.KernelIdeal Cert.KernelIdeal.Gen Cert.KernelIdeal.Enc Cert.KernelIdeal.Mlp
open Idealize.ShloMosaic Idealize.ShloMosaic.SparseCore Idealize.ShloMosaic.SparseCore.Cfg Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Rounds
open Idealize.ShloMosaic.Tactic

variable {F : FTy → Type} [FloatOps F]
local notation "𝕄" => MT nD τ sig (HIx 1) (Elt F) ℕ UU ℕ
variable (m : (ℓ : Loc nD τ sig) → Buf (Elt F) ℓ) (ρ : Dev nD → PrngReg)

abbrev uc : Finset (DevRef τ sig) := Pipeline.ucRefs τ sig

/-! ## The first call's buffers out of all of them -/

abbrev r0 : DevRef τ sig := Proc.devRef .tc main_v0
abbrev r1 : DevRef τ sig := Proc.devRef .tc main_v1
abbrev r2 : DevRef τ sig := Proc.devRef .tc main_v2
abbrev three : Finset (DevRef τ sig) := {r0, r1, r2}

theorem three_sub : three ⊆ uc := by decide +kernel

theorem r01 : r0 ∉ ({r1, r2} : Finset (DevRef τ sig)) := by decide +kernel
theorem r12 : r1 ∉ ({r2} : Finset (DevRef τ sig)) := by decide +kernel

omit [FloatOps F] in
theorem held_three (d : Dev nD) (W : Valuation τ sig (Elt F)) :
    (StableHlo.held (d.tc : Thread nD τ) three W : sProp 𝕄)
      = iprop((xLoc d ↦{fullShare} W r0) ∗ (tLoc d ↦{fullShare} W r1) ∗ (oLoc d ↦{fullShare} W r2)) := by
  unfold StableHlo.held
  rw [SparseCore.bigSep_insert' r01, SparseCore.bigSep_insert' r12, BI.bigSep_singleton]

theorem st0_eq (d : Dev nD) : (bigSep Finset.univ fun c : Fin ((K (F := F)).nCore 0) => (P m).st 0 d c)
    = (bigSep Finset.univ fun c : Fin 2 => bigSep Finset.univ fun i : Fin 16 => goPay (U := UU) (Xv m d) (Tv m d) d c i : sProp 𝕄) :=
  bigSep_cores (fun c => bigSep Finset.univ fun i : Fin 16 => goPay (U := UU) (Xv m d) (Tv m d) d c i)
theorem dn0_eq (d : Dev nD) : (bigSep Finset.univ fun c : Fin ((K (F := F)).nCore 0) => (P m).dn 0 d c)
    = (bigSep Finset.univ fun c : Fin 2 => bigSep Finset.univ fun i : Fin 16 => tdPay (U := UU) (Xv m d) (Tv m d) d c i : sProp 𝕄) :=
  bigSep_cores (fun c => bigSep Finset.univ fun i : Fin 16 => tdPay (U := UU) (Xv m d) (Tv m d) d c i)

/-- All the buffers: the tiles' parts and the rest, -/
theorem give (d : Dev nD) : (StableHlo.held (d.tc : Thread nD τ) uc (V1 m d) : sProp 𝕄)
    ⊢ iprop((bigSep Finset.univ fun c : Fin ((K (F := F)).nCore 0) => (P m).st 0 d c) ∗ StableHlo.held (d.tc : Thread nD τ) (uc \ three) (V1 m d)) := by
  rw [StableHlo.held_sub_split (d.tc : Thread nD τ) three_sub, st0_eq, held_three]
  exact sep_mono_left (deal (U := UU) d (Xv m d) (Tv m d) (V1 m d r2))

/-- and back, the features written. -/
theorem take (d : Dev nD) :
    iprop((bigSep Finset.univ fun c : Fin ((K (F := F)).nCore 0) => (P m).dn 0 d c) ∗ StableHlo.held (d.tc : Thread nD τ) (uc \ three) (V1 m d))
      ⊢ (StableHlo.held (d.tc : Thread nD τ) uc (V2 m d) : sProp 𝕄) := by
  rw [StableHlo.held_sub_split (d.tc : Thread nD τ) three_sub (V2 m d), dn0_eq, held_three]
  have e0 : V2 m d r0 = V1 m d r0 := Function.update_of_ne (by decide +kernel) _ _
  have e1 : V2 m d r1 = V1 m d r1 := Function.update_of_ne (by decide +kernel) _ _
  have e2 : V2 m d r2 = encOf (Xv m d) (Tv m d) := Function.update_self _ _ _
  have e3 : (StableHlo.held (d.tc : Thread nD τ) (uc \ three) (V2 m d) : sProp 𝕄) = StableHlo.held (d.tc : Thread nD τ) (uc \ three) (V1 m d) :=
    StableHlo.held_congr _ fun b hb => Function.update_of_ne (fun h => (Finset.mem_sdiff.mp hb).2 (by
      rw [h]
      exact Finset.mem_insert_of_mem (Finset.mem_insert_of_mem (Finset.mem_singleton_self _)))) _ _
  rw [e0, e1, e2, e3]
  exact sep_mono_left (join (U := UU) d (Xv m d) (Tv m d))

/-! ## The second call -/

/-- The call, as the pipelines' own program has it. -/
abbrev call₂ : Prog (TpuEff nD τ sig (Elt F) (ΛP (F := F)) .tc) PUnit := .op (.customCall (Pipeline.entry 0) ()) fun r => .ret r

theorem call₂_eq : (Prog.lift (.customCall (SparseCore.inner (Pipeline.entry 0)) ()) :
    Prog (TpuEff nD τ sig (Elt F) (SparseCore.Sig (ΛP (F := F)) 1) .tc) PUnit) = SparseCore.liftProg (call₂ (F := F)) := rfl

omit [FloatOps F] in
/-- What follows, followed by nothing. -/
theorem onward {A B C L Cg Tk Φ Ψ : sProp 𝕄} (h : Φ ⊢ Ψ) :
    iprop((iprop(A ∗ C) -∗ Φ) ∗ A ∗ B ∗ L ∗ Cg ∗ Tk) ⊢ iprop((iprop(A ∗ C) -∗ Ψ) ∗ A ∗ B ∗ L ∗ Cg ∗ Tk) := by
  refine sep_mono_left ?_
  iintro H HA
  iapply h
  iapply H
  iexact HA

set_option backward.isDefEq.respectTransparency.types false in
theorem wp_region (d : Dev nD) (Φ : PUnit → sProp 𝕄) :
    iprop((iprop(boundary (d.tc : Thread nD τ) ∗ StableHlo.held (d.tc : Thread nD τ) uc (V4 m d)
          ∗ ∃ Wd, ⌜∀ p ∈ Wd, p ∈ Bd (F := F) d ∨ p.2 = none⌝ ∗ owes (d.tc : Thread nD τ) 0 Wd) -∗ Φ ⟨⟩)
        ∗ boundary (d.tc : Thread nD τ) ∗ (StableHlo.held (d.tc : Thread nD τ) uc (V3 m d)
          ∗ ∃ Wd : Waits sig (HIx 1), ⌜(↑Wd : Set (SemLoc sig × HIx 1)) ⊆ Bd (F := F) d⌝ ∗ owes (d.tc : Thread nD τ) 0 Wd)
        ∗ levAts (K (F := F)).L (K (F := F)).lev ∗ G (F := F) d)
      ⊢ wp frame (wpE ((K (F := F)).defs (D (F := F))) 𝒱 (d.tc : Thread nD τ) none) Set.univ
          (SparseCore.liftProg (call₂ (F := F))) Φ := by
  refine BI.Entails.trans ?_ ((K (F := F)).wp_liftProg (D (F := F)) 𝒱 (d.tc : Thread nD τ) Set.univ none
    (call₂ (F := F)) Φ)
  refine BI.Entails.trans ?_ (Pipeline.RegionSeg.wp (pcfgs (F := F)) padm (dats (U := UU) (V3 m) (Bd (F := F))) none pinj EP defs₀ Variants.none
    (K (F := F)).L (K (F := F)).lev (reg (U := UU) (V3 m) (Bd (F := F)) (K (F := F)).L (K (F := F)).lev) d none (fun _ h => nomatch h) (fun r => .ret r) Φ)
  exact onward (by
    rw [wp_ret]
    iintro H
    imodintro
    iexact H)

/-! ## The whole program -/

theorem main_eq (d : Dev nD) : main (F := F) d
    = (StableHlo.seq ops₁ >>= fun _ => (sc (F := F)).run d 0 >>= fun _ => StableHlo.seq ops₂ >>= fun _ =>
        (Prog.lift (.customCall (SparseCore.inner (Pipeline.entry 0)) ()) : Prog (TpuEff nD τ sig (Elt F) (SparseCore.Sig (ΛP (F := F)) 1) .tc) PUnit)
          >>= fun _ => StableHlo.seq ops₃ >>= fun _ => pure ⟨⟩) := by
  simp only [main, StableHlo.seq, bind_assoc, pure_bind]

theorem ops₁_sub : ∀ op ∈ (ops₁ (F := F)), op.bufs ⊆ uc := by
  intro op h
  refine Pipeline.sub_ucRefs op ?_
  fin_cases h <;> simp
theorem ops₂_sub : ∀ op ∈ (ops₂ (F := F)), op.bufs ⊆ uc := by
  intro op h
  refine Pipeline.sub_ucRefs op ?_
  fin_cases h <;> simp
theorem ops₃_sub : ∀ op ∈ (ops₃ (F := F)), op.bufs ⊆ uc := by
  intro op h
  refine Pipeline.sub_ucRefs op ?_
  fin_cases h <;> simp
theorem ops₁_fresh : ∀ op ∈ (ops₁ (F := F)), op.fresh = ∅ := by
  intro op h
  fin_cases h <;> rfl
theorem ops₂_fresh : ∀ op ∈ (ops₂ (F := F)), op.fresh = ∅ := by
  intro op h
  fin_cases h <;> rfl
theorem ops₃_fresh : ∀ op ∈ (ops₃ (F := F)), op.fresh = ∅ := by
  intro op h
  fin_cases h <;> rfl

/-- After the first call the TensorCore owes nothing. -/
theorem tcSt_one (d : Dev nD) : ∃ R : sProp 𝕄, (K (F := F)).tcSt EH d 1
    = iprop((∃ W, ⌜(K (F := F)).WBelow (SparseCore.T d) W 8⌝ ∗ owes (SparseCore.T d) 0 W) ∗ R) := by
  unfold SparseCore.Cfg.tcSt
  rw [(K (F := F)).Otc_end d le_rfl]
  exact ⟨_, rfl⟩

omit [FloatOps F] in
theorem below_in (d : Dev nD) :
    (iprop(∃ W, ⌜(K (F := F)).WBelow (SparseCore.T d) W 8⌝ ∗ owes (SparseCore.T d) 0 W) : sProp 𝕄)
      ⊢ iprop(∃ Wd : Waits sig (HIx 1), ⌜(↑Wd : Set (SemLoc sig × HIx 1)) ⊆ Bd (F := F) d⌝ ∗ owes (d.tc : Thread nD τ) 0 Wd) := by
  iintro ⟨%W, %hW, HO⟩
  iexists W
  isplitr
  · ipureintro
    exact fun p hp => hW p hp
  iexact HO

omit [FloatOps F] in
theorem below_out (d : Dev nD) :
    (iprop(∃ Wd, ⌜∀ p ∈ Wd, p ∈ Bd (F := F) d ∨ p.2 = none⌝ ∗ owes (d.tc : Thread nD τ) 0 Wd) : sProp 𝕄)
      ⊢ iprop(∃ W, ⌜(K (F := F)).WBelow (SparseCore.T d) W 8⌝ ∗ owes (SparseCore.T d) 0 W) := by
  iintro ⟨%W, %hW, HO⟩
  iexists W
  isplitr
  · ipureintro
    intro p hp
    rcases hW p hp with h | h
    · exact h
    · rw [h]
      exact Nat.zero_le _
  iexact HO

abbrev FIN (d : Dev nD) : sProp 𝕄 := StableHlo.held (d.tc : Thread nD τ) uc (V5 m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd
  rw [main_eq, show unscopedBufs d (fun b => m ((SparseCore.T d).loc b)) = (StableHlo.held (d.tc : Thread nD τ) uc (V0 m d) : sProp 𝕄) from
    Pipeline.unscopedBufs_held d (V0 m d)]
  iintro ⟨#Hctx, Hst, ⟨Hb, Hh, Hts, -⟩, HG⟩
  ihave #HL := (ctx_levAts κ) $$ Hctx
  iapply (StableHlo.wp_seq 𝒱 none Set.univ d uc _ ops₁ ops₁_sub ops₁_fresh (V0 m d)) $$ [Hb Hh]
  · isplitl [Hb] <;> iassumption
  iintro ⟨Hb, Hh⟩
  ihave Hh := (Entails.of_eq (show (StableHlo.held (d.tc : Thread nD τ) uc (StableHlo.after ops₁ (V0 m d)) : sProp 𝕄)
    = StableHlo.held (d.tc : Thread nD τ) uc (V1 m d) from rfl)) $$ Hh
  ihave Hh := (give m d) $$ Hh
  icases Hh with ⟨Hgo, Hrest⟩
  rw [wp_bind]
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hh := (take m d) $$ [Hdn Hrest]
  · isplitl [Hdn] <;> iassumption
  iapply (StableHlo.wp_seq 𝒱 none Set.univ d uc _ ops₂ ops₂_sub ops₂_fresh (V2 m d)) $$ [Hb Hh]
  · isplitl [Hb] <;> iassumption
  iintro ⟨Hb, Hh⟩
  ihave Hh := (Entails.of_eq (show (StableHlo.held (d.tc : Thread nD τ) uc (StableHlo.after ops₂ (V2 m d)) : sProp 𝕄)
    = StableHlo.held (d.tc : Thread nD τ) uc (V3 m d) from rfl)) $$ Hh
  rw [wp_bind, call₂_eq]
  ihave Hst := (Entails.of_eq (show (K (F := F)).tcSt EH d ((0 : Fin 1).val + 1) = (K (F := F)).tcSt EH d 1 from rfl)) $$ Hst
  ihave Hst := (Entails.of_eq hR) $$ Hst
  icases Hst with ⟨HO, HR⟩
  iapply (wp_region m d _)
  isplitr [Hb Hh HO HG]
  · iintro ⟨Hb, Hh, HO⟩
    iapply (StableHlo.wp_seq 𝒱 none Set.univ d uc _ ops₃ ops₃_sub ops₃_fresh (V4 m d)) $$ [Hb Hh]
    · isplitl [Hb] <;> iassumption
    iintro ⟨Hb, Hh⟩
    ihave Hh := (Entails.of_eq (show (StableHlo.held (d.tc : Thread nD τ) uc (StableHlo.after ops₃ (V4 m d)) : sProp 𝕄)
      = StableHlo.held (d.tc : Thread nD τ) uc (V5 m d) from rfl)) $$ Hh
    rw [wp_pure]
    imodintro
    isplitl [HO HR]
    · iapply (Entails.of_eq hR.symm)
      isplitl [HO]
      · iapply (below_out d)
        iexact HO
      iexact HR
    isplitl [Hh]; · iexact Hh
    isplitl [Hb] <;> iassumption
  isplitl [Hb]; · iexact Hb
  isplitl [Hh HO]
  · isplitl [Hh]; · iexact Hh
    iapply (below_in d)
    iexact HO
  isplitr [HG]; · iexact HL
  iexact HG

/-! ## The end -/

/-- The buffers at their final contents. -/
def fq (d : Dev nD) (s' : Phys nD τ sig (Elt F)) : Prop := ∀ b ∈ uc, s'.mem.mem (d, b) = V5 m d b

theorem hfin (d : Dev nD) (s' : Phys nD τ sig (Elt F)) : iprop(FIN m d ∗ SI s') ⊢ (⌜fq m d s'⌝ : sProp 𝕄) := by
  have h : ∀ b ∈ uc, iprop(FIN m d ∗ SI s') ⊢ (⌜s'.mem.mem (d, b) = V5 m d b⌝ : sProp 𝕄) := fun b hb => by
    have e : (FIN m d : sProp 𝕄) ⊢ ((d, b) ↦{fullShare} V5 m d b) :=
      BI.bigSep_elim (Φ := fun b => ((d, b) ↦{fullShare} V5 m d b : sProp 𝕄)) hb
    refine (sep_mono_left e).trans ?_
    iintro ⟨H, HSI⟩
    ihave H := (SI_pointsTo_agree (st := s') (ℓ := (d, b)) (I := Finset.univ) (q := fullShare) (f := V5 m d b)) $$ [HSI H]
    · isplitl [HSI] <;> iassumption
    icases H with %h2
    ipureintro
    exact funext fun i => h2 i (Finset.mem_univ i)
  exact fun x hx b hb => h b hb x hx

/-- What a run ends in. -/
def QC : PUnit × MemSt nD τ sig (Elt F) → Prop := fun r => (∀ d : Dev nD, ∀ b ∈ uc, r.2.mem (d, b) = V5 m d b) ∧ r.2.sem = fun _ => 0

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.KernelIdeal.Run

end
-- ==== Proof.FrameI.lean ====
/-
  The arguments end as they began.
-/
module

public import proofs.«01_k».proof.Proof.MainI

@[expose] public section

set_option maxRecDepth 65536

noncomputable section

namespace Cert.KernelIdeal.Run

open Cert.KernelIdeal Cert.KernelIdeal.Gen Cert.KernelIdeal.Enc Cert.KernelIdeal.Mlp
open Idealize.ShloMosaic Idealize.ShloMosaic.SparseCore Idealize.ShloMosaic.SparseCore.Cfg Idealize.ShloMosaic.TcCoe
open Idealize.SL.Sem

variable {F : FTy → Type} [FloatOps F]
variable (m : (ℓ : Loc nD τ sig) → Buf (Elt F) ℓ) (ρ : Dev nD → PrngReg)

/-- What the host's operations write. -/
abbrev W₁ : List (Ref sig .tc) := [main_v0, main_v1]
abbrev W₂ : List (Ref sig .tc) := [main_cst, main_v3, main_v4, main_v5, main_v6, main_v7, main_v8, main_v9, main_v10, main_v11]
abbrev W₃ : List (Ref sig .tc) := [main_v13]

theorem V1_keep (d : Dev nD) {r : Ref sig .tc} (h : r ∉ W₁) : V1 m d (Proc.devRef .tc r) = m (d, Proc.devRef .tc r) :=
  StableHlo.after_of_writes_sub ops₁ (V0 m d) (StableHlo.forall_writes_sub_of_map rfl) h
theorem V2_keep (d : Dev nD) {r : Ref sig .tc} (h : r ≠ main_v2) : V2 m d (Proc.devRef .tc r) = V1 m d (Proc.devRef .tc r) :=
  Function.update_of_ne (StableHlo.devRef_ne_of_ne h) _ _
theorem V3_keep (d : Dev nD) {r : Ref sig .tc} (h : r ∉ W₂) : V3 m d (Proc.devRef .tc r) = V2 m d (Proc.devRef .tc r) :=
  StableHlo.after_of_writes_sub ops₂ (V2 m d) (StableHlo.forall_writes_sub_of_map rfl) h
theorem V4_keep (d : Dev nD) {r : Ref sig .tc} (h : ∀ w, Pipeline.arrRef cfg1.spec w = r → (cfg1.win w).isOut = false) :
    V4 m d (Proc.devRef .tc r) = V3 m d (Proc.devRef .tc r) :=
  Pipeline.afterRegion_keeps (dat (U := UU) (V3 m) (Bd (F := F)) d) (V3 m d) launch1.win.arr_inj (fun _ => rfl) r h
theorem V5_keep (d : Dev nD) {r : Ref sig .tc} (h : r ∉ W₃) : V5 m d (Proc.devRef .tc r) = V4 m d (Proc.devRef .tc r) :=
  StableHlo.after_of_writes_sub ops₃ (V4 m d) (StableHlo.forall_writes_sub_of_map rfl) h

/-- What no operation and neither call writes. -/
def Kept (r : Ref sig .tc) : Prop :=
  r ∉ W₁ ∧ r ≠ main_v2 ∧ r ∉ W₂ ∧ (∀ w, Pipeline.arrRef cfg1.spec w = r → (cfg1.win w).isOut = false) ∧ r ∉ W₃

instance (r : Ref sig .tc) : Decidable (Kept r) := by unfold Kept; infer_instance

theorem V5_kept (d : Dev nD) {r : Ref sig .tc} (h : Kept r) : V5 m d (Proc.devRef .tc r) = m (d, Proc.devRef .tc r) := by
  obtain ⟨h1, h2, h3, h4, h5⟩ := h
  rw [V5_keep m d h5, V4_keep m d h4, V3_keep m d h3, V2_keep m d h2, V1_keep m d h1]

/-- A run's end at a buffer of the TensorCore's. -/
theorem QC.at {r : PUnit × MemSt nD τ sig (Elt F)} (h : QC m r) (d : Dev nD) (b : Ref sig .tc) (hb : Proc.devRef (τ := τ) .tc b ∈ uc) :
    r.2.mem ((d.tc : Thread nD τ).loc b) = V5 m d (Proc.devRef .tc b) := h.1 d _ hb

theorem QC.kept {r : PUnit × MemSt nD τ sig (Elt F)} (h : QC m r) (d : Dev nD) (b : Ref sig .tc)
    (hb : Proc.devRef (τ := τ) .tc b ∈ uc) (hk : Kept b) : r.2.mem ((d.tc : Thread nD τ).loc b) = m ((d.tc : Thread nD τ).loc b) :=
  (h.at m d b hb).trans (V5_kept m d hk)

/-- The arguments. -/
def Args (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
  ∧ r.2.mem ((c.tc : Thread nD τ).loc main_arg11) = m ((c.tc : Thread nD τ).loc main_arg11)
  ∧ r.2.mem ((c.tc : Thread nD τ).loc main_arg12) = m ((c.tc : Thread nD τ).loc main_arg12)

theorem QC.args {r : PUnit × MemSt nD τ sig (Elt F)} (h : QC m r) (c : Dev nD) : Args m r c :=
  ⟨h.kept m c main_arg0 (by decide +kernel) (by decide +kernel), h.kept m c main_arg1 (by decide +kernel) (by decide +kernel),
    h.kept m c main_arg2 (by decide +kernel) (by decide +kernel), h.kept m c main_arg3 (by decide +kernel) (by decide +kernel),
    h.kept m c main_arg4 (by decide +kernel) (by decide +kernel), h.kept m c main_arg5 (by decide +kernel) (by decide +kernel),
    h.kept m c main_arg6 (by decide +kernel) (by decide +kernel), h.kept m c main_arg7 (by decide +kernel) (by decide +kernel),
    h.kept m c main_arg8 (by decide +kernel) (by decide +kernel), h.kept m c main_arg9 (by decide +kernel) (by decide +kernel),
    h.kept m c main_arg10 (by decide +kernel) (by decide +kernel), h.kept m c main_arg11 (by decide +kernel) (by decide +kernel),
    h.kept m c main_arg12 (by decide +kernel) (by decide +kernel)⟩

/-- The run, its arguments unchanged and every semaphore at zero. -/
theorem run_frame [∀ e, Nonempty (Elt F e)] :
    θ_run (defs (F := F)) (threads (F := F)) ⟨m, fun _ => 0, ρ⟩ (fun r => (∀ c : Dev nD, Args m r c) ∧ r.2.sem = fun _ => 0) :=
  (θ_run (defs (F := F)) _ _).mono (fun _ h => ⟨fun c => h.args m c, h.2⟩) (run_main (F := F) m ρ)

end Cert.KernelIdeal.Run

end
-- ==== Proof.HostVal.lean ====
/-
  What the host hands the two calls: the coordinates by column, the tables flat, the weights and biases as the decoder reads them.
-/
module

public import proofs.«01_k».proof.Proof.FrameI
public import Idealize.ShloMosaic.Lib.Pointwise

@[expose] public section

set_option maxRecDepth 65536

noncomputable section

namespace Cert.KernelIdeal.Run

open Cert.KernelIdeal Cert.KernelIdeal.Gen Cert.KernelIdeal.Enc Cert.KernelIdeal.Mlp
open Idealize.ShloMosaic Idealize.ShloMosaic.TcCoe Idealize.ShloMosaic.Pointwise

variable (m : (ℓ : Loc nD τ sig) → Buf (Elt Ideal) ℓ) (d : Dev nD)

/-- What neither the host nor the first call writes before the second. -/
theorem V3_of_arg {r : Ref sig .tc} (h1 : r ∉ W₁) (h2 : r ≠ main_v2) (h3 : r ∉ W₂) : V3 m d (Proc.devRef .tc r) = m (d, Proc.devRef .tc r) := by
  rw [V3_keep m d h3, V2_keep m d h2, V1_keep m d h1]

theorem V2_of_arg {r : Ref sig .tc} (h1 : r ∉ W₁) (h2 : r ≠ main_v2) : V2 m d (Proc.devRef .tc r) = m (d, Proc.devRef .tc r) := by
  rw [V2_keep m d h2, V1_keep m d h1]

theorem Xv_eq : Xv m d = transpose S3x131072 [1, 0] (m (d, Proc.devRef .tc main_arg0)) transposes_S131072x3_S3x131072_1_0 := by
  unfold Xv V1
  after_results

theorem Tv_eq : Tv m d = shapeCast S16777216 (m (d, Proc.devRef .tc main_arg2)) shapeCasts_S16x524288x2_S16777216 := by
  unfold Tv V1
  after_results
  rfl

theorem V3_v2 : V3 m d (Proc.devRef .tc main_v2) = encOf (Xv m d) (Tv m d) := by
  rw [V3_keep m d (by decide +kernel)]
  exact Function.update_self _ _ _

theorem V3_v5 : V3 m d (Proc.devRef .tc main_v5) = concatenate S16x64 0 [⟨S1x64, broadcastInDim S1x64 ![] bcast_S_S1x64 (constant (F := Ideal) S_ .f32 0x00000000#32)⟩,
    ⟨S15x64, extractStridedSlice S15x64 ![27, 0] (m (d, Proc.devRef .tc main_arg7)) slices_S42x64_S15x64_27_0⟩] concatenates_S1x64_S15x64_S16x64_d0 := by
  rw [← V2_of_arg m d (r := main_arg7) (by decide +kernel) (by decide +kernel)]
  unfold V3
  after_results

theorem V3_v6 : V3 m d (Proc.devRef .tc main_v6) = shapeCast S1x64 (m (d, Proc.devRef .tc main_arg4)) shapeCasts_S64_S1x64 := by
  rw [← V2_of_arg m d (r := main_arg4) (by decide +kernel) (by decide +kernel)]
  unfold V3
  after_results
  rfl

theorem V3_v7 : V3 m d (Proc.devRef .tc main_v7) = shapeCast S1x16 (m (d, Proc.devRef .tc main_arg6)) shapeCasts_S16_S1x16 := by
  rw [← V2_of_arg m d (r := main_arg6) (by decide +kernel) (by decide +kernel)]
  unfold V3
  after_results
  rfl

theorem V3_v8 : V3 m d (Proc.devRef .tc main_v8) = extractStridedSlice S27x64 ![0, 0] (m (d, Proc.devRef .tc main_arg7)) slices_S42x64_S27x64_0_0 := by
  rw [← V2_of_arg m d (r := main_arg7) (by decide +kernel) (by decide +kernel)]
  unfold V3
  after_results

theorem V3_v9 : V3 m d (Proc.devRef .tc main_v9) = shapeCast S1x64 (m (d, Proc.devRef .tc main_arg8)) shapeCasts_S64_S1x64 := by
  rw [← V2_of_arg m d (r := main_arg8) (by decide +kernel) (by decide +kernel)]
  unfold V3
  after_results
  rfl

theorem V3_v10 : V3 m d (Proc.devRef .tc main_v10) = shapeCast S1x64 (m (d, Proc.devRef .tc main_arg10)) shapeCasts_S64_S1x64 := by
  rw [← V2_of_arg m d (r := main_arg10) (by decide +kernel) (by decide +kernel)]
  unfold V3
  after_results
  rfl

theorem V3_v11 : V3 m d (Proc.devRef .tc main_v11) = shapeCast S1x3 (m (d, Proc.devRef .tc main_arg12)) shapeCasts_S3_S1x3 := by
  rw [← V2_of_arg m d (r := main_arg12) (by decide +kernel) (by decide +kernel)]
  unfold V3
  after_results
  rfl

theorem V5_v13 : V5 m d (Proc.devRef .tc main_v13) = shapeCast S131072 (V4 m d (Proc.devRef .tc main_v12_0)) shapeCasts_S131072x1_S131072 := by
  unfold V5
  after_results
  rfl

/-! ## At an element -/

theorem Xv_at (a : Fin 3) (p : Fin 131072) : Xv m d (ix2 a p) = m (d, Proc.devRef .tc main_arg0) (ix2 p a) := by
  rw [Xv_eq]
  pointwise

theorem Tv_at (l : Fin 16) (e : Fin 524288) (f : Fin 2) (h : 2 * (524288 * l.val + e.val) + f.val < 16777216) :
    Tv m d (ix1 ⟨2 * (524288 * l.val + e.val) + f.val, h⟩) = m (d, Proc.devRef .tc main_arg2) (ix3 l e f) := by
  rw [Tv_eq]
  refine shapeCast_apply _ _ _ (ix3 l e f) ?_
  rw [Shape.rowMajor_val_one, Shape.rowMajor_val_three]
  show (l.val * 524288 + e.val) * 2 + f.val = 2 * (524288 * l.val + e.val) + f.val
  omega

theorem row64 (v : S64.Idx → EReal) (j : Fin 64) : shapeCast S1x64 v shapeCasts_S64_S1x64 (ix2 0 j) = v (ix1 j) := by
  pointwise
theorem row16 (v : S16.Idx → EReal) (j : Fin 16) : shapeCast S1x16 v shapeCasts_S16_S1x16 (ix2 0 j) = v (ix1 j) := by
  pointwise
theorem row3 (v : S3.Idx → EReal) (j : Fin 3) : shapeCast S1x3 v shapeCasts_S3_S1x3 (ix2 0 j) = v (ix1 j) := by
  pointwise
theorem column (v : S131072x1.Idx → EReal) (p : Fin 131072) : shapeCast S131072 v shapeCasts_S131072x1_S131072 (ix1 p) = v (ix2 p 0) := by
  pointwise

theorem v8_at (k : Fin 27) (j : Fin 64) : V3 m d (Proc.devRef .tc main_v8) (ix2 k j) = m (d, Proc.devRef .tc main_arg7) (ix2 ⟨k.val, by omega⟩ j) := by
  rw [V3_v8]
  pointwise

theorem v5_zero (j : Fin 64) : V3 m d (Proc.devRef .tc main_v5) (ix2 0 j) = (0 : EReal) := by
  rw [V3_v5]
  pointwise

theorem v5_succ (k : Fin 15) (j : Fin 64) :
    V3 m d (Proc.devRef .tc main_v5) (ix2 ⟨1 + k.val, by omega⟩ j) = m (d, Proc.devRef .tc main_arg7) (ix2 ⟨27 + k.val, by omega⟩ j) := by
  rw [V3_v5]
  pointwise

end Cert.KernelIdeal.Run

end
-- ==== Proof.Decoder.lean ====
/-
  The two decoders of one point over the extended reals, as sums of products: what both programs compute from the point's encoding and direction.
-/
module

public import Idealize.ShloMosaic.Lib.Pointwise

@[expose] public section

noncomputable section

namespace Cert.Dec

open Idealize.ShloMosaic

/-- The density decoder: a hidden layer and a layer of sixteen. -/
def out (e : Fin 32 → EReal) (w1 : Fin 32 → Fin 64 → EReal) (b1 : Fin 64 → EReal) (w2 : Fin 64 → Fin 16 → EReal) (b2 : Fin 16 → EReal) (o : Fin 16) : EReal :=
  ∑ j, max (∑ i, e i * w1 i j + b1 j) 0 * w2 j o + b2 o

/-- The frequencies past the first. -/
def freq2 : EReal := Ideal.ofBits FTy.f32 1073741824#32
def freq4 : EReal := Ideal.ofBits FTy.f32 1082130432#32
def freq8 : EReal := Ideal.ofBits FTy.f32 1090519040#32

/-- The colour decoder's first sum: a direction, its harmonics and the density decoder's other columns. -/
def mix (v : Fin 3 → EReal) (y : Fin 15 → EReal) (R : Fin 42 → EReal) : EReal :=
  ∑ a : Fin 3, v a * R ⟨a.val, by omega⟩
    + ∑ a : Fin 3, Ideal.sin (v a) * R ⟨3 + a.val, by omega⟩ + ∑ a : Fin 3, Ideal.cos (v a) * R ⟨6 + a.val, by omega⟩
    + ∑ a : Fin 3, Ideal.sin (freq2 * v a) * R ⟨9 + a.val, by omega⟩ + ∑ a : Fin 3, Ideal.cos (freq2 * v a) * R ⟨12 + a.val, by omega⟩
    + ∑ a : Fin 3, Ideal.sin (freq4 * v a) * R ⟨15 + a.val, by omega⟩ + ∑ a : Fin 3, Ideal.cos (freq4 * v a) * R ⟨18 + a.val, by omega⟩
    + ∑ a : Fin 3, Ideal.sin (freq8 * v a) * R ⟨21 + a.val, by omega⟩ + ∑ a : Fin 3, Ideal.cos (freq8 * v a) * R ⟨24 + a.val, by omega⟩
    + ∑ k : Fin 15, y k * R ⟨27 + k.val, by omega⟩

/-- The rest of it: two more layers and the logistic function. -/
def colour (h : Fin 64 → EReal) (r2 : Fin 64 → Fin 64 → EReal) (c2 : Fin 64 → EReal) (r3 : Fin 64 → Fin 3 → EReal) (c3 : Fin 3 → EReal) (o : Fin 3) : EReal :=
  Ideal.div 1 (1 + Ideal.exp (-(∑ x, max (∑ y, max (h y) 0 * r2 y x + c2 x) 0 * r3 x o + c3 o)))

/-- A sum cut in two. -/
theorem sum_cut {N : ℕ} (n m : ℕ) (h : N = n + m) (g : Fin N → EReal) :
    ∑ x, g x = ∑ a : Fin n, g ⟨a.val, by omega⟩ + ∑ b : Fin m, g ⟨n + b.val, by omega⟩ := by
  subst h
  rw [Fin.sum_univ_add]
  rfl

/-- A sum of forty-two cut into nine threes and a fifteen. -/
theorem sum_cuts (g : Fin 42 → EReal) :
    ∑ x, g x = ∑ a : Fin 3, g ⟨a.val, by omega⟩ + ∑ a : Fin 3, g ⟨3 + a.val, by omega⟩ + ∑ a : Fin 3, g ⟨6 + a.val, by omega⟩
      + ∑ a : Fin 3, g ⟨9 + a.val, by omega⟩ + ∑ a : Fin 3, g ⟨12 + a.val, by omega⟩ + ∑ a : Fin 3, g ⟨15 + a.val, by omega⟩
      + ∑ a : Fin 3, g ⟨18 + a.val, by omega⟩ + ∑ a : Fin 3, g ⟨21 + a.val, by omega⟩ + ∑ a : Fin 3, g ⟨24 + a.val, by omega⟩
      + ∑ k : Fin 15, g ⟨27 + k.val, by omega⟩ := by
  rw [sum_cut 27 15 rfl g, sum_cut 24 3 rfl, sum_cut 21 3 rfl, sum_cut 18 3 rfl, sum_cut 15 3 rfl, sum_cut 12 3 rfl, sum_cut 9 3 rfl,
    sum_cut 6 3 rfl, sum_cut 3 3 rfl]

/-- A sum whose first term vanishes. -/
theorem sum_tail (g : Fin 16 → EReal) (h : g 0 = 0) : ∑ x, g x = ∑ k : Fin 15, g ⟨1 + k.val, by omega⟩ := by
  rw [Fin.sum_univ_succ, h, zero_add]
  exact Finset.sum_congr rfl fun k _ => congrArg g (Fin.ext (by simp only [Fin.val_succ]; omega))

end Cert.Dec

end
-- ==== Proof.MlpVal.lean ====
/-
  The two decoders of a block of points, over the extended reals, read at a point.
-/
module

public import proofs.«01_k».proof.Proof.MlpI
public import proofs.«01_k».proof.Proof.Decoder

@[expose] public section

set_option maxRecDepth 65536

noncomputable section

namespace Cert.KernelIdeal.Val

open Cert.KernelIdeal Cert.KernelIdeal.Gen Cert.KernelIdeal.Mlp Idealize.ShloMosaic

variable (f : Vec Ideal S32x1024 .f32) (v : Vec Ideal S1024x3 .f32) (w1 : Vec Ideal S32x64 .f32) (b1 : Vec Ideal S1x64 .f32) (w2 : Vec Ideal S64x16 .f32)
  (b2 : Vec Ideal S1x16 .f32) (r1 : Vec Ideal S27x64 .f32) (r1x : Vec Ideal S16x64 .f32) (c1 : Vec Ideal S1x64 .f32) (r2 : Vec Ideal S64x64 .f32)
  (c2 : Vec Ideal S1x64 .f32) (r3 : Vec Ideal S64x3 .f32) (c3 : Vec Ideal S1x3 .f32)

/-- The density decoder at a point of a block. -/
abbrev outB (r : Fin 1024) (o : Fin 16) : EReal :=
  Dec.out (fun i => f (ix2 i r)) (fun i j => w1 (ix2 i j)) (fun j => b1 (ix2 0 j)) (fun j k => w2 (ix2 j k)) (fun k => b2 (ix2 0 k)) o

theorem pay2_at (r : Fin 1024) (o : Fin 16) : k1_pay2 f w1 b1 w2 b2 (ix2 r o) = outB f w1 b1 w2 b2 r o := by
  pointwise [k1_pay2, Dec.out]

theorem sigBlk_at (r : Fin 1024) : sigBlk f w1 b1 w2 b2 (ix2 r 0) = outB f w1 b1 w2 b2 r 0 := by
  rw [← pay2_at]
  unfold sigBlk
  pointwise [k1_pay3]

/-- The first sum of the colour decoder, without its last three harmonics. -/
theorem pay7_at (r : Fin 1024) (o : Fin 64) :
    k1_pay7 v (k1_pay4 r1) (k1_pay5 f w1 b1 w2 b2 v r1 r1x c1) (k1_pay6 (F := Ideal)) (ix2 r o)
      = (∑ x, k1_pay2 f w1 b1 w2 b2 (ix2 r x) * r1x (ix2 x o)) + c1 (ix2 0 o)
        + ∑ a : Fin 3, v (ix2 r a) * r1 (ix2 ⟨a.val, by omega⟩ o)
        + ∑ a : Fin 3, Ideal.sin (v (ix2 r a)) * r1 (ix2 ⟨3 + a.val, by omega⟩ o) + ∑ a : Fin 3, Ideal.cos (v (ix2 r a)) * r1 (ix2 ⟨6 + a.val, by omega⟩ o)
        + ∑ a : Fin 3, Ideal.sin (Dec.freq2 * v (ix2 r a)) * r1 (ix2 ⟨9 + a.val, by omega⟩ o)
        + ∑ a : Fin 3, Ideal.cos (Dec.freq2 * v (ix2 r a)) * r1 (ix2 ⟨12 + a.val, by omega⟩ o)
        + ∑ a : Fin 3, Ideal.sin (Dec.freq4 * v (ix2 r a)) * r1 (ix2 ⟨15 + a.val, by omega⟩ o)
        + ∑ a : Fin 3, Ideal.cos (Dec.freq4 * v (ix2 r a)) * r1 (ix2 ⟨18 + a.val, by omega⟩ o)
        + ∑ a : Fin 3, Ideal.sin (Dec.freq8 * v (ix2 r a)) * r1 (ix2 ⟨21 + a.val, by omega⟩ o) := by
  pointwise [k1_pay7, k1_pay6, k1_pay5, k1_pay4, Dec.freq2, Dec.freq4, Dec.freq8]

theorem pay1_at (h : FVec Ideal S1024x64 .f32) (r : Fin 1024) (o : Fin 3) :
    k1_pay1 h (k1_pay8 v) (k1_pay9 (k1_pay4 r1)) (constant S1024x64 .f32 0x00000000#32) r2 c2 r3 c3 (ix2 r o)
      = Dec.colour (fun j => h (ix2 r j) + ∑ a : Fin 3, Ideal.cos (Dec.freq8 * v (ix2 r a)) * r1 (ix2 ⟨24 + a.val, by omega⟩ j))
          (fun i j => r2 (ix2 i j)) (fun j => c2 (ix2 0 j)) (fun i j => r3 (ix2 i j)) (fun j => c3 (ix2 0 j)) o := by
  unfold Dec.colour
  rw [← zero_sub]
  pointwise [k1_pay1, k1_pay8, k1_pay9, k1_pay4, Dec.freq8]

theorem shuffle (t c s0 s1 s2 s3 s4 s5 s6 s7 s8 : EReal) :
    t + c + s0 + s1 + s2 + s3 + s4 + s5 + s6 + s7 + s8 = s0 + s1 + s2 + s3 + s4 + s5 + s6 + s7 + s8 + t + c := by
  ac_rfl

/-- The colour decoder at a point of a block, its first weights given whole. -/
theorem rgbBlk_at (R : Fin 42 → Fin 64 → EReal) (h1 : ∀ k j, r1 (ix2 k j) = R ⟨k.val, by omega⟩ j) (h0 : ∀ j, r1x (ix2 0 j) = 0)
    (hx : ∀ (k : Fin 15) j, r1x (ix2 ⟨1 + k.val, by omega⟩ j) = R ⟨27 + k.val, by omega⟩ j) (r : Fin 1024) (o : Fin 3) :
    rgbBlk f v w1 b1 w2 b2 r1 r1x c1 r2 c2 r3 c3 (ix2 r o)
      = Dec.colour (fun j => Dec.mix (fun a => v (ix2 r a)) (fun k => outB f w1 b1 w2 b2 r ⟨1 + k.val, by omega⟩) (fun k => R k j) + c1 (ix2 0 j))
          (fun i j => r2 (ix2 i j)) (fun j => c2 (ix2 0 j)) (fun i j => r3 (ix2 i j)) (fun j => c3 (ix2 0 j)) o := by
  unfold rgbBlk
  rw [pay1_at]
  congr 1
  funext j
  rw [pay7_at, Dec.sum_tail _ (by rw [h0, mul_zero])]
  simp only [pay2_at, h1, hx]
  unfold Dec.mix
  exact shuffle ..

end Cert.KernelIdeal.Val

end
-- ==== Proof.WinVal.lean ====
/-
  The second call's operands as its blocks read them, and its two results' arrays as the blocks make them up.
-/
module

public import proofs.«01_k».proof.Proof.MlpVal
public import proofs.«01_k».proof.Proof.RegionI
public import Idealize.ShloMosaic.Lib.Pipeline.ValueKit

@[expose] public section

set_option maxRecDepth 65536

noncomputable section

namespace Cert.KernelIdeal.Val

open Cert.KernelIdeal Cert.KernelIdeal.Gen Cert.KernelIdeal.Mlp
open Idealize.ShloMosaic Idealize.ShloMosaic.SparseCore Idealize.ShloMosaic.SparseCore.Cfg Idealize.ShloMosaic.TcCoe Idealize.ShloMosaic.Pointwise
open Idealize.SL

variable (W : Dev nD → Valuation τ sig (Elt Ideal)) (c : Dev nD) (t : Fin cfg1.N)

/-! ## Where the blocks lie -/

theorem at0 : ∀ t : Fin cfg1.N, win1_0.index t = ![0, t.val] := (by decide +kernel : ∀ t : Fin grid1.N, _)
theorem at1 : ∀ t : Fin cfg1.N, win1_1.index t = ![t.val, 0] := (by decide +kernel : ∀ t : Fin grid1.N, _)
theorem at13 : ∀ t : Fin cfg1.N, win1_13.index t = ![t.val, 0] := (by decide +kernel : ∀ t : Fin grid1.N, _)
theorem at14 : ∀ t : Fin cfg1.N, win1_14.index t = ![t.val, 0] := (by decide +kernel : ∀ t : Fin grid1.N, _)

/-- The point that row `r` of block `t` is. -/
def pt (r : Fin 1024) : Fin 131072 := ⟨1024 * t.val + r.val, by have := t.isLt; have h : cfg1.N = 128 := rfl; omega⟩

theorem stg_0 (i : Fin 32) (r : Fin 1024) :
    stg W c 0 t (ix2 i r) = W c (Proc.devRef .tc main_v2) (ix2 i (pt t r)) := by
  refine congrArg (W c (Proc.devRef .tc main_v2)) ?_
  blk_ext [at0, pt]

theorem stg_1 (r : Fin 1024) (a : Fin 3) :
    stg W c 1 t (ix2 r a) = W c (Proc.devRef .tc main_arg1) (ix2 (pt t r) a) := by
  refine congrArg (W c (Proc.devRef .tc main_arg1)) ?_
  blk_ext [at1, pt]

/-- A block that is the whole of its array. -/
theorem emb_whole (w : Fin cfg1.W) (h : (cfg1.win w).index t = fun _ => 0) (y : ((cfg1.win w).xblock (cfg1.grid.coords t)).Idx)
    (a : Fin (cfg1.win w).shape.rank) : (((cfg1.win w).rect t).emb y a).val = (y a).val :=
  (cfg1.win w).rect_emb_val_of_index_zero t a (congrFun h a) y

/-- Operands 2 to 12 are whole arrays. -/
theorem zero_at : ∀ w : Fin 15, 2 ≤ w.val → w.val ≤ 12 → ∀ (t : Fin cfg1.N) (a : Fin (cfg1.win w).shape.rank), (cfg1.win w).index t a = 0 := by
  decide +kernel

/-- So each reads as its array. -/
theorem whole (w : Fin cfg1.W) (h : 2 ≤ w.val) (h' : w.val ≤ 12) (y : ((cfg1.win w).xblock (cfg1.grid.coords t)).Idx)
    (a : Fin (cfg1.win w).shape.rank) : (((cfg1.win w).rect t).emb y a).val = (y a).val :=
  (cfg1.win w).rect_emb_val_of_index_zero t a (zero_at w h h' t a) y

theorem stg_2 : stg W c 2 t = W c (Proc.devRef .tc main_arg3) :=
  funext fun y => congrArg (W c (Proc.devRef .tc main_arg3)) (funext fun a => Fin.ext (whole t 2 (by decide) (by decide) y a))
theorem stg_3 : stg W c 3 t = W c (Proc.devRef .tc main_v6) :=
  funext fun y => congrArg (W c (Proc.devRef .tc main_v6)) (funext fun a => Fin.ext (whole t 3 (by decide) (by decide) y a))
theorem stg_4 : stg W c 4 t = W c (Proc.devRef .tc main_arg5) :=
  funext fun y => congrArg (W c (Proc.devRef .tc main_arg5)) (funext fun a => Fin.ext (whole t 4 (by decide) (by decide) y a))
theorem stg_5 : stg W c 5 t = W c (Proc.devRef .tc main_v7) :=
  funext fun y => congrArg (W c (Proc.devRef .tc main_v7)) (funext fun a => Fin.ext (whole t 5 (by decide) (by decide) y a))
theorem stg_6 : stg W c 6 t = W c (Proc.devRef .tc main_v8) :=
  funext fun y => congrArg (W c (Proc.devRef .tc main_v8)) (funext fun a => Fin.ext (whole t 6 (by decide) (by decide) y a))
theorem stg_7 : stg W c 7 t = W c (Proc.devRef .tc main_v5) :=
  funext fun y => congrArg (W c (Proc.devRef .tc main_v5)) (funext fun a => Fin.ext (whole t 7 (by decide) (by decide) y a))
theorem stg_8 : stg W c 8 t = W c (Proc.devRef .tc main_v9) :=
  funext fun y => congrArg (W c (Proc.devRef .tc main_v9)) (funext fun a => Fin.ext (whole t 8 (by decide) (by decide) y a))
theorem stg_9 : stg W c 9 t = W c (Proc.devRef .tc main_arg9) :=
  funext fun y => congrArg (W c (Proc.devRef .tc main_arg9)) (funext fun a => Fin.ext (whole t 9 (by decide) (by decide) y a))
theorem stg_10 : stg W c 10 t = W c (Proc.devRef .tc main_v10) :=
  funext fun y => congrArg (W c (Proc.devRef .tc main_v10)) (funext fun a => Fin.ext (whole t 10 (by decide) (by decide) y a))
theorem stg_11 : stg W c 11 t = W c (Proc.devRef .tc main_arg11) :=
  funext fun y => congrArg (W c (Proc.devRef .tc main_arg11)) (funext fun a => Fin.ext (whole t 11 (by decide) (by decide) y a))
theorem stg_12 : stg W c 12 t = W c (Proc.devRef .tc main_v11) :=
  funext fun y => congrArg (W c (Proc.devRef .tc main_v11)) (funext fun a => Fin.ext (whole t 12 (by decide) (by decide) y a))

/-! ## The results' arrays -/

/-- The density network's output `o` at point `p`. -/
def rowOut (p : Fin 131072) (o : Fin 16) : EReal :=
  Dec.out (fun i => W c (Proc.devRef .tc main_v2) (ix2 i p)) (fun i j => W c (Proc.devRef .tc main_arg3) (ix2 i j))
    (fun j => W c (Proc.devRef .tc main_v6) (ix2 0 j)) (fun j k => W c (Proc.devRef .tc main_arg5) (ix2 j k))
    (fun k => W c (Proc.devRef .tc main_v7) (ix2 0 k)) o

theorem outB_eq (r : Fin 1024) (o : Fin 16) :
    outB (stg W c 0 t) (stg W c 2 t) (stg W c 3 t) (stg W c 4 t) (stg W c 5 t) r o = rowOut W c (pt t r) o := by
  rw [stg_2, stg_3, stg_4, stg_5]
  unfold outB rowOut
  simp only [stg_0]

/-- The densities, a column. -/
def sigArr : S131072x1.Idx → EReal := fun i => rowOut W c (i 0) 0

/-- The colours, the mixing weights being `R`. -/
def rgbArr (R : Fin 42 → Fin 64 → EReal) : S131072x3.Idx → EReal := fun i =>
  Dec.colour (fun j => Dec.mix (fun a => W c (Proc.devRef .tc main_arg1) (ix2 (i 0) a))
      (fun k => rowOut W c (i 0) ⟨1 + k.val, by omega⟩) (fun k => R k j) + W c (Proc.devRef .tc main_v9) (ix2 0 j))
    (fun i j => W c (Proc.devRef .tc main_arg9) (ix2 i j)) (fun j => W c (Proc.devRef .tc main_v10) (ix2 0 j))
    (fun i j => W c (Proc.devRef .tc main_arg11) (ix2 i j)) (fun j => W c (Proc.devRef .tc main_v11) (ix2 0 j)) (i 1)

theorem sigAt_at (r : Fin 1024) : sigAt W c t (ix2 r 0) = rowOut W c (pt t r) 0 := by
  unfold sigAt
  rw [sigBlk_at, outB_eq]

theorem rgbAt_at (R : Fin 42 → Fin 64 → EReal)
    (h1 : ∀ (k : Fin 27) j, W c (Proc.devRef .tc main_v8) (ix2 k j) = R ⟨k.val, by omega⟩ j)
    (h0 : ∀ j, W c (Proc.devRef .tc main_v5) (ix2 0 j) = (0 : EReal))
    (hx : ∀ (k : Fin 15) j, W c (Proc.devRef .tc main_v5) (ix2 ⟨1 + k.val, by omega⟩ j) = R ⟨27 + k.val, by omega⟩ j)
    (r : Fin 1024) (o : Fin 3) : rgbAt W c t (ix2 r o) = rgbArr W c R (ix2 (pt t r) o) := by
  unfold rgbAt
  rw [rgbBlk_at _ _ _ _ _ _ _ _ _ _ _ _ _ R (by rw [stg_6]; exact h1) (by rw [stg_7]; exact h0) (by rw [stg_7]; exact hx)]
  simp only [outB_eq, stg_1]
  rw [stg_8, stg_9, stg_10, stg_11, stg_12]
  rfl

variable {U : Type} [Idealize.SL.RA.URA U] (B : Dev nD → Set (SemLoc sig × HIx 1))

theorem arr_13 : (dat (U := U) W B c).arrAt 13 cfg1.N = sigArr W c := by
  refine (dat (U := U) W B c).arrAt_eq_of_covers 13 _ (by decide +kernel) fun t hf y => ?_
  obtain ⟨r, q, rfl⟩ : ∃ r q, y = ix2 r q := ⟨y 0, y 1, by funext a; fin_cases a <;> rfl⟩
  obtain rfl : q = 0 := Subsingleton.elim (α := Fin 1) _ _
  refine (show _ = sigAt W c t (ix2 r 0) from rfl).trans ?_
  refine (show _ = sigArr W c (ix2 (pt t r) 0) from sigAt_at W c t r).trans (congrArg (sigArr W c) ?_)
  blk_ext [at13, pt]

theorem arr_14 (R : Fin 42 → Fin 64 → EReal)
    (h1 : ∀ (k : Fin 27) j, W c (Proc.devRef .tc main_v8) (ix2 k j) = R ⟨k.val, by omega⟩ j)
    (h0 : ∀ j, W c (Proc.devRef .tc main_v5) (ix2 0 j) = (0 : EReal))
    (hx : ∀ (k : Fin 15) j, W c (Proc.devRef .tc main_v5) (ix2 ⟨1 + k.val, by omega⟩ j) = R ⟨27 + k.val, by omega⟩ j) :
    (dat (U := U) W B c).arrAt 14 cfg1.N = rgbArr W c R := by
  refine (dat (U := U) W B c).arrAt_eq_of_covers 14 _ (by decide +kernel) fun t hf y => ?_
  obtain ⟨r, o, rfl⟩ : ∃ r o, y = ix2 r o := ⟨y 0, y 1, by funext a; fin_cases a <;> rfl⟩
  refine (show _ = rgbAt W c t (ix2 r o) from rfl).trans ?_
  refine (rgbAt_at W c t R h1 h0 hx r o).trans (congrArg (rgbArr W c R) ?_)
  blk_ext [at14, pt]

end Cert.KernelIdeal.Val

end
-- ==== Proof.Cells.lean ====
/-
  The pieces of the encoding over the extended reals: a coordinate in the unit interval scaled to a level, its floor as the truncated word, and the
  hash of a corner, whole coordinates first or products first.
-/
module

public import proofs.«01_k».proof.Proof.Point
public import Idealize.ShloMosaic.Lib.Pointwise

@[expose] public section

noncomputable section

namespace Cert.Enc

open Idealize.ShloMosaic

/-- The levels' resolutions. -/
def resNat : Fin 16 → ℕ := ![16, 22, 30, 42, 58, 80, 111, 153, 212, 294, 406, 561, 776, 1072, 1482, 2048]

theorem res_val (l : Fin 16) : Ideal.ofBits .f32 (resWord l) = (((resNat l : ℕ) : ℝ) : EReal) := by
  fin_cases l <;> simp [resWord, resNat, Ideal.ofBits, Ideal.ieee, -EReal.coe_mul] <;> norm_num

theorem resNat_le (l : Fin 16) : resNat l ≤ 2048 := by revert l; decide

/-- A coordinate in the unit interval, scaled: a real number between `0` and `2048`. -/
theorem scaled_real (v : EReal) (l : Fin 16) (h0 : 0 ≤ v) (h1 : v ≤ 1) :
    ∃ r : ℝ, v * Ideal.ofBits .f32 (resWord l) = (r : EReal) ∧ 0 ≤ r ∧ r ≤ 2048 := by
  have hb : v ≠ ⊥ := fun h => by rw [h] at h0; exact absurd h0 (by simp)
  have ht : v ≠ ⊤ := fun h => by rw [h] at h1; exact absurd h1 (by simp [← EReal.coe_one])
  lift v to ℝ using ⟨ht, hb⟩
  have h0 : 0 ≤ v := by exact_mod_cast h0
  have h1 : v ≤ 1 := by exact_mod_cast h1
  refine ⟨v * (resNat l : ℝ), by rw [res_val, EReal.coe_mul], mul_nonneg h0 (Nat.cast_nonneg _), ?_⟩
  have h2 : (resNat l : ℝ) ≤ 2048 := by exact_mod_cast resNat_le l
  calc v * (resNat l : ℝ) ≤ 1 * 2048 := mul_le_mul h1 h2 (Nat.cast_nonneg _) zero_le_one
    _ = 2048 := one_mul _

/-- The word of a real number between `0` and `2048`: its floor. -/
theorem word_real (r : ℝ) (h0 : 0 ≤ r) (h1 : r ≤ 2048) : Ideal.fptosi 32 (r : EReal) = BitVec.ofInt 32 ⌊r⌋ ∧ (BitVec.ofInt 32 ⌊r⌋).toInt = ⌊r⌋ := by
  have a : 0 ≤ ⌊r⌋ := Int.floor_nonneg.2 h0
  have b : ⌊r⌋ ≤ 2048 := by
    have := Int.floor_le_floor h1
    simpa using this
  constructor
  · unfold Ideal.fptosi
    rw [Ideal.toIntClamped_coe, if_pos h0]
    congr 1
    omega
  · rw [BitVec.toInt_ofInt]
    rw [Int.bmod_def]
    omega

/-- The word of the floor is the truncated word, -/
theorem word_floor (r : ℝ) (h0 : 0 ≤ r) (h1 : r ≤ 2048) : Ideal.fptosi 32 (Ideal.liftRound Int.floor (r : EReal)) = Ideal.fptosi 32 (r : EReal) := by
  rw [Ideal.liftRound_coe]
  have a : 0 ≤ ⌊r⌋ := Int.floor_nonneg.2 h0
  have e := word_real (⌊r⌋ : ℝ) (by exact_mod_cast a) (le_trans (Int.floor_le r) h1)
  rw [e.1, (word_real r h0 h1).1, Int.floor_intCast]

/-- and the truncated word's number is the floor. -/
theorem floor_word (r : ℝ) (h0 : 0 ≤ r) (h1 : r ≤ 2048) :
    (((Ideal.fptosi 32 (r : EReal)).toInt : ℝ) : EReal) = Ideal.liftRound Int.floor (r : EReal) := by
  rw [(word_real r h0 h1).1, (word_real r h0 h1).2, Ideal.liftRound_coe]

/-- A corner's step along an axis. -/
def stepAt (c : Fin 8) : Fin 3 → Bool := ![decide (4 ≤ c.val), decide (c.val / 2 % 2 = 1), decide (c.val % 2 = 1)]

/-- The next cell's product is the cell's product and the factor. -/
theorem next_mul (y P : BitVec 32) : IntOp.muli (IntOp.addi y 1#32) P = IntOp.addi (IntOp.muli y P) P := by
  show (y + 1#32) * P = y * P + P
  rw [BitVec.add_mul, BitVec.one_mul]

theorem stay_mul (y P : BitVec 32) : IntOp.muli (IntOp.addi y 0#32) P = IntOp.muli y P := by
  show (y + 0#32) * P = y * P
  rw [BitVec.add_zero]

/-- The hash of a corner, its whole coordinates first. -/
theorem hash_eq (x y z : BitVec 32) (c : Fin 8) :
    IntOp.xori (IntOp.xori (IntOp.muli (IntOp.addi x (if stepAt c 0 then 1#32 else 0#32)) 1#32)
        (IntOp.muli (IntOp.addi y (if stepAt c 1 then 1#32 else 0#32)) 2654435761#32))
      (IntOp.muli (IntOp.addi z (if stepAt c 2 then 1#32 else 0#32)) 805459861#32) = hashAt x y z c := by
  have one : ∀ w : BitVec 32, IntOp.muli w 1#32 = w := fun w => BitVec.mul_one w
  have nil : ∀ w : BitVec 32, IntOp.addi w 0#32 = w := fun w => BitVec.add_zero w
  have assoc : ∀ u v w : BitVec 32, IntOp.xori (IntOp.xori u v) w = IntOp.xori u (IntOp.xori v w) := fun u v w => BitVec.xor_assoc u v w
  rw [assoc, one]
  unfold hashAt
  fin_cases c <;> simp [stepAt, next_mul, nil]

/-- A masked hash is small. -/
theorem masked_lt (h : BitVec 32) : (IntOp.andi h 524287#32).toNat < 524288 := by
  show (h &&& 524287#32).toNat < 524288
  rw [BitVec.toNat_and]
  exact lt_of_le_of_lt Nat.and_le_right (by decide)

/-- Where a corner's feature stands in the flat tables. -/
theorem pos_toNat (e : BitVec 32) (l : Fin 16) (f : ℕ) (hf : f < 2) (he : e.toNat < 524288) :
    (if f = 0 then IntOp.shli .vector (IntOp.addi e (baseWord l)) 1#32 else IntOp.addi (IntOp.shli .vector (IntOp.addi e (baseWord l)) 1#32) 1#32).toNat
      = 2 * (524288 * l.val + e.toNat) + f := by
  have hl := l.isLt
  have hb : (baseWord l).toNat = 524288 * l.val := by unfold baseWord; rw [BitVec.toNat_ofNat]; omega
  have ha : (IntOp.addi e (baseWord l)).toNat = 524288 * l.val + e.toNat := by
    show (e + baseWord l).toNat = _
    rw [BitVec.toNat_add, hb]; omega
  have hs : (IntOp.shli .vector (IntOp.addi e (baseWord l)) 1#32).toNat = 2 * (524288 * l.val + e.toNat) := by
    unfold IntOp.shli
    rw [if_pos (by decide)]
    show (IntOp.addi e (baseWord l) <<< (1#32).toNat).toNat = _
    rw [BitVec.toNat_shiftLeft, ha, Nat.shiftLeft_eq, show (1#32 : BitVec 32).toNat = 1 from rfl, pow_one]
    omega
  split
  · rw [hs]; omega
  · show (IntOp.shli .vector (IntOp.addi e (baseWord l)) 1#32 + 1#32).toNat = _
    rw [BitVec.toNat_add, hs]
    simp only [BitVec.toNat_ofNat]
    omega

end Cert.Enc

end
-- ==== Proof.RefStages.lean ====
/-
  The reference's two results, stage by stage: each stage is the term that the reference's operations give it.
-/
module

public import proofs.«01_k».proof.Proof.Gen.ReferenceIdeal.Run
public import Idealize.ShloMosaic.Lib.Pointwise

@[expose] public section

set_option maxRecDepth 65536

noncomputable section

namespace Cert.ReferenceIdeal.Stage

open Cert.ReferenceIdeal Cert.ReferenceIdeal.Gen Cert.ReferenceIdeal.Value Idealize.ShloMosaic Idealize.ShloMosaic.TcCoe Idealize.SL.Sem

/-- The points in a level's cells: coordinate times resolution. -/
def scaled (X : FVec Ideal S131072x3 .f32) : FVec Ideal S131072x16x3 .f32 :=
  mulf (broadcastInDim S131072x16x3 ![0, 1, 2] bcast_S131072x1x3_S131072x16x3_0_1_2 (broadcastInDim S131072x1x3 ![0, 2]
    bcast_S131072x3_S131072x1x3_0_2 X)) (broadcastInDim S131072x16x3 ![0, 1, 2] bcast_S1x16x1_S131072x16x3_0_1_2 (broadcastInDim S1x16x1
    ![1] bcast_S16_S1x16x1_1 ((fun i => FloatOps.ofBits .f32 (lit0 (S16.rowMajor i))))))

/-- Their floors, -/
def floored (X : FVec Ideal S131072x3 .f32) : FVec Ideal S131072x16x3 .f32 :=
  Host.floor (scaled X)

/-- and what is left of them. -/
def frac (X : FVec Ideal S131072x3 .f32) : FVec Ideal S131072x16x3 .f32 :=
  subf (scaled X) (floored X)

/-- A corner's weight along an axis. -/
def side (X : FVec Ideal S131072x3 .f32) : FVec Ideal S131072x16x8x3 .f32 :=
  select (broadcastInDim S131072x16x8x3 ![2, 3] bcast_S8x3_S131072x16x8x3_2_3 ((fun i => lit2 (S8x3.rowMajor i)))) (broadcastInDim
    S131072x16x8x3 ![0, 1, 2, 3] bcast_S131072x16x1x3_S131072x16x8x3_0_1_2_3 (broadcastInDim S131072x16x1x3 ![0, 1, 3]
    bcast_S131072x16x3_S131072x16x1x3_0_1_3 (frac X))) (broadcastInDim S131072x16x8x3 ![0, 1, 2, 3]
    bcast_S131072x16x1x3_S131072x16x8x3_0_1_2_3 (subf (broadcastInDim S131072x16x1x3 ![] bcast_S_S131072x16x1x3 (constant S_ .f32
    0x3F800000#32)) (broadcastInDim S131072x16x1x3 ![0, 1, 3] bcast_S131072x16x3_S131072x16x1x3_0_1_3 (frac X))))

/-- A corner's weight. -/
def wgt (X : FVec Ideal S131072x3 .f32) : FVec Ideal S131072x16x8 .f32 :=
  mulf (mulf (shapeCast _ (extractStridedSlice S131072x16x8x1 ![0, 0, 0, 0] (side X) slices_S131072x16x8x3_S131072x16x8x1_0_0_0_0)
    shapeCasts_S131072x16x8x1_S131072x16x8) (shapeCast _ (extractStridedSlice S131072x16x8x1 ![0, 0, 0, 1] (side X)
    slices_S131072x16x8x3_S131072x16x8x1_0_0_0_1) shapeCasts_S131072x16x8x1_S131072x16x8)) (shapeCast _ (extractStridedSlice S131072x16x8x1
    ![0, 0, 0, 2] (side X) slices_S131072x16x8x3_S131072x16x8x1_0_0_0_2) shapeCasts_S131072x16x8x1_S131072x16x8)

/-- A corner's whole coordinates, -/
def corner (X : FVec Ideal S131072x3 .f32) : IVec S131072x16x8x3 32 :=
  addi (broadcastInDim S131072x16x8x3 ![0, 1, 2, 3] bcast_S131072x16x1x3_S131072x16x8x3_0_1_2_3 (broadcastInDim S131072x16x1x3 ![0, 1, 3]
    bcast_S131072x16x3_S131072x16x1x3_0_1_3 (fptosi 32 (floored X)))) (broadcastInDim S131072x16x8x3 ![0, 1, 2, 3]
    bcast_S1x1x8x3_S131072x16x8x3_0_1_2_3 (broadcastInDim S1x1x8x3 ![2, 3] bcast_S8x3_S1x1x8x3_2_3 ((fun i => lit1 (S8x3.rowMajor i)))))

/-- the hash of them, -/
def hash (X : FVec Ideal S131072x3 .f32) : IVec S131072x16x8 32 :=
  andi (xori (xori (muli (shapeCast _ (extractStridedSlice S131072x16x8x1 ![0, 0, 0, 0] (corner X)
    slices_S131072x16x8x3_S131072x16x8x1_0_0_0_0) shapeCasts_S131072x16x8x1_S131072x16x8) (broadcastInDim S131072x16x8 ![]
    bcast_S_S131072x16x8 (constantI S_ 32 1#32))) (muli (shapeCast _ (extractStridedSlice S131072x16x8x1 ![0, 0, 0, 1] (corner X)
    slices_S131072x16x8x3_S131072x16x8x1_0_0_0_1) shapeCasts_S131072x16x8x1_S131072x16x8) (broadcastInDim S131072x16x8 ![]
    bcast_S_S131072x16x8 (constantI S_ 32 2654435761#32)))) (muli (shapeCast _ (extractStridedSlice S131072x16x8x1 ![0, 0, 0, 2] (corner X)
    slices_S131072x16x8x3_S131072x16x8x1_0_0_0_2) shapeCasts_S131072x16x8x1_S131072x16x8) (broadcastInDim S131072x16x8 ![]
    bcast_S_S131072x16x8 (constantI S_ 32 805459861#32)))) (broadcastInDim S131072x16x8 ![] bcast_S_S131072x16x8 (constantI S_ 32
    524287#32))

/-- the entry read (a negative one would count from the end) -/
def entry (X : FVec Ideal S131072x3 .f32) : IVec S131072x16x8 32 :=
  select (cmpi .slt (hash X) (broadcastInDim S131072x16x8 ![] bcast_S_S131072x16x8 (constantI S_ 32 0#32))) (addi (hash X) (broadcastInDim
    S131072x16x8 ![] bcast_S_S131072x16x8 (constantI S_ 32 524288#32))) (hash X)

/-- and the level whose table is read. -/
def level  : IVec S131072x16x8 32 :=
  broadcastInDim S131072x16x8 ![0, 1, 2] bcast_S1x16x1_S131072x16x8_0_1_2 (select (cmpi .slt (broadcastInDim S1x16x1 ![1]
    bcast_S16_S1x16x1_1 (iotaInDim S16 32 0)) (broadcastInDim S1x16x1 ![] bcast_S_S1x16x1 (constantI S_ 32 0#32))) (addi (broadcastInDim
    S1x16x1 ![1] bcast_S16_S1x16x1_1 (iotaInDim S16 32 0)) (broadcastInDim S1x16x1 ![] bcast_S_S1x16x1 (constantI S_ 32 16#32)))
    (broadcastInDim S1x16x1 ![1] bcast_S16_S1x16x1_1 (iotaInDim S16 32 0)))

/-- The corners' features. -/
def gathered (X : FVec Ideal S131072x3 .f32) (T : FVec Ideal S16x524288x2 .f32) : FVec Ideal S131072x16x8x2 .f32 :=
  Host.gather gather_S16x524288x2_S131072x16x8x2_S131072x16x8x2_3_01_n_n_01_3_112 T (concatenate S131072x16x8x2 3 [⟨S131072x16x8x1,
    (broadcastInDim S131072x16x8x1 ![0, 1, 2] bcast_S131072x16x8_S131072x16x8x1_0_1_2 level)⟩, ⟨S131072x16x8x1, (broadcastInDim
    S131072x16x8x1 ![0, 1, 2] bcast_S131072x16x8_S131072x16x8x1_0_1_2 (entry X))⟩]
    concatenates_S131072x16x8x1_S131072x16x8x1_S131072x16x8x2_d3)

/-- The encoding: the corners' features, weighted and summed. -/
def encoding (X : FVec Ideal S131072x3 .f32) (T : FVec Ideal S16x524288x2 .f32) : FVec Ideal S131072x32 .f32 :=
  shapeCast _ (Host.reduceAdd (mulf (broadcastInDim S131072x16x8x2 ![0, 1, 2, 3] bcast_S131072x16x8x1_S131072x16x8x2_0_1_2_3 (broadcastInDim
    S131072x16x8x1 ![0, 1, 2] bcast_S131072x16x8_S131072x16x8x1_0_1_2 (wgt X))) (gathered X T)) (constant S_ .f32 0x00000000#32)
    reducesTo_S131072x16x8x2_S131072x16x2_d2 h_S_) shapeCasts_S131072x16x2_S131072x32

/-- The density decoder. -/
def density16 (E : FVec Ideal S131072x32 .f32) (w1 : FVec Ideal S32x64 .f32) (b1 : FVec Ideal S64 .f32) (w2 : FVec Ideal S64x16 .f32) (b2 : FVec Ideal S16 .f32) : FVec Ideal S131072x16 .f32 :=
  addf (Host.dotGeneral dot_S131072x64_S64x16_S131072x16_1_0_0_1_n_n none (maximumf (addf (Host.dotGeneral
    dot_S131072x32_S32x64_S131072x64_1_0_0_1_n_n none E w1) (broadcastInDim S131072x64 ![0, 1] bcast_S1x64_S131072x64_0_1 (broadcastInDim
    S1x64 ![1] bcast_S64_S1x64_1 b1))) (broadcastInDim S131072x64 ![] bcast_S_S131072x64 (constant S_ .f32 0x00000000#32))) w2)
    (broadcastInDim S131072x16 ![0, 1] bcast_S1x16_S131072x16_0_1 (broadcastInDim S1x16 ![1] bcast_S16_S1x16_1 b2))

/-- The first result: column 0 of it. -/
def sigma (Y : FVec Ideal S131072x16 .f32) : FVec Ideal S131072 .f32 :=
  shapeCast _ (extractStridedSlice S131072x1 ![0, 0] Y slices_S131072x16_S131072x1_0_0) shapeCasts_S131072x1_S131072

/-- A direction and its harmonics, -/
def harmonics (V : FVec Ideal S131072x3 .f32) : FVec Ideal S131072x27 .f32 :=
  concatenate S131072x27 1 [⟨S131072x3, (V : (⟨S131072x3, .f32⟩ : BufTy).Contents (Elt Ideal))⟩, ⟨S131072x3, ((Host.sin (mulf
    (broadcastInDim S131072x3 ![] bcast_S_S131072x3 (constant S_ .f32 0x3F800000#32)) V)) : (⟨S131072x3, .f32⟩ : BufTy).Contents (Elt
    Ideal))⟩, ⟨S131072x3, ((Host.cos (mulf (broadcastInDim S131072x3 ![] bcast_S_S131072x3 (constant S_ .f32 0x3F800000#32)) V)) :
    (⟨S131072x3, .f32⟩ : BufTy).Contents (Elt Ideal))⟩, ⟨S131072x3, ((Host.sin (mulf (broadcastInDim S131072x3 ![] bcast_S_S131072x3
    (constant S_ .f32 0x40000000#32)) V)) : (⟨S131072x3, .f32⟩ : BufTy).Contents (Elt Ideal))⟩, ⟨S131072x3, ((Host.cos (mulf (broadcastInDim
    S131072x3 ![] bcast_S_S131072x3 (constant S_ .f32 0x40000000#32)) V)) : (⟨S131072x3, .f32⟩ : BufTy).Contents (Elt Ideal))⟩, ⟨S131072x3,
    ((Host.sin (mulf (broadcastInDim S131072x3 ![] bcast_S_S131072x3 (constant S_ .f32 0x40800000#32)) V)) : (⟨S131072x3, .f32⟩ :
    BufTy).Contents (Elt Ideal))⟩, ⟨S131072x3, ((Host.cos (mulf (broadcastInDim S131072x3 ![] bcast_S_S131072x3 (constant S_ .f32
    0x40800000#32)) V)) : (⟨S131072x3, .f32⟩ : BufTy).Contents (Elt Ideal))⟩, ⟨S131072x3, ((Host.sin (mulf (broadcastInDim S131072x3 ![]
    bcast_S_S131072x3 (constant S_ .f32 0x41000000#32)) V)) : (⟨S131072x3, .f32⟩ : BufTy).Contents (Elt Ideal))⟩, ⟨S131072x3, ((Host.cos
    (mulf (broadcastInDim S131072x3 ![] bcast_S_S131072x3 (constant S_ .f32 0x41000000#32)) V)) : (⟨S131072x3, .f32⟩ : BufTy).Contents (Elt
    Ideal))⟩] concatenates_S131072x3_S131072x3_S131072x3_S131072x3_S131072x3_S131072x3_S131072x3_S131072x3_S131072x3_S131072x27_d1

/-- followed by the decoder's other columns. -/
def joined (V : FVec Ideal S131072x3 .f32) (Y : FVec Ideal S131072x16 .f32) : FVec Ideal S131072x42 .f32 :=
  concatenate S131072x42 1 [⟨S131072x27, ((harmonics V))⟩, ⟨S131072x15, (extractStridedSlice S131072x15 ![0, 1] Y
    slices_S131072x16_S131072x15_0_1)⟩] concatenates_S131072x27_S131072x15_S131072x42_d1

/-- The colour decoder's first sums, -/
def mixed (V : FVec Ideal S131072x3 .f32) (Y : FVec Ideal S131072x16 .f32) (r1 : FVec Ideal S42x64 .f32) : FVec Ideal S131072x64 .f32 :=
  Host.dotGeneral dot_S131072x42_S42x64_S131072x64_1_0_0_1_n_n none (joined V Y) r1

/-- and the second result: the colour decoder. -/
def rgb (V : FVec Ideal S131072x3 .f32) (Y : FVec Ideal S131072x16 .f32) (r1 : FVec Ideal S42x64 .f32) (c1 : FVec Ideal S64 .f32) (r2 : FVec Ideal S64x64 .f32) (c2 : FVec Ideal S64 .f32) (r3 : FVec Ideal S64x3 .f32) (c3 : FVec Ideal S3 .f32) : FVec Ideal S131072x3 .f32 :=
  Host.divf (broadcastInDim S131072x3 ![] bcast_S_S131072x3 (constant S_ .f32 0x3F800000#32)) (addf (broadcastInDim S131072x3 ![]
    bcast_S_S131072x3 (constant S_ .f32 0x3F800000#32)) (Host.exp (Host.negf (addf (Host.dotGeneral
    dot_S131072x64_S64x3_S131072x3_1_0_0_1_n_n none (maximumf (addf (Host.dotGeneral dot_S131072x64_S64x64_S131072x64_1_0_0_1_n_n none
    (maximumf (addf (mixed V Y r1) (broadcastInDim S131072x64 ![0, 1] bcast_S1x64_S131072x64_0_1 (broadcastInDim S1x64 ![1]
    bcast_S64_S1x64_1 c1))) (broadcastInDim S131072x64 ![] bcast_S_S131072x64 (constant S_ .f32 0x00000000#32))) r2) (broadcastInDim
    S131072x64 ![0, 1] bcast_S1x64_S131072x64_0_1 (broadcastInDim S1x64 ![1] bcast_S64_S1x64_1 c2))) (broadcastInDim S131072x64 ![]
    bcast_S_S131072x64 (constant S_ .f32 0x00000000#32))) r3) (broadcastInDim S131072x3 ![0, 1] bcast_S1x3_S131072x3_0_1 (broadcastInDim
    S1x3 ![1] bcast_S3_S1x3_1 c3))))))

variable (m : (ℓ : Loc nD τ sig) → Buf (Elt Ideal) ℓ) (c : Dev nD)

/-- The decoder's rows of the arguments. -/
def rows : FVec Ideal S131072x16 .f32 :=
  density16 (encoding (m ((c.tc : Thread nD τ).loc main_arg0)) (m ((c.tc : Thread nD τ).loc main_arg2))) (m ((c.tc : Thread nD τ).loc main_arg3))
    (m ((c.tc : Thread nD τ).loc main_arg4)) (m ((c.tc : Thread nD τ).loc main_arg5)) (m ((c.tc : Thread nD τ).loc main_arg6))

set_option maxHeartbeats 4000000 in
theorem res_sig : res_main_v76 m c = sigma (rows m c) := rfl

set_option maxHeartbeats 4000000 in
theorem res_rgb : res_main_v123 m c = rgb (m ((c.tc : Thread nD τ).loc main_arg1)) (rows m c) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) := rfl

end Cert.ReferenceIdeal.Stage

end
-- ==== Proof.RefVal.lean ====
/-
  The reference's stages read at an index.
-/
module

public import proofs.«01_k».proof.Proof.RefStages
public import proofs.«01_k».proof.Proof.Decoder

@[expose] public section

set_option maxRecDepth 65536

noncomputable section

namespace Cert.ReferenceIdeal.Stage

open Cert.ReferenceIdeal Cert.ReferenceIdeal.Gen Idealize.ShloMosaic

variable (X V : FVec Ideal S131072x3 .f32) (T : FVec Ideal S16x524288x2 .f32)

/-! ## The encoding -/

theorem scaled_at (p : Fin 131072) (l : Fin 16) (a : Fin 3) : scaled X (ix3 p l a) = X (ix2 p a) * Ideal.ofBits FTy.f32 (lit0 (S16.rowMajor (ix1 l))) := by
  pointwise [scaled]

theorem frac_at (p : Fin 131072) (l : Fin 16) (a : Fin 3) : frac X (ix3 p l a) = scaled X (ix3 p l a) - Ideal.liftRound Int.floor (scaled X (ix3 p l a)) := by
  pointwise [frac, floored]

theorem side_at (p : Fin 131072) (l : Fin 16) (c : Fin 8) (a : Fin 3) :
    side X (ix4 p l c a) = Scalar.select (lit2 (S8x3.rowMajor (ix2 c a))) (frac X (ix3 p l a)) (1 - frac X (ix3 p l a)) := by
  pointwise [side]

theorem wgt_at (p : Fin 131072) (l : Fin 16) (c : Fin 8) :
    wgt X (ix3 p l c) = side X (ix4 p l c 0) * side X (ix4 p l c 1) * side X (ix4 p l c 2) := by
  pointwise [wgt]

theorem corner_at (p : Fin 131072) (l : Fin 16) (c : Fin 8) (a : Fin 3) :
    corner X (ix4 p l c a)
      = IntOp.addi (FloatOps.fptosi (F := Ideal) (φ := .f32) 32 (Ideal.liftRound Int.floor (scaled X (ix3 p l a)))) (lit1 (S8x3.rowMajor (ix2 c a))) := by
  pointwise [corner, floored]

theorem hash_at (p : Fin 131072) (l : Fin 16) (c : Fin 8) :
    hash X (ix3 p l c) = IntOp.andi
      (IntOp.xori (IntOp.xori (IntOp.muli (corner X (ix4 p l c 0)) 1#32) (IntOp.muli (corner X (ix4 p l c 1)) 2654435761#32))
        (IntOp.muli (corner X (ix4 p l c 2)) 805459861#32))
      524287#32 := by
  pointwise [hash]

theorem entry_at (p : Fin 131072) (l : Fin 16) (c : Fin 8) :
    entry X (ix3 p l c) = Scalar.select (IntOp.cmpi CmpIPredicate.slt (hash X (ix3 p l c)) 0#32) (IntOp.addi (hash X (ix3 p l c)) 524288#32)
      (hash X (ix3 p l c)) := by
  pointwise [entry]

theorem level_at (p : Fin 131072) (l : Fin 16) (c : Fin 8) :
    level (ix3 p l c) = Scalar.select (IntOp.cmpi CmpIPredicate.slt (BitVec.ofNat 32 l.val) 0#32) (IntOp.addi (BitVec.ofNat 32 l.val) 16#32)
      (BitVec.ofNat 32 l.val) := by
  pointwise [level]

theorem encoding_at (p : Fin 131072) (i : Fin 32) :
    encoding X T (ix2 p i) = ∑ c : Fin 8, wgt X (ix3 p ⟨i.val / 2, by omega⟩ c) * gathered X T (ix4 p ⟨i.val / 2, by omega⟩ c ⟨i.val % 2, by omega⟩) := by
  pointwise [encoding]

/-! ## The decoders -/

theorem density16_at (E : FVec Ideal S131072x32 .f32) (w1 : FVec Ideal S32x64 .f32) (b1 : FVec Ideal S64 .f32) (w2 : FVec Ideal S64x16 .f32)
    (b2 : FVec Ideal S16 .f32) (p : Fin 131072) (o : Fin 16) :
    density16 E w1 b1 w2 b2 (ix2 p o)
      = Dec.out (fun i => E (ix2 p i)) (fun i j => w1 (ix2 i j)) (fun j => b1 (ix1 j)) (fun j k => w2 (ix2 j k)) (fun k => b2 (ix1 k)) o := by
  pointwise [density16, Dec.out]

theorem sigma_at (Y : FVec Ideal S131072x16 .f32) (p : Fin 131072) : sigma Y (ix1 p) = Y (ix2 p 0) := by
  pointwise [sigma]

theorem mixed_at (Y : FVec Ideal S131072x16 .f32) (r1 : FVec Ideal S42x64 .f32) (p : Fin 131072) (o : Fin 64) :
    mixed V Y r1 (ix2 p o) = Dec.mix (fun a => V (ix2 p a)) (fun k => Y (ix2 p ⟨1 + k.val, by omega⟩)) (fun k => r1 (ix2 k o)) := by
  pointwise [mixed, joined, harmonics]
  rw [Dec.sum_cuts]
  unfold Dec.mix Dec.freq2 Dec.freq4 Dec.freq8
  iterate 9 refine congrArg₂ (· + ·) ?_ ?_
  all_goals refine Finset.sum_congr rfl fun a _ => congrArg (· * r1 (ix2 _ o)) ?_
  all_goals have ha := a.isLt
  all_goals repeat first | refine (dif_pos (by simp only; omega)).trans ?_ | refine (dif_neg (by simp only; omega)).trans ?_
  all_goals beta_reduce
  · rfl
  all_goals congr
  all_goals simp only
  all_goals omega

theorem rgb_at (Y : FVec Ideal S131072x16 .f32) (r1 : FVec Ideal S42x64 .f32) (c1 : FVec Ideal S64 .f32) (r2 : FVec Ideal S64x64 .f32)
    (c2 : FVec Ideal S64 .f32) (r3 : FVec Ideal S64x3 .f32) (c3 : FVec Ideal S3 .f32) (p : Fin 131072) (o : Fin 3) :
    rgb V Y r1 c1 r2 c2 r3 c3 (ix2 p o)
      = Dec.colour (fun j => mixed V Y r1 (ix2 p j) + c1 (ix1 j)) (fun i j => r2 (ix2 i j)) (fun j => c2 (ix1 j)) (fun i j => r3 (ix2 i j))
          (fun j => c3 (ix1 j)) o := by
  pointwise [rgb, Dec.colour]

end Cert.ReferenceIdeal.Stage

end
-- ==== Proof.EncVal.lean ====
/-
  The reference's encoding is the kernel's, for points in the unit cube.
-/
module

public import proofs.«01_k».proof.Proof.Cells
public import proofs.«01_k».proof.Proof.RefVal
public import proofs.«01_k».proof.Proof.TileI

@[expose] public section

set_option maxRecDepth 65536

noncomputable section

namespace Cert.ReferenceIdeal.Stage

open Cert.ReferenceIdeal Cert.ReferenceIdeal.Gen Cert.Enc Idealize.ShloMosaic

/-! ## The tables of constants -/

theorem lit0_at (l : Fin 16) : lit0 (S16.rowMajor (ix1 l)) = resWord l := by fin_cases l <;> rfl
theorem lit1_at (c : Fin 8) (a : Fin 3) : lit1 (S8x3.rowMajor (ix2 c a)) = if stepAt c a then 1#32 else 0#32 := by
  fin_cases c <;> fin_cases a <;> rfl
theorem lit2_at (c : Fin 8) (a : Fin 3) : lit2 (S8x3.rowMajor (ix2 c a)) = if stepAt c a then 1#1 else 0#1 := by
  fin_cases c <;> fin_cases a <;> rfl

variable (X : FVec Ideal S131072x3 .f32) (T : FVec Ideal S16x524288x2 .f32)

/-- Every coordinate lies in the unit interval. -/
def InCube : Prop := ∀ (p : Fin 131072) (a : Fin 3), 0 ≤ X (ix2 p a) ∧ X (ix2 p a) ≤ 1

/-- A level's resolution. -/
abbrev resI (l : Fin 16) : EReal := Scalar.ofBits (F := Ideal) .f32 (resWord l)

variable {X}

theorem scaled_eq (p : Fin 131072) (l : Fin 16) (a : Fin 3) : scaled X (ix3 p l a) = X (ix2 p a) * Ideal.ofBits .f32 (resWord l) := by
  rw [scaled_at, lit0_at]

/-- A coordinate's place in its cell, -/
theorem frac_eq (h : InCube X) (p : Fin 131072) (l : Fin 16) (a : Fin 3) : frac X (ix3 p l a) = fracAt (F := Ideal) (X (ix2 p a)) (resI l) := by
  obtain ⟨r, e, h0, h1⟩ := scaled_real _ l (h p a).1 (h p a).2
  rw [frac_at, scaled_eq, e, ← floor_word r h0 h1, ← e]
  rfl

/-- its cell's corners' coordinates, -/
theorem corner_eq (h : InCube X) (p : Fin 131072) (l : Fin 16) (c : Fin 8) (a : Fin 3) :
    corner X (ix4 p l c a) = IntOp.addi (cellAt (F := Ideal) (X (ix2 p a)) (resI l)) (if stepAt c a then 1#32 else 0#32) := by
  obtain ⟨r, e, h0, h1⟩ := scaled_real _ l (h p a).1 (h p a).2
  rw [corner_at, lit1_at, scaled_eq]
  congr 1
  show Ideal.fptosi 32 _ = Ideal.fptosi 32 (X (ix2 p a) * Ideal.ofBits .f32 (resWord l))
  rw [e, word_floor r h0 h1]

/-- their hash -/
theorem hash_masked (h : InCube X) (p : Fin 131072) (l : Fin 16) (c : Fin 8) :
    hash X (ix3 p l c) = IntOp.andi (hashAt (cellAt (F := Ideal) (X (ix2 p 0)) (resI l)) (cellAt (F := Ideal) (X (ix2 p 1)) (resI l))
      (cellAt (F := Ideal) (X (ix2 p 2)) (resI l)) c) 524287#32 := by
  rw [hash_at, corner_eq h, corner_eq h, corner_eq h, hash_eq]

/-- and their weights. -/
theorem side_eq (h : InCube X) (p : Fin 131072) (l : Fin 16) (c : Fin 8) (a : Fin 3) :
    side X (ix4 p l c a) = sideAt (F := Ideal) (stepAt c a) (X (ix2 p a)) (resI l) := by
  rw [side_at, lit2_at, frac_eq h]
  unfold sideAt
  cases stepAt c a
  · show 1 - _ = (oneF : Ideal .f32) - _
    rw [show (oneF : Ideal .f32) = (1 : EReal) from Ideal.ofBits_one_f32]
  · rfl

theorem wgt_eq (h : InCube X) (p : Fin 131072) (l : Fin 16) (c : Fin 8) :
    wgt X (ix3 p l c) = wgtAt (F := Ideal) (X (ix2 p 0)) (X (ix2 p 1)) (X (ix2 p 2)) (resI l) c := by
  rw [wgt_at, side_eq h, side_eq h, side_eq h]
  rfl

/-! ## The features read -/

theorem entry_eq (p : Fin 131072) (l : Fin 16) (c : Fin 8) : entry X (ix3 p l c) = hash X (ix3 p l c) := by
  rw [entry_at]
  have hl : (hash X (ix3 p l c)).toNat < 524288 := by rw [hash_at]; exact masked_lt _
  have : IntOp.cmpi CmpIPredicate.slt (hash X (ix3 p l c)) 0#32 = 0#1 := by
    show BitVec.ofBool (BitVec.slt _ _) = _
    have : BitVec.slt (hash X (ix3 p l c)) 0#32 = false := by
      rw [BitVec.slt, decide_eq_false_iff_not, BitVec.toInt_eq_toNat_of_lt (by omega)]
      simp
    rw [this]; rfl
  rw [this]
  rfl

theorem level_eq (p : Fin 131072) (l : Fin 16) (c : Fin 8) : level (ix3 p l c) = BitVec.ofNat 32 l.val := by
  rw [level_at]
  fin_cases l <;> rfl

/-- The pair of a level and an entry, read. -/
abbrev pairs (X : FVec Ideal S131072x3 .f32) : IVec S131072x16x8x2 32 :=
  concatenate S131072x16x8x2 3 [⟨S131072x16x8x1, (broadcastInDim S131072x16x8x1 ![0, 1, 2] bcast_S131072x16x8_S131072x16x8x1_0_1_2 level)⟩,
    ⟨S131072x16x8x1, (broadcastInDim S131072x16x8x1 ![0, 1, 2] bcast_S131072x16x8_S131072x16x8x1_0_1_2 (entry X))⟩]
    concatenates_S131072x16x8x1_S131072x16x8x1_S131072x16x8x2_d3

theorem pairs_0 (p : Fin 131072) (l : Fin 16) (c : Fin 8) : pairs X (ix4 p l c 0) = level (ix3 p l c) := by
  unfold pairs
  pointwise
theorem pairs_1 (p : Fin 131072) (l : Fin 16) (c : Fin 8) : pairs X (ix4 p l c 1) = entry X (ix3 p l c) := by
  unfold pairs
  pointwise

abbrev gd : GatherDims S16x524288x2 S131072x16x8x2 S131072x16x8x2 := gather_S16x524288x2_S131072x16x8x2_S131072x16x8x2_3_01_n_n_01_3_112

/-- A gather along the first two axes, read at an index. -/
theorem gather_at (P : IVec S131072x16x8x2 32) (p : Fin 131072) (l : Fin 16) (c : Fin 8) (f : Fin 2) (k : Fin 16) (e : Fin 524288)
    (hk : (P (ix4 p l c 0)).toInt.toNat = k.val) (he : (P (ix4 p l c 1)).toInt.toNat = e.val) :
    Host.gather gd T P (ix4 p l c f) = T (ix3 k e f) := by
  unfold Host.gather
  refine congrArg T (funext fun a => Fin.ext ?_)
  have hk' := k.isLt
  have he' := e.isLt
  match a with
  | ⟨0, _⟩ =>
    show gd.start (ix4 p l c f) P 0 + gd.batchCoord (ix4 p l c f) 0 + gd.offCoord (ix4 p l c f) 0 = k.val
    rw [GatherDims.batchCoord_eq_zero _ _ _ (by decide), GatherDims.offCoord_eq_zero _ _ _ (by decide)]
    unfold GatherDims.start
    rw [dif_pos (by decide)]
    rw [show gd.siIdx (ix4 p l c f) ⟨gd.startIndexMap.idxOf 0, by decide⟩ = ix4 p l c 0 from funext fun b => Fin.ext (by
      match b with
      | ⟨0, _⟩ => rfl
      | ⟨1, _⟩ => rfl
      | ⟨2, _⟩ => rfl
      | ⟨3, _⟩ => rfl), hk]
    show min k.val (16 - 1) + 0 + 0 = k.val
    omega
  | ⟨1, _⟩ =>
    show gd.start (ix4 p l c f) P 1 + gd.batchCoord (ix4 p l c f) 1 + gd.offCoord (ix4 p l c f) 1 = e.val
    rw [GatherDims.batchCoord_eq_zero _ _ _ (by decide), GatherDims.offCoord_eq_zero _ _ _ (by decide)]
    unfold GatherDims.start
    rw [dif_pos (by decide)]
    rw [show gd.siIdx (ix4 p l c f) ⟨gd.startIndexMap.idxOf 1, by decide⟩ = ix4 p l c 1 from funext fun b => Fin.ext (by
      match b with
      | ⟨0, _⟩ => rfl
      | ⟨1, _⟩ => rfl
      | ⟨2, _⟩ => rfl
      | ⟨3, _⟩ => rfl), he]
    show min e.val (524288 - 1) + 0 + 0 = e.val
    omega
  | ⟨2, _⟩ =>
    show gd.start (ix4 p l c f) P 2 + gd.batchCoord (ix4 p l c f) 2 + gd.offCoord (ix4 p l c f) 2 = f.val
    rw [GatherDims.batchCoord_eq_zero _ _ _ (by decide)]
    unfold GatherDims.start GatherDims.offCoord
    rw [dif_neg (by decide), dif_pos (by decide)]
    show 0 + 0 + f.val = f.val
    omega

theorem gathered_eq (p : Fin 131072) (l : Fin 16) (c : Fin 8) (f : Fin 2) (e : Fin 524288) (he : (hash X (ix3 p l c)).toNat = e.val) :
    gathered X T (ix4 p l c f) = T (ix3 l e f) := by
  have hl := l.isLt
  have he' := e.isLt
  refine gather_at T (pairs X) p l c f l e ?_ ?_
  · rw [pairs_0, level_eq, BitVec.toInt_eq_toNat_of_lt (by rw [BitVec.toNat_ofNat]; omega), BitVec.toNat_ofNat]; omega
  · rw [pairs_1, entry_eq, BitVec.toInt_eq_toNat_of_lt (by omega)]; omega

/-! ## The whole -/

/-- The reference's encoding is the kernel's. -/
theorem encoding_eq (h : InCube X) (X' : Cert.KernelIdeal.S3x131072.Idx → EReal) (T' : Cert.KernelIdeal.S16777216.Idx → EReal)
    (hX : ∀ a p, X' (ix2 a p) = X (ix2 p a)) (hT : ∀ (l : Fin 16) (e : Fin 524288) (f : Fin 2) (hn : 2 * (524288 * l.val + e.val) + f.val < 16777216),
      T' (ix1 ⟨2 * (524288 * l.val + e.val) + f.val, hn⟩) = T (ix3 l e f)) (p : Fin 131072) (i : Fin 32) :
    encoding X T (ix2 p i) = Cert.KernelIdeal.Enc.encAt (F := Ideal) X' T' i p := by
  rw [encoding_at, Fin.sum_univ_eight]
  unfold Cert.KernelIdeal.Enc.encAt featAt sum8
  have key : ∀ c : Fin 8, wgt X (ix3 p ⟨i.val / 2, by omega⟩ c) * gathered X T (ix4 p ⟨i.val / 2, by omega⟩ c ⟨i.val % 2, by omega⟩)
      = FloatOps.mulf (F := Ideal) (φ := .f32) (wgtAt (F := Ideal) (X' (ix2 0 p)) (X' (ix2 1 p)) (X' (ix2 2 p)) (resI ⟨_, lvlOf_lt i⟩) c)
        (byWord T' (posAt (F := Ideal) (X' (ix2 0 p)) (X' (ix2 1 p)) (X' (ix2 2 p)) (resI ⟨_, lvlOf_lt i⟩) (baseWord ⟨_, lvlOf_lt i⟩) c (i.val % 2))) := by
    intro c
    have hm := hash_masked h p ⟨i.val / 2, by omega⟩ c
    have hlt := masked_lt (hashAt (cellAt (F := Ideal) (X (ix2 p 0)) (resI ⟨i.val / 2, by omega⟩)) (cellAt (F := Ideal) (X (ix2 p 1)) (resI ⟨i.val / 2, by omega⟩))
      (cellAt (F := Ideal) (X (ix2 p 2)) (resI ⟨i.val / 2, by omega⟩)) c)
    have hp := pos_toNat _ ⟨i.val / 2, by omega⟩ (i.val % 2) (by omega) hlt
    rw [gathered_eq T p _ c _ ⟨_, hlt⟩ (by rw [hm]), wgt_eq h, hX, hX, hX]
    refine congrArg₂ (· * ·) rfl ?_
    have hi := i.isLt
    rw [← hT _ _ _ (by simp only; omega)]
    refine congrArg T' (congrArg ix1 (Fin.ext ?_))
    show _ = BitVec.toNat (posAt _ _ _ _ _ _ _) % 16777216
    unfold posAt
    rw [hp]
    simp only
    omega
  rw [key, key, key, key, key, key, key, key]
  show _ = (((((((zeroF (F := Ideal) + _ : EReal) + _) + _) + _) + _) + _) + _) + _
  rw [show (zeroF : Ideal .f32) = (0 : EReal) from Ideal.ofBits_zero_f32, zero_add]
  rfl

end Cert.ReferenceIdeal.Stage

end
-- ==== Proof.KerVal.lean ====
/-
  The kernel's two results, for points in the unit cube, are the reference's.
-/
module

public import proofs.«01_k».proof.Proof.HostVal
public import proofs.«01_k».proof.Proof.WinVal
public import proofs.«01_k».proof.Proof.EncVal

@[expose] public section

set_option maxRecDepth 65536

noncomputable section

namespace Cert.KernelIdeal.Val

open Cert.KernelIdeal Cert.KernelIdeal.Gen Cert.KernelIdeal.Run Cert.KernelIdeal.Mlp
open Cert.ReferenceIdeal.Stage (InCube encoding encoding_eq density16 density16_at sigma sigma_at mixed mixed_at rgb rgb_at)
open Idealize.ShloMosaic Idealize.ShloMosaic.TcCoe Idealize.ShloMosaic.Pointwise

variable (m : (ℓ : Loc nD τ sig) → Buf (Elt Ideal) ℓ) (d : Dev nD)

theorem out_congr {e e' : Fin 32 → EReal} {w1 w1' : Fin 32 → Fin 64 → EReal} {b1 b1' : Fin 64 → EReal} {w2 w2' : Fin 64 → Fin 16 → EReal}
    {b2 b2' : Fin 16 → EReal} (he : ∀ i, e i = e' i) (hw : w1 = w1') (hb : ∀ j, b1 j = b1' j) (hv : w2 = w2') (hc : ∀ k, b2 k = b2' k)
    (o : Fin 16) : Dec.out e w1 b1 w2 b2 o = Dec.out e' w1' b1' w2' b2' o := by
  obtain rfl := funext he; obtain rfl := funext hb; obtain rfl := funext hc; subst hw hv; rfl

theorem colour_congr {v v' : Fin 3 → EReal} {y y' : Fin 15 → EReal} {R : Fin 64 → Fin 42 → EReal} {c1 c1' : Fin 64 → EReal}
    {r2 r2' : Fin 64 → Fin 64 → EReal} {c2 c2' : Fin 64 → EReal} {r3 r3' : Fin 64 → Fin 3 → EReal} {c3 c3' : Fin 3 → EReal}
    (hv : v = v') (hy : ∀ k, y k = y' k) (h1 : ∀ j, c1 j = c1' j) (h2 : r2 = r2') (h2' : ∀ j, c2 j = c2' j) (h3 : r3 = r3')
    (h3' : ∀ j, c3 j = c3' j) (o : Fin 3) :
    Dec.colour (fun j => Dec.mix v y (R j) + c1 j) r2 c2 r3 c3 o = Dec.colour (fun j => Dec.mix v' y' (R j) + c1' j) r2' c2' r3' c3' o := by
  obtain rfl := funext hy; obtain rfl := funext h1; obtain rfl := funext h2'; obtain rfl := funext h3'; subst hv h2 h3; rfl

/-- Argument 7, by row and column. -/
def mixW (k : Fin 42) (j : Fin 64) : EReal := m (d, Proc.devRef .tc main_arg7) (ix2 k j)

/-- The density network's outputs, a row per point, as the reference has them. -/
def refRows : FVec Ideal Cert.ReferenceIdeal.S131072x16 .f32 :=
  density16 (encoding (m (d, Proc.devRef .tc main_arg0)) (m (d, Proc.devRef .tc main_arg2))) (m (d, Proc.devRef .tc main_arg3))
    (m (d, Proc.devRef .tc main_arg4)) (m (d, Proc.devRef .tc main_arg5)) (m (d, Proc.devRef .tc main_arg6))

theorem rows_eq (h : InCube (m (d, Proc.devRef .tc main_arg0))) (p : Fin 131072) (o : Fin 16) :
    rowOut (V3 m) d p o = refRows m d (ix2 p o) := by
  unfold refRows
  rw [density16_at]
  unfold rowOut
  rw [V3_v2, V3_v6, V3_v7, V3_of_arg m d (r := main_arg3) (by decide +kernel) (by decide +kernel) (by decide +kernel),
    V3_of_arg m d (r := main_arg5) (by decide +kernel) (by decide +kernel) (by decide +kernel)]
  exact out_congr (fun i => (encoding_eq _ h (Xv m d) (Tv m d) (fun a p => Xv_at m d a p) (fun l e f hn => Tv_at m d l e f hn) p i).symm)
    rfl (row64 _) rfl (row16 _) o

theorem V5_sig (h : InCube (m (d, Proc.devRef .tc main_arg0))) : V5 m d (Proc.devRef .tc main_v13) = sigma (refRows m d) := by
  have e : V4 m d (Proc.devRef .tc main_v12_0) = sigArr (V3 m) d :=
    (Pipeline.afterRegion_arr (dat (U := UU) (V3 m) (Bd (F := Ideal)) d) (V3 m d) launch1.win.arr_inj 13).trans (arr_13 (V3 m) d _)
  rw [V5_v13, e]
  funext i
  obtain ⟨p, rfl⟩ : ∃ p, i = ix1 p := ⟨i 0, by funext a; fin_cases a; rfl⟩
  rw [column]
  exact (rows_eq m d h p 0).trans (sigma_at _ p).symm

theorem V5_rgb (h : InCube (m (d, Proc.devRef .tc main_arg0))) : V5 m d (Proc.devRef .tc main_v12_1)
    = rgb (m (d, Proc.devRef .tc main_arg1)) (refRows m d) (m (d, Proc.devRef .tc main_arg7)) (m (d, Proc.devRef .tc main_arg8))
        (m (d, Proc.devRef .tc main_arg9)) (m (d, Proc.devRef .tc main_arg10)) (m (d, Proc.devRef .tc main_arg11))
        (m (d, Proc.devRef .tc main_arg12)) := by
  have e : V4 m d (Proc.devRef .tc main_v12_1) = rgbArr (V3 m) d (mixW m d) :=
    (Pipeline.afterRegion_arr (dat (U := UU) (V3 m) (Bd (F := Ideal)) d) (V3 m d) launch1.win.arr_inj 14).trans
      (arr_14 (V3 m) d _ (mixW m d) (v8_at m d) (v5_zero m d) (v5_succ m d))
  rw [V5_keep m d (by decide +kernel), e]
  funext i
  obtain ⟨p, o, rfl⟩ : ∃ p o, i = ix2 p o := ⟨i 0, i 1, by funext a; fin_cases a <;> rfl⟩
  rw [rgb_at]
  simp only [mixed_at]
  show rgbArr (V3 m) d (mixW m d) (ix2 p o) = _
  unfold rgbArr
  rw [V3_v9, V3_v10, V3_v11, V3_of_arg m d (r := main_arg1) (by decide +kernel) (by decide +kernel) (by decide +kernel),
    V3_of_arg m d (r := main_arg9) (by decide +kernel) (by decide +kernel) (by decide +kernel),
    V3_of_arg m d (r := main_arg11) (by decide +kernel) (by decide +kernel) (by decide +kernel)]
  exact colour_congr (R := fun j k => mixW m d k j) rfl (fun k => rows_eq m d h p _) (row64 _) rfl (row64 _) rfl (row3 _) o

end Cert.KernelIdeal.Val

end
-- ==== Proof.Cube.lean ====
/-
  What the precondition says: every coordinate lies between zero and one.
-/
module

public import proofs.«01_k».proof.Defs
public import proofs.«01_k».proof.Proof.EncVal
public import Idealize.ShloMosaic.Lib.Pointwise

@[expose] public section

noncomputable section

namespace Cert.Pre_in_unit_cube

open Idealize.ShloMosaic Idealize.ShloMosaic.Pointwise

/-- The side conditions its operations state. -/
theorem facts : Facts := ⟨by decide⟩

theorem bits_and : ∀ a b : BitVec 1, a &&& b = 1#1 → a = 1#1 ∧ b = 1#1 := by decide

theorem of_bit : ∀ b : Bool, BitVec.ofBool b = 1#1 → b = true := by decide

/-- The check at one coordinate. -/
theorem in_of_bit (x : EReal)
    (h : IntOp.andi (FloatOps.cmpf (F := Ideal) (φ := .f32) .oge x (Ideal.ofBits .f32 0x00000000#32))
      (FloatOps.cmpf (F := Ideal) (φ := .f32) .ole x (Ideal.ofBits .f32 0x3F800000#32)) = 1#1) : 0 ≤ x ∧ x ≤ 1 := by
  obtain ⟨h0, h1⟩ := bits_and _ _ h
  rw [Ideal.ofBits_zero_f32] at h0
  rw [Ideal.ofBits_one_f32] at h1
  exact ⟨of_decide_eq_true (of_bit _ h0), of_decide_eq_true (of_bit _ h1)⟩

theorem inCube [Facts] (X : FVec Ideal S131072x3 .f32) (x1 x2 x3 x4 x5 x6 x7 x8 x9 x10 x11 x12)
    (h : fn (F := Ideal) X x1 x2 x3 x4 x5 x6 x7 x8 x9 x10 x11 x12 = fun _ => 1#1) : Cert.ReferenceIdeal.Stage.InCube X :=
  fun p a => in_of_bit _ (congrFun h (ix2 p a))

end Cert.Pre_in_unit_cube

end
-- ==== Proof.lean ====
/-
  The claims: the kernel and its idealization run to quiescence with their arguments unchanged, and so does the reference;
  and on points of the unit cube the idealized kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frame
public import proofs.«01_k».proof.Proof.FrameI
public import proofs.«01_k».proof.Proof.KerVal
public import proofs.«01_k».proof.Proof.Cube
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel's run. -/
theorem frame_kernel : Cert.quiescent_Kernel (hKernel := Cert.Kernel.Gen.facts) := fun m ρ _ => Cert.Kernel.Run.run_frame m ρ

/-- The idealized kernel's run. -/
theorem frame_ideal : Cert.quiescent_KernelIdeal (hKernelIdeal := Cert.KernelIdeal.Gen.facts) := fun m ρ _ =>
  Cert.KernelIdeal.Run.run_frame m ρ

/-- The reference's run; it declares no semaphore. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run m ρ)

/-- The two densities and the two colours agree. -/
theorem value : Cert.algebraic_KernelIdeal_ReferenceIdeal_pre_in_unit_cube (hKernelIdeal := Cert.KernelIdeal.Gen.facts)
    (hReferenceIdeal := Cert.ReferenceIdeal.Gen.facts) (hPre_in_unit_cube := Cert.Pre_in_unit_cube.facts) := by
  intro m g m' g' hpre hargs
  refine ⟨fun c => Cert.KernelIdeal.Run.V5 m c (Proc.devRef .tc Cert.KernelIdeal.main_v13),
    fun c => Cert.KernelIdeal.Run.V5 m c (Proc.devRef .tc Cert.KernelIdeal.main_v12_1), ?_, ?_⟩
  · refine (θ_run (Cert.KernelIdeal.defs (F := Ideal)) _ _).mono (fun r h c => ?_) (Cert.KernelIdeal.Run.run_main (F := Ideal) m g)
    exact ⟨h.at m c _ (by decide +kernel), h.at m c _ (by decide +kernel), h.args m c⟩
  · refine (θ_run (Cert.ReferenceIdeal.defs (F := Ideal)) _ _).mono (fun r h c => ?_) (Cert.ReferenceIdeal.Value.run m' g')
    have hin := @Cert.Pre_in_unit_cube.inCube Cert.Pre_in_unit_cube.facts _ _ _ _ _ _ _ _ _ _ _ _ _ (hpre c)
    obtain ⟨e0, e1, e2, e3, e4, e5, e6, e7, e8, e9, e10, e11, e12⟩ := hargs c
    have er : Cert.ReferenceIdeal.Stage.rows m' c = Cert.KernelIdeal.Val.refRows m c := by
      unfold Cert.ReferenceIdeal.Stage.rows Cert.KernelIdeal.Val.refRows
      rw [e0, e2, e3, e4, e5, e6]
    refine ⟨(h c).1.trans ?_, (h c).2.1.trans ?_, (h c).2.2⟩
    · rw [Cert.ReferenceIdeal.Stage.res_sig, er]
      exact (Cert.KernelIdeal.Val.V5_sig m c hin).symm
    · rw [Cert.ReferenceIdeal.Stage.res_rgb, er, e1, e7, e8, e9, e10, e11, e12]
      exact (Cert.KernelIdeal.Val.V5_rgb m c hin).symm

theorem claim : Cert.Claim :=
  ⟨Cert.Kernel.Gen.facts, Cert.KernelIdeal.Gen.facts, Cert.ReferenceIdeal.Gen.facts, Cert.Pre_in_unit_cube.facts,
    frame_kernel, frame_ideal, fun m ρ _ => frame_ideal m ρ trivial, frame_reference, fun m ρ _ => frame_reference m ρ trivial, trivial, value⟩

end Cert.Proof

end
